-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def preserves_Kernel_KernelIdeal : Prop :=
  IdealRules.named_const.Statement Cert.KernelIdeal.κ "log2e" .f32 0x3FB8AA3B#32 (((Real.log 2)⁻¹ : ℝ) : EReal)
  ∧ IdealRules.named_const.Statement Cert.KernelIdeal.κ "mask" .f32 0xF149F2CA#32 ⊥
  ∧ IdealRules.named_const.Statement Cert.KernelIdeal.κ "scale" .f32 0x3E38AA3B#32 (((8 * (Real.log 2))⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v11_2)) (v2 : (c : Dev Cert.KernelIdeal.nD) → Buf (Elt Ideal) ((c.tc : Thread Cert.KernelIdeal.nD Cert.KernelIdeal.τ).loc Cert.KernelIdeal.main_v11_3)) (v3 : (c : Dev Cert.KernelIdeal.nD) → Buf (Elt Ideal) ((c.tc : Thread Cert.KernelIdeal.nD Cert.KernelIdeal.τ).loc Cert.KernelIdeal.main_v11_4)) (v4 : (c : Dev Cert.KernelIdeal.nD) → Buf (Elt Ideal) ((c.tc : Thread Cert.KernelIdeal.nD Cert.KernelIdeal.τ).loc Cert.KernelIdeal.main_v11_5)) (v5 : (c : Dev Cert.KernelIdeal.nD) → Buf (Elt Ideal) ((c.tc : Thread Cert.KernelIdeal.nD Cert.KernelIdeal.τ).loc Cert.KernelIdeal.main_v11_6)) (v6 : (c : Dev Cert.KernelIdeal.nD) → Buf (Elt Ideal) ((c.tc : Thread Cert.KernelIdeal.nD Cert.KernelIdeal.τ).loc Cert.KernelIdeal.main_v11_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v11_2) = v1 c
          ∧ r.2.mem ((c.tc : Thread Cert.KernelIdeal.nD Cert.KernelIdeal.τ).loc Cert.KernelIdeal.main_v11_3) = v2 c
          ∧ r.2.mem ((c.tc : Thread Cert.KernelIdeal.nD Cert.KernelIdeal.τ).loc Cert.KernelIdeal.main_v11_4) = v3 c
          ∧ r.2.mem ((c.tc : Thread Cert.KernelIdeal.nD Cert.KernelIdeal.τ).loc Cert.KernelIdeal.main_v11_5) = v4 c
          ∧ r.2.mem ((c.tc : Thread Cert.KernelIdeal.nD Cert.KernelIdeal.τ).loc Cert.KernelIdeal.main_v11_6) = v5 c
          ∧ r.2.mem ((c.tc : Thread Cert.KernelIdeal.nD Cert.KernelIdeal.τ).loc Cert.KernelIdeal.main_v11_7) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_v113) = v1 c
          ∧ r.2.mem ((c.tc : Thread Cert.ReferenceIdeal.nD Cert.ReferenceIdeal.τ).loc Cert.ReferenceIdeal.main_v114) = v2 c
          ∧ r.2.mem ((c.tc : Thread Cert.ReferenceIdeal.nD Cert.ReferenceIdeal.τ).loc Cert.ReferenceIdeal.main_v115) = v3 c
          ∧ r.2.mem ((c.tc : Thread Cert.ReferenceIdeal.nD Cert.ReferenceIdeal.τ).loc Cert.ReferenceIdeal.main_v129) = v4 c
          ∧ r.2.mem ((c.tc : Thread Cert.ReferenceIdeal.nD Cert.ReferenceIdeal.τ).loc Cert.ReferenceIdeal.main_v130) = v5 c
          ∧ r.2.mem ((c.tc : Thread Cert.ReferenceIdeal.nD Cert.ReferenceIdeal.τ).loc Cert.ReferenceIdeal.main_v131) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v33) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v52) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S2x8192x1024 : Shape := ⟨3, ![2, 8192, 1024]⟩
abbrev S32x4 : Shape := ⟨2, ![32, 4]⟩
abbrev S1024 : Shape := ⟨1, ![1024]⟩
abbrev S1024x4608 : Shape := ⟨2, ![1024, 4608]⟩
abbrev S64 : Shape := ⟨1, ![64]⟩
abbrev S128 : Shape := ⟨1, ![128]⟩
abbrev S512 : Shape := ⟨1, ![512]⟩
abbrev S_ : Shape := ⟨0, ![]⟩

class Facts : Prop where
  bcast_S_S2x8192x1024 : S_.BroadcastsInDim S2x8192x1024 (![] : Fin 0 → Fin S2x8192x1024.rank)
  reducesTo_S2x8192x1024_S_d0_1_2 : S2x8192x1024.ReducesTo [0, 1, 2] S_
  h_S_ : 0 < S_.numel
  bcast_S_S32x4 : S_.BroadcastsInDim S32x4 (![] : Fin 0 → Fin S32x4.rank)
  reducesTo_S32x4_S_d0_1 : S32x4.ReducesTo [0, 1] S_
  bcast_S_S1024 : S_.BroadcastsInDim S1024 (![] : Fin 0 → Fin S1024.rank)
  reducesTo_S1024_S_d0 : S1024.ReducesTo [0] S_
  bcast_S_S1024x4608 : S_.BroadcastsInDim S1024x4608 (![] : Fin 0 → Fin S1024x4608.rank)
  reducesTo_S1024x4608_S_d0_1 : S1024x4608.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S64 .f32) (main_arg5 : FVec F S64 .f32) (main_arg6 : FVec F S64 .f32) (main_arg7 : FVec F S64 .f32) (main_v13 : IVec S_ 1) (main_v16 : IVec S1024x4608 1) : IVec S_ 1 :=
  let main_c_5 : IVec S_ 1 := constantI S_ 1 1#1
  let main_v17 : IVec S_ 1 := (fun x v => Host.reduce IntOp.andi x v reducesTo_S1024x4608_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_v33

def fn {F : FTy → Type} [FloatOps F] (main_arg0 : FVec F S2x8192x1024 .f32) (main_arg1 : FVec F S32x4 .f32) (main_arg2 : FVec F S1024 .f32) (main_arg3 : FVec F S1024x4608 .f32) (main_arg4 : FVec F S64 .f32) (main_arg5 : FVec F S64 .f32) (main_arg6 : FVec F S64 .f32) (main_arg7 : FVec F S64 .f32) (main_arg8 : FVec F S128 .f32) (main_arg9 : FVec F S512 .f32) : IVec S_ 1 :=
  let main_v0 : FVec F S2x8192x1024 .f32 := Host.absf main_arg0
  let main_cst : FVec F S_ .f32 := constant S_ .f32 0x7F800000#32
  let main_v1 : FVec F S2x8192x1024 .f32 := broadcastInDim S2x8192x1024 ![] bcast_S_S2x8192x1024 main_cst
  let main_v2 : IVec S2x8192x1024 1 := cmpf .olt main_v0 main_v1
  let main_c : IVec S_ 1 := constantI S_ 1 1#1
  let main_v3 : IVec S_ 1 := (fun x v => Host.reduce IntOp.andi x v reducesTo_S2x8192x1024_S_d0_1_2 h_S_) main_v2 main_c
  let main_v4 : FVec F S32x4 .f32 := Host.absf main_arg1
  let main_cst_0 : FVec F S_ .f32 := constant S_ .f32 0x7F800000#32
  let main_v5 : FVec F S32x4 .f32 := broadcastInDim S32x4 ![] bcast_S_S32x4 main_cst_0
  let main_v6 : IVec S32x4 1 := cmpf .olt main_v4 main_v5
  let main_c_1 : IVec S_ 1 := constantI S_ 1 1#1
  let main_v7 : IVec S_ 1 := (fun x v => Host.reduce IntOp.andi x v reducesTo_S32x4_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x4608 .f32 := Host.absf main_arg3
  let main_cst_4 : FVec F S_ .f32 := constant S_ .f32 0x7F800000#32
  let main_v15 : FVec F S1024x4608 .f32 := broadcastInDim S1024x4608 ![] bcast_S_S1024x4608 main_cst_4
  let main_v16 : IVec S1024x4608 1 := cmpf .olt main_v14 main_v15
  fn_part1 (F := F) main_arg4 main_arg5 main_arg6 main_arg7 main_v13 main_v16
-- ==== Kernel.lean ====
abbrev S2x8192x1024 : Shape := ⟨3, ![2, 8192, 1024]⟩
abbrev S32x4 : Shape := ⟨2, ![32, 4]⟩
abbrev S1024 : Shape := ⟨1, ![1024]⟩
abbrev S1024x4608 : Shape := ⟨2, ![1024, 4608]⟩
abbrev S64 : Shape := ⟨1, ![64]⟩
abbrev S128 : Shape := ⟨1, ![128]⟩
abbrev S512 : Shape := ⟨1, ![512]⟩
abbrev S4x3x512x512 : Shape := ⟨4, ![4, 3, 512, 512]⟩
abbrev S1x1x512x512 : Shape := ⟨4, ![1, 1, 512, 512]⟩
abbrev S512x512 : Shape := ⟨2, ![512, 512]⟩
abbrev S1x1 : Shape := ⟨2, ![1, 1]⟩
abbrev S16384x1024 : Shape := ⟨2, ![16384, 1024]⟩
abbrev S1x64 : Shape := ⟨2, ![1, 64]⟩
abbrev S4x64 : Shape := ⟨2, ![4, 64]⟩
abbrev S1x128 : Shape := ⟨2, ![1, 128]⟩
abbrev S1x1024 : Shape := ⟨2, ![1, 1024]⟩
abbrev S1x512 : Shape := ⟨2, ![1, 512]⟩
abbrev S32x576x512 : Shape := ⟨3, ![32, 576, 512]⟩
abbrev S1x65536x128 : Shape := ⟨3, ![1, 65536, 128]⟩
abbrev S16384x512 : Shape := ⟨2, ![16384, 512]⟩
abbrev S512x1024 : Shape := ⟨2, ![512, 1024]⟩
abbrev S1x576x512 : Shape := ⟨3, ![1, 576, 512]⟩
abbrev S1x2048x128 : Shape := ⟨3, ![1, 2048, 128]⟩
abbrev S512x1 : Shape := ⟨2, ![512, 1]⟩
abbrev S1024x512 : Shape := ⟨2, ![1024, 512]⟩
abbrev S16x512 : Shape := ⟨2, ![16, 512]⟩
abbrev S128x512 : Shape := ⟨2, ![128, 512]⟩
abbrev S1x128x512 : Shape := ⟨3, ![1, 128, 512]⟩
abbrev S1x16x512 : Shape := ⟨3, ![1, 16, 512]⟩
abbrev S512x128 : Shape := ⟨2, ![512, 128]⟩
abbrev S1x512x128 : Shape := ⟨3, ![1, 512, 128]⟩
abbrev S1024x1024 : Shape := ⟨2, ![1024, 1024]⟩
abbrev S128x1 : Shape := ⟨2, ![128, 1]⟩
abbrev S8192x128 : Shape := ⟨2, ![8192, 128]⟩
abbrev S16x144x512 : Shape := ⟨3, ![16, 144, 512]⟩
abbrev S1x3x512x512 : Shape := ⟨4, ![1, 3, 512, 512]⟩
abbrev S2x512x128 : Shape := ⟨3, ![2, 512, 128]⟩
abbrev S2x512x512 : Shape := ⟨3, ![2, 512, 512]⟩
abbrev S2x1x512 : Shape := ⟨3, ![2, 1, 512]⟩
abbrev S2x144x512 : Shape := ⟨3, ![2, 144, 512]⟩
abbrev S1x512x512 : Shape := ⟨3, ![1, 512, 512]⟩
abbrev S1x1x512 : Shape := ⟨3, ![1, 1, 512]⟩
abbrev S1x144x512 : Shape := ⟨3, ![1, 144, 512]⟩
abbrev S144x512 : Shape := ⟨2, ![144, 512]⟩
abbrev S1 : Shape := ⟨1, ![1]⟩

abbrev nBuf : Space → Nat
  | .hbm => 31
  | .vmem => 43
  | .smem => 2
  | _ => 0

abbrev bufTy : (tb : Table) → Fin (tcTables nBuf tb) → BufTy
  | .hbm, ⟨0, _⟩ => ⟨S2x8192x1024, .f32⟩
  | .hbm, ⟨1, _⟩ => ⟨S32x4, .f32⟩
  | .hbm, ⟨2, _⟩ => ⟨S1024, .f32⟩
  | .hbm, ⟨3, _⟩ => ⟨S1024x4608, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S128, .f32⟩
  | .hbm, ⟨9, _⟩ => ⟨S512, .f32⟩
  | .hbm, ⟨10, _⟩ => ⟨S4x3x512x512, .f32⟩
  | .hbm, ⟨11, _⟩ => ⟨S16384x1024, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S4x64, .f32⟩
  | .hbm, ⟨17, _⟩ => ⟨S1024x4608, .bf16⟩
  | .hbm, ⟨18, _⟩ => ⟨S1x128, .f32⟩
  | .hbm, ⟨19, _⟩ => ⟨S1x1024, .f32⟩
  | .hbm, ⟨20, _⟩ => ⟨S1x512, .f32⟩
  | .hbm, ⟨21, _⟩ => ⟨S16384x1024, .bf16⟩
  | .hbm, ⟨22, _⟩ => ⟨S32x576x512, .bf16⟩
  | .hbm, ⟨23, _⟩ => ⟨S1x65536x128, .f32⟩
  | .hbm, ⟨24, _⟩ => ⟨S1x65536x128, .f32⟩
  | .hbm, ⟨25, _⟩ => ⟨S16384x512, .f32⟩
  | .hbm, ⟨26, _⟩ => ⟨S16384x512, .f32⟩
  | .hbm, ⟨27, _⟩ => ⟨S16384x1024, .f32⟩
  | .hbm, ⟨28, _⟩ => ⟨S16384x1024, .f32⟩
  | .hbm, ⟨29, _⟩ => ⟨S128x1, .f32⟩
  | .hbm, ⟨30, _⟩ => ⟨S16384x512, .bf16⟩
  | .local _ .vmem, ⟨0, _⟩ => ⟨S1x1x512x512, .f32⟩
  | .local _ .vmem, ⟨1, _⟩ => ⟨S1x1x512x512, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1024x4608, .bf16⟩
  | .local _ .vmem, ⟨6, _⟩ => ⟨S1x512, .f32⟩
  | .local _ .vmem, ⟨7, _⟩ => ⟨S512x1024, .bf16⟩
  | .local _ .vmem, ⟨8, _⟩ => ⟨S512x1024, .bf16⟩
  | .local _ .vmem, ⟨9, _⟩ => ⟨S1x576x512, .bf16⟩
  | .local _ .vmem, ⟨10, _⟩ => ⟨S1x576x512, .bf16⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x128, .bf16⟩
  | .local _ .vmem, ⟨24, _⟩ => ⟨S512x128, .bf16⟩
  | .local _ .vmem, ⟨25, _⟩ => ⟨S8192x128, .bf16⟩
  | .local _ .vmem, ⟨26, _⟩ => ⟨S8192x128, .bf16⟩
  | .local _ .vmem, ⟨27, _⟩ => ⟨S16x144x512, .bf16⟩
  | .local _ .vmem, ⟨28, _⟩ => ⟨S16x144x512, .bf16⟩
  | .local _ .vmem, ⟨29, _⟩ => ⟨S1x3x512x512, .f32⟩
  | .local _ .vmem, ⟨30, _⟩ => ⟨S1x3x512x512, .f32⟩
  | .local _ .vmem, ⟨31, _⟩ => ⟨S4x64, .f32⟩
  | .local _ .vmem, ⟨32, _⟩ => ⟨S128x1, .f32⟩
  | .local _ .vmem, ⟨33, _⟩ => ⟨S512x128, .bf16⟩
  | .local _ .vmem, ⟨34, _⟩ => ⟨S512x128, .bf16⟩
  | .local _ .vmem, ⟨35, _⟩ => ⟨S2x512x128, .bf16⟩
  | .local _ .vmem, ⟨36, _⟩ => ⟨S2x512x512, .f32⟩
  | .local _ .vmem, ⟨37, _⟩ => ⟨S2x1x512, .f32⟩
  | .local _ .vmem, ⟨38, _⟩ => ⟨S2x1x512, .f32⟩
  | .local _ .vmem, ⟨39, _⟩ => ⟨S2x512x512, .bf16⟩
  | .local _ .vmem, ⟨40, _⟩ => ⟨S2x1x512, .f32⟩
  | .local _ .vmem, ⟨41, _⟩ => ⟨S2x1x512, .f32⟩
  | .local _ .vmem, ⟨42, _⟩ => ⟨S2x144x512, .f32⟩
  | .local _ .smem, ⟨0, _⟩ => ⟨S32x4, .f32⟩
  | .local _ .smem, ⟨1, _⟩ => ⟨S32x4, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v11_3 : Ref sig .tc := ⟨.hbm, 24, rfl⟩
abbrev main_v11_4 : Ref sig .tc := ⟨.hbm, 25, rfl⟩
abbrev main_v11_5 : Ref sig .tc := ⟨.hbm, 26, rfl⟩
abbrev main_v11_6 : Ref sig .tc := ⟨.hbm, 27, rfl⟩
abbrev main_v11_7 : Ref sig .tc := ⟨.hbm, 28, rfl⟩
abbrev main_v12 : Ref sig .tc := ⟨.hbm, 29, rfl⟩
abbrev main_v13 : Ref sig .tc := ⟨.hbm, 30, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc1_stg11_0 : Ref sig .tc := ⟨.vmem, 21, rfl⟩
abbrev cc1_stg11_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg5_0 : Ref sig .tc := ⟨.vmem, 31, rfl⟩
abbrev cc2_stg6_0 : Ref sig .tc := ⟨.vmem, 32, rfl⟩
abbrev cc2_stg7_0 : Ref sig .tc := ⟨.vmem, 33, rfl⟩
abbrev cc2_stg7_1 : Ref sig .tc := ⟨.vmem, 34, rfl⟩
abbrev cc2_scratch0 : Ref sig .tc := ⟨.vmem, 35, rfl⟩
abbrev cc2_scratch1 : Ref sig .tc := ⟨.vmem, 36, rfl⟩
abbrev cc2_scratch2 : Ref sig .tc := ⟨.vmem, 37, rfl⟩
abbrev cc2_scratch3 : Ref sig .tc := ⟨.vmem, 38, rfl⟩
abbrev cc2_scratch4 : Ref sig .tc := ⟨.vmem, 39, rfl⟩
abbrev cc2_scratch5 : Ref sig .tc := ⟨.vmem, 40, rfl⟩
abbrev cc2_scratch6 : Ref sig .tc := ⟨.vmem, 41, rfl⟩
abbrev cc2_scratch7 : Ref sig .tc := ⟨.vmem, 42, rfl⟩
abbrev cc0_stg0_0 : Ref sig .tc := ⟨.smem, 0, rfl⟩
abbrev cc2_stg4_0 : Ref sig .tc := ⟨.smem, 1, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9
abbrev cc1_sem5_0 : DmaSem sig := 10
abbrev cc1_sem5_1 : DmaSem sig := 11
abbrev cc1_sem6_0 : DmaSem sig := 12
abbrev cc1_sem6_1 : DmaSem sig := 13
abbrev cc1_sem7_0 : DmaSem sig := 14
abbrev cc1_sem7_1 : DmaSem sig := 15
abbrev cc1_sem8_0 : DmaSem sig := 16
abbrev cc1_sem8_1 : DmaSem sig := 17
abbrev cc1_sem9_0 : DmaSem sig := 18
abbrev cc1_sem9_1 : DmaSem sig := 19
abbrev cc1_sem10_0 : DmaSem sig := 20
abbrev cc1_sem10_1 : DmaSem sig := 21
abbrev cc1_sem11_0 : DmaSem sig := 22
abbrev cc1_sem11_1 : DmaSem sig := 23
abbrev cc2_sem0_0 : DmaSem sig := 24
abbrev cc2_sem0_1 : DmaSem sig := 25
abbrev cc2_sem1_0 : DmaSem sig := 26
abbrev cc2_sem1_1 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36

abbrev nD : Nat := 1
abbrev τ : Topo := Topo.v7x

variable {F : FTy → Type} [FloatOps F]

abbrev grid0 : Pipeline.Grid := ⟨2, ![4, 3], ![false, false]⟩

def k0_off1 (i : grid0.Coords) : Fin 2 → Nat :=
  let c0 : Index := 0#32
  let arg0 : BitVec 32 := BitVec.ofNat 32 (i 0).val
  let v29 : Index := Scalar.indexCast arg0
  ![0, v29.toNat]
def k0_off2 (i : grid0.Coords) : Fin 2 → Nat :=
  let c1 : Index := 1#32
  let arg0 : BitVec 32 := BitVec.ofNat 32 (i 0).val
  let v35 : Index := Scalar.indexCast arg0
  ![1, v35.toNat]
def k0_off3 (i : grid0.Coords) : Fin 2 → Nat :=
  let c2 : Index := 2#32
  let arg0 : BitVec 32 := BitVec.ofNat 32 (i 0).val
  let v41 : Index := Scalar.indexCast arg0
  ![2, v41.toNat]
def k0_off4 (i : grid0.Coords) : Fin 2 → Nat :=
  let c3 : Index := 3#32
  let arg0 : BitVec 32 := BitVec.ofNat 32 (i 0).val
  let v47 : Index := Scalar.indexCast arg0
  ![3, v47.toNat]
def k0_off5 (i : grid0.Coords) : Fin 2 → Nat :=
  let c4 : Index := 4#32
  let arg0 : BitVec 32 := BitVec.ofNat 32 (i 0).val
  let v53 : Index := Scalar.indexCast arg0
  ![4, v53.toNat]
def k0_off6 (i : grid0.Coords) : Fin 2 → Nat :=
  let c5 : Index := 5#32
  let arg0 : BitVec 32 := BitVec.ofNat 32 (i 0).val
  let v59 : Index := Scalar.indexCast arg0
  ![5, v59.toNat]
def k0_off7 (i : grid0.Coords) : Fin 2 → Nat :=
  let c6 : Index := 6#32
  let arg0 : BitVec 32 := BitVec.ofNat 32 (i 0).val
  let v65 : Index := Scalar.indexCast arg0
  ![6, v65.toNat]
def k0_off8 (i : grid0.Coords) : Fin 2 → Nat :=
  let c7 : Index := 7#32
  let arg0 : BitVec 32 := BitVec.ofNat 32 (i 0).val
  let v71 : Index := Scalar.indexCast arg0
  ![7, v71.toNat]
def k0_off9 (i : grid0.Coords) : Fin 2 → Nat :=
  let c8 : Index := 8#32
  let arg0 : BitVec 32 := BitVec.ofNat 32 (i 0).val
  let v77 : Index := Scalar.indexCast arg0
  ![8, v77.toNat]
def k0_off10 (i : grid0.Coords) : Fin 2 → Nat :=
  let c9 : Index := 9#32
  let arg0 : BitVec 32 := BitVec.ofNat 32 (i 0).val
  let v83 : Index := Scalar.indexCast arg0
  ![9, v83.toNat]
def k0_off11 (i : grid0.Coords) : Fin 2 → Nat :=
  let c10 : Index := 10#32
  let arg0 : BitVec 32 := BitVec.ofNat 32 (i 0).val
  let v89 : Index := Scalar.indexCast arg0
  ![10, v89.toNat]
def k0_off12 (i : grid0.Coords) : Fin 2 → Nat :=
  let c11 : Index := 11#32
  let arg0 : BitVec 32 := BitVec.ofNat 32 (i 0).val
  let v95 : Index := Scalar.indexCast arg0
  ![11, v95.toNat]
def k0_off13 (i : grid0.Coords) : Fin 2 → Nat :=
  let c12 : Index := 12#32
  let arg0 : BitVec 32 := BitVec.ofNat 32 (i 0).val
  let v101 : Index := Scalar.indexCast arg0
  ![12, v101.toNat]
def k0_off14 (i : grid0.Coords) : Fin 2 → Nat :=
  let c13 : Index := 13#32
  let arg0 : BitVec 32 := BitVec.ofNat 32 (i 0).val
  let v107 : Index := Scalar.indexCast arg0
  ![13, v107.toNat]
def k0_off15 (i : grid0.Coords) : Fin 2 → Nat :=
  let c14 : Index := 14#32
  let arg0 : BitVec 32 := BitVec.ofNat 32 (i 0).val
  let v113 : Index := Scalar.indexCast arg0
  ![14, v113.toNat]
def k0_off16 (i : grid0.Coords) : Fin 2 → Nat :=
  let c15 : Index := 15#32
  let arg0 : BitVec 32 := BitVec.ofNat 32 (i 0).val
  let v119 : Index := Scalar.indexCast arg0
  ![15, v119.toNat]
def k0_off17 (i : grid0.Coords) : Fin 2 → Nat :=
  let c16 : Index := 16#32
  let arg0 : BitVec 32 := BitVec.ofNat 32 (i 0).val
  let v125 : Index := Scalar.indexCast arg0
  ![16, v125.toNat]
def k0_off18 (i : grid0.Coords) : Fin 2 → Nat :=
  let c17 : Index := 17#32
  let arg0 : BitVec 32 := BitVec.ofNat 32 (i 0).val
  let v131 : Index := Scalar.indexCast arg0
  ![17, v131.toNat]
def k0_off19 (i : grid0.Coords) : Fin 2 → Nat :=
  let c18 : Index := 18#32
  let arg0 : BitVec 32 := BitVec.ofNat 32 (i 0).val
  let v137 : Index := Scalar.indexCast arg0
  ![18, v137.toNat]
def k0_off20 (i : grid0.Coords) : Fin 2 → Nat :=
  let c19 : Index := 19#32
  let arg0 : BitVec 32 := BitVec.ofNat 32 (i 0).val
  let v143 : Index := Scalar.indexCast arg0
  ![19, v143.toNat]
def k0_off21 (i : grid0.Coords) : Fin 2 → Nat :=
  let c20 : Index := 20#32
  let arg0 : BitVec 32 := BitVec.ofNat 32 (i 0).val
  let v149 : Index := Scalar.indexCast arg0
  ![20, v149.toNat]
def k0_off22 (i : grid0.Coords) : Fin 2 → Nat :=
  let c21 : Index := 21#32
  let arg0 : BitVec 32 := BitVec.ofNat 32 (i 0).val
  let v155 : Index := Scalar.indexCast arg0
  ![21, v155.toNat]
def k0_off23 (i : grid0.Coords) : Fin 2 → Nat :=
  let c22 : Index := 22#32
  let arg0 : BitVec 32 := BitVec.ofNat 32 (i 0).val
  let v161 : Index := Scalar.indexCast arg0
  ![22, v161.toNat]
def k0_off24 (i : grid0.Coords) : Fin 2 → Nat :=
  let c23 : Index := 23#32
  let arg0 : BitVec 32 := BitVec.ofNat 32 (i 0).val
  let v167 : Index := Scalar.indexCast arg0
  ![23, v167.toNat]
def k0_off25 (i : grid0.Coords) : Fin 2 → Nat :=
  let c24 : Index := 24#32
  let arg0 : BitVec 32 := BitVec.ofNat 32 (i 0).val
  let v173 : Index := Scalar.indexCast arg0
  ![24, v173.toNat]
def k0_off26 (i : grid0.Coords) : Fin 2 → Nat :=
  let c25 : Index := 25#32
  let arg0 : BitVec 32 := BitVec.ofNat 32 (i 0).val
  let v179 : Index := Scalar.indexCast arg0
  ![25, v179.toNat]
def k0_off27 (i : grid0.Coords) : Fin 2 → Nat :=
  let c26 : Index := 26#32
  let arg0 : BitVec 32 := BitVec.ofNat 32 (i 0).val
  let v185 : Index := Scalar.indexCast arg0
  ![26, v185.toNat]
def k0_off28 (i : grid0.Coords) : Fin 2 → Nat :=
  let c27 : Index := 27#32
  let arg0 : BitVec 32 := BitVec.ofNat 32 (i 0).val
  let v191 : Index := Scalar.indexCast arg0
  ![27, v191.toNat]
def k0_off29 (i : grid0.Coords) : Fin 2 → Nat :=
  let c28 : Index := 28#32
  let arg0 : BitVec 32 := BitVec.ofNat 32 (i 0).val
  let v197 : Index := Scalar.indexCast arg0
  ![28, v197.toNat]
def k0_off30 (i : grid0.Coords) : Fin 2 → Nat :=
  let c29 : Index := 29#32
  let arg0 : BitVec 32 := BitVec.ofNat 32 (i 0).val
  let v203 : Index := Scalar.indexCast arg0
  ![29, v203.toNat]
def k0_off31 (i : grid0.Coords) : Fin 2 → Nat :=
  let c30 : Index := 30#32
  let arg0 : BitVec 32 := BitVec.ofNat 32 (i 0).val
  let v209 : Index := Scalar.indexCast arg0
  ![30, v209.toNat]
def k0_off32 (i : grid0.Coords) : Fin 2 → Nat :=
  let c31 : Index := 31#32
  let arg0 : BitVec 32 := BitVec.ofNat 32 (i 0).val
  let v215 : Index := Scalar.indexCast arg0
  ![31, v215.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S32x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x4608 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x576x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x2048x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x2048x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S512x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S512x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev grid2 : Pipeline.Grid := ⟨3, ![2, 4, 16], ![false, false, false]⟩

def k2_off1 (i : grid2.Coords) : Fin 2 → Nat :=
  let c31 : Index := 31#32
  let arg1 : BitVec 32 := BitVec.ofNat 32 (i 1).val
  let v25 : Index := Scalar.indexCast arg1
  ![31, v25.toNat]
def k2_mult1 : BitVec 32 :=
  let c0_i32 : BitVec 32 := 0#32
  c0_i32
def k2_off2 (i : grid2.Coords) : Fin 4 → Nat :=
  let c0_23 : Index := 0#32
  let arg2 : BitVec 32 := BitVec.ofNat 32 (i 2).val
  let c0_i32_22 : BitVec 32 := 0#32
  let v35 : BitVec 32 := Scalar.subi arg2 c0_i32_22
  let c2_i32 : BitVec 32 := 2#32
  let v36 : BitVec 32 := Scalar.minsi v35 c2_i32
  let v37 : Index := Scalar.indexCast v36
  let c0_24 : Index := 0#32
  let c0_25 : Index := 0#32
  ![0, v37.toNat, 0, 0]
def k2_mult2 : BitVec 32 :=
  let c0_i32_37 : BitVec 32 := 0#32
  c0_i32_37
@[reducible] def k2_t1_loop (i : grid2.Coords) : Scf.Loop 32 :=
  let c0_i32_83 : BitVec 32 := 0#32
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let v107 : BitVec 32 := Scalar.subi v106 c0_i32_83
  let c1_i32 : BitVec 32 := 1#32
  let v109 : BitVec 32 := Scalar.divsi v107 c1_i32
  let v110 : BitVec 32 := Scalar.muli v109 c1_i32
  let v111 : BitVec 32 := Scalar.addi c0_i32_83 v110
  let c1_i32_84 : BitVec 32 := 1#32
  ⟨c0_i32_83, v111, c1_i32_84⟩
def k2_off3 (i : grid2.Coords) (k2_t1 : Fin (k2_t1_loop i).trips) : Fin 3 → Nat :=
  let c0_i32_83 : BitVec 32 := 0#32
  let c1_i32_84 : BitVec 32 := 1#32
  let arg19 : BitVec 32 := Scf.iv c0_i32_83 c1_i32_84 k2_t1
  let v231 : Index := Scalar.indexCast arg19
  let c0_166 : Index := 0#32
  let c0_167 : Index := 0#32
  ![v231.toNat, 0, 0]
def k2_mult3 (i : grid2.Coords) (k2_t1 : Fin (k2_t1_loop i).trips) : BitVec 32 :=
  let c0_i32_83 : BitVec 32 := 0#32
  let c1_i32_84 : BitVec 32 := 1#32
  let arg19 : BitVec 32 := Scf.iv c0_i32_83 c1_i32_84 k2_t1
  let c1_i32_175 : BitVec 32 := 1#32
  let v241 : BitVec 32 := Scalar.addi arg19 c1_i32_175
  let c512_i32 : BitVec 32 := 512#32
  let v242 : BitVec 32 := Scalar.muli v241 c512_i32
  v242
def k2_off4 (i : grid2.Coords) (k2_t1 : Fin (k2_t1_loop i).trips) : Fin 2 → Nat :=
  let c0_i32_83 : BitVec 32 := 0#32
  let c1_i32_84 : BitVec 32 := 1#32
  let arg19 : BitVec 32 := Scf.iv c0_i32_83 c1_i32_84 k2_t1
  let c1_i32_175 : BitVec 32 := 1#32
  let v241 : BitVec 32 := Scalar.addi arg19 c1_i32_175
  let c512_i32 : BitVec 32 := 512#32
  let v242 : BitVec 32 := Scalar.muli v241 c512_i32
  let v243 : BitVec 32 := v242
  let v244 : Index := Scalar.indexCast v243
  let c0_176 : Index := 0#32
  ![v244.toNat, 0]
def k2_mult4 (i : grid2.Coords) (k2_t1 : Fin (k2_t1_loop i).trips) : BitVec 32 :=
  let c0_i32_83 : BitVec 32 := 0#32
  let c1_i32_84 : BitVec 32 := 1#32
  let arg19 : BitVec 32 := Scf.iv c0_i32_83 c1_i32_84 k2_t1
  let c1_i32_227 : BitVec 32 := 1#32
  let v304 : BitVec 32 := Scalar.addi arg19 c1_i32_227
  let c512_i32_228 : BitVec 32 := 512#32
  let v305 : BitVec 32 := Scalar.muli v304 c512_i32_228
  v305
@[reducible] def k2_t2_loop (i : grid2.Coords) : Scf.Loop 32 :=
  let c0_i32_83 : BitVec 32 := 0#32
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let v107 : BitVec 32 := Scalar.subi v106 c0_i32_83
  let c1_i32 : BitVec 32 := 1#32
  let v109 : BitVec 32 := Scalar.divsi v107 c1_i32
  let v110 : BitVec 32 := Scalar.muli v109 c1_i32
  let v111 : BitVec 32 := Scalar.addi c0_i32_83 v110
  let v108 : BitVec 32 := Scalar.addi c0_i32_83 v107
  let c1_i32_85 : BitVec 32 := 1#32
  ⟨v111, v108, c1_i32_85⟩
def k2_off5 (i : grid2.Coords) (k2_t2 : Fin (k2_t2_loop i).trips) : Fin 3 → Nat :=
  let c0_i32_83 : BitVec 32 := 0#32
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let v107 : BitVec 32 := Scalar.subi v106 c0_i32_83
  let c1_i32 : BitVec 32 := 1#32
  let v109 : BitVec 32 := Scalar.divsi v107 c1_i32
  let v110 : BitVec 32 := Scalar.muli v109 c1_i32
  let v111 : BitVec 32 := Scalar.addi c0_i32_83 v110
  let c1_i32_85 : BitVec 32 := 1#32
  let arg19 : BitVec 32 := Scf.iv v111 c1_i32_85 k2_t2
  let v231 : Index := Scalar.indexCast arg19
  let c0_166 : Index := 0#32
  let c0_167 : Index := 0#32
  ![v231.toNat, 0, 0]
def k2_mult5 (i : grid2.Coords) (k2_t2 : Fin (k2_t2_loop i).trips) : BitVec 32 :=
  let c0_i32_83 : BitVec 32 := 0#32
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let v107 : BitVec 32 := Scalar.subi v106 c0_i32_83
  let c1_i32 : BitVec 32 := 1#32
  let v109 : BitVec 32 := Scalar.divsi v107 c1_i32
  let v110 : BitVec 32 := Scalar.muli v109 c1_i32
  let v111 : BitVec 32 := Scalar.addi c0_i32_83 v110
  let c1_i32_85 : BitVec 32 := 1#32
  let arg19 : BitVec 32 := Scf.iv v111 c1_i32_85 k2_t2
  let c1_i32_175 : BitVec 32 := 1#32
  let v241 : BitVec 32 := Scalar.addi arg19 c1_i32_175
  let c512_i32 : BitVec 32 := 512#32
  let v242 : BitVec 32 := Scalar.muli v241 c512_i32
  v242
def k2_off6 (i : grid2.Coords) (k2_t2 : Fin (k2_t2_loop i).trips) : Fin 2 → Nat :=
  let c0_i32_83 : BitVec 32 := 0#32
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let v107 : BitVec 32 := Scalar.subi v106 c0_i32_83
  let c1_i32 : BitVec 32 := 1#32
  let v109 : BitVec 32 := Scalar.divsi v107 c1_i32
  let v110 : BitVec 32 := Scalar.muli v109 c1_i32
  let v111 : BitVec 32 := Scalar.addi c0_i32_83 v110
  let c1_i32_85 : BitVec 32 := 1#32
  let arg19 : BitVec 32 := Scf.iv v111 c1_i32_85 k2_t2
  let c1_i32_175 : BitVec 32 := 1#32
  let v241 : BitVec 32 := Scalar.addi arg19 c1_i32_175
  let c512_i32 : BitVec 32 := 512#32
  let v242 : BitVec 32 := Scalar.muli v241 c512_i32
  let v243 : BitVec 32 := v242
  let v244 : Index := Scalar.indexCast v243
  let c0_176 : Index := 0#32
  ![v244.toNat, 0]
def k2_mult6 (i : grid2.Coords) (k2_t2 : Fin (k2_t2_loop i).trips) : BitVec 32 :=
  let c0_i32_83 : BitVec 32 := 0#32
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let v107 : BitVec 32 := Scalar.subi v106 c0_i32_83
  let c1_i32 : BitVec 32 := 1#32
  let v109 : BitVec 32 := Scalar.divsi v107 c1_i32
  let v110 : BitVec 32 := Scalar.muli v109 c1_i32
  let v111 : BitVec 32 := Scalar.addi c0_i32_83 v110
  let c1_i32_85 : BitVec 32 := 1#32
  let arg19 : BitVec 32 := Scf.iv v111 c1_i32_85 k2_t2
  let c1_i32_227 : BitVec 32 := 1#32
  let v304 : BitVec 32 := Scalar.addi arg19 c1_i32_227
  let c512_i32_228 : BitVec 32 := 512#32
  let v305 : BitVec 32 := Scalar.muli v304 c512_i32_228
  v305
@[reducible] def k2_t3_loop (i : grid2.Coords) : Scf.Loop 32 :=
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let v112 : BitVec 32 := Scalar.subi arg2 v106
  let c1_i32_87 : BitVec 32 := 1#32
  let v114 : BitVec 32 := Scalar.divsi v112 c1_i32_87
  let v115 : BitVec 32 := Scalar.muli v114 c1_i32_87
  let v116 : BitVec 32 := Scalar.addi v106 v115
  let c1_i32_88 : BitVec 32 := 1#32
  ⟨v106, v116, c1_i32_88⟩
def k2_off7 (i : grid2.Coords) (k2_t3 : Fin (k2_t3_loop i).trips) : Fin 3 → Nat :=
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let c1_i32_88 : BitVec 32 := 1#32
  let arg19 : BitVec 32 := Scf.iv v106 c1_i32_88 k2_t3
  let v231 : Index := Scalar.indexCast arg19
  let c0_166 : Index := 0#32
  let c0_167 : Index := 0#32
  ![v231.toNat, 0, 0]
def k2_mult7 (i : grid2.Coords) (k2_t3 : Fin (k2_t3_loop i).trips) : BitVec 32 :=
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let c1_i32_88 : BitVec 32 := 1#32
  let arg19 : BitVec 32 := Scf.iv v106 c1_i32_88 k2_t3
  let c1_i32_175 : BitVec 32 := 1#32
  let v241 : BitVec 32 := Scalar.addi arg19 c1_i32_175
  let c512_i32 : BitVec 32 := 512#32
  let v242 : BitVec 32 := Scalar.muli v241 c512_i32
  v242
def k2_off8 (i : grid2.Coords) (k2_t3 : Fin (k2_t3_loop i).trips) : Fin 2 → Nat :=
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let c1_i32_88 : BitVec 32 := 1#32
  let arg19 : BitVec 32 := Scf.iv v106 c1_i32_88 k2_t3
  let c1_i32_175 : BitVec 32 := 1#32
  let v241 : BitVec 32 := Scalar.addi arg19 c1_i32_175
  let c512_i32 : BitVec 32 := 512#32
  let v242 : BitVec 32 := Scalar.muli v241 c512_i32
  let v243 : BitVec 32 := v242
  let v244 : Index := Scalar.indexCast v243
  let c0_176 : Index := 0#32
  ![v244.toNat, 0]
def k2_off9 (i : grid2.Coords) (k2_t3 : Fin (k2_t3_loop i).trips) : Fin 4 → Nat :=
  let c0_182 : Index := 0#32
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let c1_i32_88 : BitVec 32 := 1#32
  let arg19 : BitVec 32 := Scf.iv v106 c1_i32_88 k2_t3
  let c1_i32_175 : BitVec 32 := 1#32
  let v241 : BitVec 32 := Scalar.addi arg19 c1_i32_175
  let v250 : BitVec 32 := Scalar.subi arg2 v241
  let c2_i32_181 : BitVec 32 := 2#32
  let v251 : BitVec 32 := Scalar.minsi v250 c2_i32_181
  let v252 : Index := Scalar.indexCast v251
  let c0_183 : Index := 0#32
  let c0_184 : Index := 0#32
  ![0, v252.toNat, 0, 0]
def k2_mult8 (i : grid2.Coords) (k2_t3 : Fin (k2_t3_loop i).trips) : BitVec 32 :=
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let c1_i32_88 : BitVec 32 := 1#32
  let arg19 : BitVec 32 := Scf.iv v106 c1_i32_88 k2_t3
  let c1_i32_232 : BitVec 32 := 1#32
  let v310 : BitVec 32 := Scalar.addi arg19 c1_i32_232
  let c512_i32_233 : BitVec 32 := 512#32
  let v311 : BitVec 32 := Scalar.muli v310 c512_i32_233
  v311
@[reducible] def k2_t4_loop (i : grid2.Coords) : Scf.Loop 32 :=
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let v112 : BitVec 32 := Scalar.subi arg2 v106
  let c1_i32_87 : BitVec 32 := 1#32
  let v114 : BitVec 32 := Scalar.divsi v112 c1_i32_87
  let v115 : BitVec 32 := Scalar.muli v114 c1_i32_87
  let v116 : BitVec 32 := Scalar.addi v106 v115
  let v113 : BitVec 32 := Scalar.addi v106 v112
  let c1_i32_89 : BitVec 32 := 1#32
  ⟨v116, v113, c1_i32_89⟩
def k2_off10 (i : grid2.Coords) (k2_t4 : Fin (k2_t4_loop i).trips) : Fin 3 → Nat :=
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let v112 : BitVec 32 := Scalar.subi arg2 v106
  let c1_i32_87 : BitVec 32 := 1#32
  let v114 : BitVec 32 := Scalar.divsi v112 c1_i32_87
  let v115 : BitVec 32 := Scalar.muli v114 c1_i32_87
  let v116 : BitVec 32 := Scalar.addi v106 v115
  let c1_i32_89 : BitVec 32 := 1#32
  let arg19 : BitVec 32 := Scf.iv v116 c1_i32_89 k2_t4
  let v231 : Index := Scalar.indexCast arg19
  let c0_166 : Index := 0#32
  let c0_167 : Index := 0#32
  ![v231.toNat, 0, 0]
def k2_mult9 (i : grid2.Coords) (k2_t4 : Fin (k2_t4_loop i).trips) : BitVec 32 :=
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let v112 : BitVec 32 := Scalar.subi arg2 v106
  let c1_i32_87 : BitVec 32 := 1#32
  let v114 : BitVec 32 := Scalar.divsi v112 c1_i32_87
  let v115 : BitVec 32 := Scalar.muli v114 c1_i32_87
  let v116 : BitVec 32 := Scalar.addi v106 v115
  let c1_i32_89 : BitVec 32 := 1#32
  let arg19 : BitVec 32 := Scf.iv v116 c1_i32_89 k2_t4
  let c1_i32_175 : BitVec 32 := 1#32
  let v241 : BitVec 32 := Scalar.addi arg19 c1_i32_175
  let c512_i32 : BitVec 32 := 512#32
  let v242 : BitVec 32 := Scalar.muli v241 c512_i32
  v242
def k2_off11 (i : grid2.Coords) (k2_t4 : Fin (k2_t4_loop i).trips) : Fin 2 → Nat :=
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let v112 : BitVec 32 := Scalar.subi arg2 v106
  let c1_i32_87 : BitVec 32 := 1#32
  let v114 : BitVec 32 := Scalar.divsi v112 c1_i32_87
  let v115 : BitVec 32 := Scalar.muli v114 c1_i32_87
  let v116 : BitVec 32 := Scalar.addi v106 v115
  let c1_i32_89 : BitVec 32 := 1#32
  let arg19 : BitVec 32 := Scf.iv v116 c1_i32_89 k2_t4
  let c1_i32_175 : BitVec 32 := 1#32
  let v241 : BitVec 32 := Scalar.addi arg19 c1_i32_175
  let c512_i32 : BitVec 32 := 512#32
  let v242 : BitVec 32 := Scalar.muli v241 c512_i32
  let v243 : BitVec 32 := v242
  let v244 : Index := Scalar.indexCast v243
  let c0_176 : Index := 0#32
  ![v244.toNat, 0]
def k2_off12 (i : grid2.Coords) (k2_t4 : Fin (k2_t4_loop i).trips) : Fin 4 → Nat :=
  let c0_182 : Index := 0#32
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let v112 : BitVec 32 := Scalar.subi arg2 v106
  let c1_i32_87 : BitVec 32 := 1#32
  let v114 : BitVec 32 := Scalar.divsi v112 c1_i32_87
  let v115 : BitVec 32 := Scalar.muli v114 c1_i32_87
  let v116 : BitVec 32 := Scalar.addi v106 v115
  let c1_i32_89 : BitVec 32 := 1#32
  let arg19 : BitVec 32 := Scf.iv v116 c1_i32_89 k2_t4
  let c1_i32_175 : BitVec 32 := 1#32
  let v241 : BitVec 32 := Scalar.addi arg19 c1_i32_175
  let v250 : BitVec 32 := Scalar.subi arg2 v241
  let c2_i32_181 : BitVec 32 := 2#32
  let v251 : BitVec 32 := Scalar.minsi v250 c2_i32_181
  let v252 : Index := Scalar.indexCast v251
  let c0_183 : Index := 0#32
  let c0_184 : Index := 0#32
  ![0, v252.toNat, 0, 0]
def k2_mult10 (i : grid2.Coords) (k2_t4 : Fin (k2_t4_loop i).trips) : BitVec 32 :=
  let arg2 : BitVec 32 := BitVec.ofNat 32 (i 2).val
  let c2_i32_80 : BitVec 32 := 2#32
  let v105 : BitVec 32 := Scalar.subi arg2 c2_i32_80
  let c0_i32_81 : BitVec 32 := 0#32
  let v106 : BitVec 32 := Scalar.maxsi v105 c0_i32_81
  let v112 : BitVec 32 := Scalar.subi arg2 v106
  let c1_i32_87 : BitVec 32 := 1#32
  let v114 : BitVec 32 := Scalar.divsi v112 c1_i32_87
  let v115 : BitVec 32 := Scalar.muli v114 c1_i32_87
  let v116 : BitVec 32 := Scalar.addi v106 v115
  let c1_i32_89 : BitVec 32 := 1#32
  let arg19 : BitVec 32 := Scf.iv v116 c1_i32_89 k2_t4
  let c1_i32_232 : BitVec 32 := 1#32
  let v310 : BitVec 32 := Scalar.addi arg19 c1_i32_232
  let c512_i32_233 : BitVec 32 := 512#32
  let v311 : BitVec 32 := Scalar.muli v310 c512_i32_233
  v311
def k2_off13 (i : grid2.Coords) : Fin 3 → Nat :=
  let arg2 : BitVec 32 := BitVec.ofNat 32 (i 2).val
  let v148 : Index := Scalar.indexCast arg2
  let c0_117 : Index := 0#32
  let c0_118 : Index := 0#32
  ![v148.toNat, 0, 0]
def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc2_transform_2 (i : grid2.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc2_transform_3 (i : grid2.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage2_0 : Fin 2 → Memref sig .tc .vmem S512x128 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true, true]

abbrev stage2_1 : Fin 2 → Memref sig .tc .vmem S8192x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true, false]

abbrev stage2_2 : Fin 2 → Memref sig .tc .vmem S16x144x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1x3x512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 1 → Memref sig .tc .smem S32x4 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false, false]

abbrev stage2_5 : Fin 1 → Memref sig .tc .vmem S4x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false, false]

abbrev stage2_6 : Fin 1 → Memref sig .tc .vmem S128x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false, false]

abbrev stage2_7 : Fin 2 → Memref sig .tc .vmem S512x128 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, true, true]
-- ==== KernelIdeal.lean ====
variable {F : FTy → Type} [FloatOps F] [Named F]
def κ : String → Option EReal := fun
  | "log2e" => some (((Real.log 2)⁻¹ : ℝ) : EReal)
  | "mask" => some ⊥
  | "scale" => some (((8 * (Real.log 2))⁻¹ : ℝ) : EReal)
  | _ => none
-- ==== ReferenceIdeal.lean ====
abbrev S2x8192x1024 : Shape := ⟨3, ![2, 8192, 1024]⟩
abbrev S32x4 : Shape := ⟨2, ![32, 4]⟩
abbrev S1024 : Shape := ⟨1, ![1024]⟩
abbrev S1024x4608 : Shape := ⟨2, ![1024, 4608]⟩
abbrev S64 : Shape := ⟨1, ![64]⟩
abbrev S128 : Shape := ⟨1, ![128]⟩
abbrev S512 : Shape := ⟨1, ![512]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x4608 : Shape := ⟨3, ![2, 8192, 4608]⟩
abbrev S2x8192x512 : Shape := ⟨3, ![2, 8192, 512]⟩
abbrev S2x8192x4x2x64 : Shape := ⟨5, ![2, 8192, 4, 2, 64]⟩
abbrev S2x8192x4x128 : Shape := ⟨4, ![2, 8192, 4, 128]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S2x2x4x8192x8192 : Shape := ⟨5, ![2, 2, 4, 8192, 8192]⟩
abbrev S8192x8192x1 : Shape := ⟨3, ![8192, 8192, 1]⟩
abbrev S8192x8192x4 : Shape := ⟨3, ![8192, 8192, 4]⟩
abbrev S4x8192x8192 : Shape := ⟨3, ![4, 8192, 8192]⟩
abbrev S1x1x4x8192x8192 : Shape := ⟨5, ![1, 1, 4, 8192, 8192]⟩
abbrev S1x1x1x8192x8192 : Shape := ⟨5, ![1, 1, 1, 8192, 8192]⟩
abbrev S2x2x4x8192 : Shape := ⟨4, ![2, 2, 4, 8192]⟩
abbrev S2x2x4x8192x1 : Shape := ⟨5, ![2, 2, 4, 8192, 1]⟩
abbrev S2x1x4x8192x8192 : Shape := ⟨5, ![2, 1, 4, 8192, 8192]⟩
abbrev S2x4x8192x8192 : Shape := ⟨4, ![2, 4, 8192, 8192]⟩
abbrev S2x4x128x8192 : Shape := ⟨4, ![2, 4, 128, 8192]⟩
abbrev S2x8192x4 : Shape := ⟨3, ![2, 8192, 4]⟩
abbrev S2x8192x4x1 : Shape := ⟨4, ![2, 8192, 4, 1]⟩
abbrev S1x1x1x128 : Shape := ⟨4, ![1, 1, 1, 128]⟩
abbrev S16384x512 : Shape := ⟨2, ![16384, 512]⟩
abbrev S1x65536x128 : Shape := ⟨3, ![1, 65536, 128]⟩
abbrev S1x1x512 : Shape := ⟨3, ![1, 1, 512]⟩
abbrev S16384x1024 : Shape := ⟨2, ![16384, 1024]⟩

abbrev nBuf : Space → Nat
  | .hbm => 174
  | .vmem => 0
  | .smem => 0
  | _ => 0

abbrev hbmTy0_0 (i : Nat) : BufTy := match i % 128 with
  | 0 => ⟨S2x8192x1024, .f32⟩
  | 1 => ⟨S32x4, .f32⟩
  | 2 => ⟨S1024, .f32⟩
  | 3 => ⟨S1024x4608, .f32⟩
  | 4 => ⟨S64, .f32⟩
  | 5 => ⟨S64, .f32⟩
  | 6 => ⟨S64, .f32⟩
  | 7 => ⟨S64, .f32⟩
  | 8 => ⟨S128, .f32⟩
  | 9 => ⟨S512, .f32⟩
  | 10 => ⟨S2x8192x1024, .f32⟩
  | 11 => ⟨S_, .f32⟩
  | 12 => ⟨S2x8192, .f32⟩
  | 13 => ⟨S2x8192x1, .f32⟩
  | 14 => ⟨S_, .f32⟩
  | 15 => ⟨S2x8192x1, .f32⟩
  | 16 => ⟨S2x8192x1, .f32⟩
  | 17 => ⟨S_, .f32⟩
  | 18 => ⟨S2x8192x1, .f32⟩
  | 19 => ⟨S2x8192x1, .f32⟩
  | 20 => ⟨S2x8192x1, .f32⟩
  | 21 => ⟨S2x8192x1024, .f32⟩
  | 22 => ⟨S2x8192x1024, .f32⟩
  | 23 => ⟨S1x1x1024, .f32⟩
  | 24 => ⟨S2x8192x1024, .f32⟩
  | 25 => ⟨S2x8192x1024, .f32⟩
  | 26 => ⟨S2x8192x4608, .f32⟩
  | 27 => ⟨S2x8192x512, .f32⟩
  | 28 => ⟨S2x8192x512, .f32⟩
  | 29 => ⟨S2x8192x512, .f32⟩
  | 30 => ⟨S2x8192x512, .f32⟩
  | 31 => ⟨S2x8192x512, .f32⟩
  | 32 => ⟨S2x8192x1024, .f32⟩
  | 33 => ⟨S2x8192x1024, .f32⟩
  | 34 => ⟨S2x8192x4x2x64, .f32⟩
  | 35 => ⟨S2x8192x4x2x64, .f32⟩
  | 36 => ⟨S2x8192x4x128, .f32⟩
  | 37 => ⟨S64, .f32⟩
  | 38 => ⟨S_, .f32⟩
  | 39 => ⟨S_, .f32⟩
  | 40 => ⟨S_, .f32⟩
  | 41 => ⟨S64, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S8192, .i32⟩
  | 49 => ⟨S8192x1, .i32⟩
  | 50 => ⟨S1x8192, .i32⟩
  | 51 => ⟨S8192x8192, .i32⟩
  | 52 => ⟨S8192x8192, .i32⟩
  | 53 => ⟨S8192x8192, .i32⟩
  | 54 => ⟨S2x2x4x8192x8192, .f32⟩
  | 55 => ⟨S_, .f32⟩
  | 56 => ⟨S2x2x4x8192x8192, .f32⟩
  | 57 => ⟨S2x2x4x8192x8192, .f32⟩
  | 58 => ⟨S_, .i32⟩
  | 59 => ⟨S8192x8192, .i32⟩
  | 60 => ⟨S8192x8192, .i32⟩
  | 61 => ⟨S_, .i32⟩
  | 62 => ⟨S8192x8192, .i32⟩
  | 63 => ⟨S8192x8192, .i32⟩
  | 64 => ⟨S8192x8192, .f32⟩
  | 65 => ⟨S_, .f32⟩
  | 66 => ⟨S8192x8192, .f32⟩
  | 67 => ⟨S8192x8192, .f32⟩
  | 68 => ⟨S8192x8192, .f32⟩
  | 69 => ⟨S_, .f32⟩
  | 70 => ⟨S8192x8192, .f32⟩
  | 71 => ⟨S8192x8192, .f32⟩
  | 72 => ⟨S_, .f32⟩
  | 73 => ⟨S8192x8192, .f32⟩
  | 74 => ⟨S8192x8192, .f32⟩
  | 75 => ⟨S8192x8192, .i32⟩
  | 76 => ⟨S_, .i32⟩
  | 77 => ⟨S8192x8192, .i32⟩
  | 78 => ⟨S8192x8192, .i32⟩
  | 79 => ⟨S_, .i32⟩
  | 80 => ⟨S8192x8192, .i32⟩
  | 81 => ⟨S8192x8192, .i1⟩
  | 82 => ⟨S_, .i32⟩
  | 83 => ⟨S8192x8192, .i32⟩
  | 84 => ⟨S8192x8192, .i32⟩
  | 85 => ⟨S8192x8192, .i32⟩
  | 86 => ⟨S_, .i32⟩
  | 87 => ⟨S8192x8192, .i32⟩
  | 88 => ⟨S8192x8192, .i1⟩
  | 89 => ⟨S_, .i32⟩
  | 90 => ⟨S8192x8192, .i32⟩
  | 91 => ⟨S8192x8192, .i32⟩
  | 92 => ⟨S8192x8192, .i32⟩
  | 93 => ⟨S8192x8192x1, .i32⟩
  | 94 => ⟨S8192x8192x4, .f32⟩
  | 95 => ⟨S4x8192x8192, .f32⟩
  | 96 => ⟨S1x1x4x8192x8192, .f32⟩
  | 97 => ⟨S2x2x4x8192x8192, .f32⟩
  | 98 => ⟨S2x2x4x8192x8192, .f32⟩
  | 99 => ⟨S_, .i32⟩
  | 100 => ⟨S8192x8192, .i32⟩
  | 101 => ⟨S8192x8192, .i1⟩
  | 102 => ⟨S1x1x1x8192x8192, .i1⟩
  | 103 => ⟨S_, .f32⟩
  | 104 => ⟨S_, .f32⟩
  | 105 => ⟨S2x2x4x8192x8192, .i1⟩
  | 106 => ⟨S2x2x4x8192x8192, .f32⟩
  | 107 => ⟨S2x2x4x8192x8192, .f32⟩
  | 108 => ⟨S_, .f32⟩
  | 109 => ⟨S2x2x4x8192, .f32⟩
  | 110 => ⟨S_, .f32⟩
  | 111 => ⟨S2x2x4x8192, .f32⟩
  | 112 => ⟨S2x2x4x8192, .f32⟩
  | 113 => ⟨S2x2x4x8192x1, .f32⟩
  | 114 => ⟨S2x2x4x8192x8192, .f32⟩
  | 115 => ⟨S2x2x4x8192x8192, .f32⟩
  | 116 => ⟨S2x2x4x8192x8192, .f32⟩
  | 117 => ⟨S_, .f32⟩
  | 118 => ⟨S2x2x4x8192, .f32⟩
  | 119 => ⟨S2x2x4x8192x1, .f32⟩
  | 120 => ⟨S2x2x4x8192x8192, .f32⟩
  | 121 => ⟨S2x2x4x8192x8192, .f32⟩
  | 122 => ⟨S2x1x4x8192x8192, .f32⟩
  | 123 => ⟨S2x4x8192x8192, .f32⟩
  | 124 => ⟨S2x1x4x8192x8192, .f32⟩
  | 125 => ⟨S2x4x8192x8192, .f32⟩
  | 126 => ⟨S2x4x8192x8192, .f32⟩
  | 127 => ⟨S2x4x8192x8192, .f32⟩
  | _ => ⟨S2x8192x1024, .f32⟩

abbrev hbmTy0_1 (i : Nat) : BufTy := match i % 128 with
  | 0 => ⟨S2x4x8192x8192, .f32⟩
  | 1 => ⟨S2x4x128x8192, .f32⟩
  | 2 => ⟨S2x8192x4x128, .f32⟩
  | 3 => ⟨S2x8192x4x128, .f32⟩
  | 4 => ⟨S_, .f32⟩
  | 5 => ⟨S2x8192x4, .f32⟩
  | 6 => ⟨S2x8192x4x1, .f32⟩
  | 7 => ⟨S_, .f32⟩
  | 8 => ⟨S2x8192x4x1, .f32⟩
  | 9 => ⟨S2x8192x4x1, .f32⟩
  | 10 => ⟨S_, .f32⟩
  | 11 => ⟨S2x8192x4x1, .f32⟩
  | 12 => ⟨S2x8192x4x1, .f32⟩
  | 13 => ⟨S2x8192x4x1, .f32⟩
  | 14 => ⟨S2x8192x4x128, .f32⟩
  | 15 => ⟨S2x8192x4x128, .f32⟩
  | 16 => ⟨S1x1x1x128, .f32⟩
  | 17 => ⟨S2x8192x4x128, .f32⟩
  | 18 => ⟨S2x8192x4x128, .f32⟩
  | 19 => ⟨S_, .f32⟩
  | 20 => ⟨S2x8192x4x128, .f32⟩
  | 21 => ⟨S2x8192x4x128, .f32⟩
  | 22 => ⟨S16384x512, .f32⟩
  | 23 => ⟨S16384x512, .bf16⟩
  | 24 => ⟨S1x65536x128, .f32⟩
  | 25 => ⟨S1x65536x128, .f32⟩
  | 26 => ⟨S16384x512, .f32⟩
  | 27 => ⟨S2x8192x512, .f32⟩
  | 28 => ⟨S_, .f32⟩
  | 29 => ⟨S2x8192, .f32⟩
  | 30 => ⟨S2x8192x1, .f32⟩
  | 31 => ⟨S_, .f32⟩
  | 32 => ⟨S2x8192x1, .f32⟩
  | 33 => ⟨S2x8192x1, .f32⟩
  | 34 => ⟨S_, .f32⟩
  | 35 => ⟨S2x8192x1, .f32⟩
  | 36 => ⟨S2x8192x1, .f32⟩
  | 37 => ⟨S2x8192x1, .f32⟩
  | 38 => ⟨S2x8192x512, .f32⟩
  | 39 => ⟨S2x8192x512, .f32⟩
  | 40 => ⟨S1x1x512, .f32⟩
  | 41 => ⟨S2x8192x512, .f32⟩
  | 42 => ⟨S2x8192x512, .f32⟩
  | 43 => ⟨S16384x512, .f32⟩
  | 44 => ⟨S16384x1024, .f32⟩
  | 45 => ⟨S16384x1024, .f32⟩
  | _ => ⟨S2x8192x1024, .f32⟩

abbrev hbmTy (i : Nat) : BufTy := match i / 128 with
  | 0 => hbmTy0_0 i
  | 1 => hbmTy0_1 i
  | _ => ⟨S2x8192x1024, .f32⟩

abbrev bufTy : (tb : Table) → Fin (tcTables nBuf tb) → BufTy
  | .hbm, ⟨i, _⟩ => hbmTy i
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_3 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_5 : Ref sig .tc := ⟨.hbm, 55, rfl⟩
abbrev main_v39 : Ref sig .tc := ⟨.hbm, 56, rfl⟩
abbrev main_v40 : Ref sig .tc := ⟨.hbm, 57, rfl⟩
abbrev main_c : Ref sig .tc := ⟨.hbm, 58, rfl⟩
abbrev main_v41 : Ref sig .tc := ⟨.hbm, 59, rfl⟩
abbrev main_v42 : Ref sig .tc := ⟨.hbm, 60, rfl⟩
abbrev main_c_6 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_7 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_8 : Ref sig .tc := ⟨.hbm, 69, rfl⟩
abbrev main_v49 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_c_13 : Ref sig .tc := ⟨.hbm, 86, rfl⟩
abbrev main_v61 : Ref sig .tc := ⟨.hbm, 87, rfl⟩
abbrev main_v62 : Ref sig .tc := ⟨.hbm, 88, rfl⟩
abbrev main_c_14 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_15 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_cst_16 : Ref sig .tc := ⟨.hbm, 103, rfl⟩
abbrev main_call1_v0 : Ref sig .tc := ⟨.hbm, 104, rfl⟩
abbrev main_call1_v1 : Ref sig .tc := ⟨.hbm, 105, rfl⟩
abbrev main_call1_v2 : Ref sig .tc := ⟨.hbm, 106, rfl⟩
abbrev main_v75 : Ref sig .tc := ⟨.hbm, 107, rfl⟩
abbrev main_cst_17 : Ref sig .tc := ⟨.hbm, 108, rfl⟩
abbrev main_v76 : Ref sig .tc := ⟨.hbm, 109, rfl⟩
abbrev main_cst_18 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_cst_19 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_cst_20 : Ref sig .tc := ⟨.hbm, 132, rfl⟩
abbrev main_v97 : Ref sig .tc := ⟨.hbm, 133, rfl⟩
abbrev main_v98 : Ref sig .tc := ⟨.hbm, 134, rfl⟩
abbrev main_cst_21 : Ref sig .tc := ⟨.hbm, 135, rfl⟩
abbrev main_v99 : Ref sig .tc := ⟨.hbm, 136, rfl⟩
abbrev main_v100 : Ref sig .tc := ⟨.hbm, 137, rfl⟩
abbrev main_cst_22 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_cst_23 : Ref sig .tc := ⟨.hbm, 147, rfl⟩
abbrev main_v109 : Ref sig .tc := ⟨.hbm, 148, rfl⟩
abbrev main_v110 : Ref sig .tc := ⟨.hbm, 149, rfl⟩
abbrev main_v111 : Ref sig .tc := ⟨.hbm, 150, rfl⟩
abbrev main_v112 : Ref sig .tc := ⟨.hbm, 151, rfl⟩
abbrev main_v113 : Ref sig .tc := ⟨.hbm, 152, rfl⟩
abbrev main_v114 : Ref sig .tc := ⟨.hbm, 153, rfl⟩
abbrev main_v115 : Ref sig .tc := ⟨.hbm, 154, rfl⟩
abbrev main_v116 : Ref sig .tc := ⟨.hbm, 155, rfl⟩
abbrev main_cst_24 : Ref sig .tc := ⟨.hbm, 156, rfl⟩
abbrev main_v117 : Ref sig .tc := ⟨.hbm, 157, rfl⟩
abbrev main_v118 : Ref sig .tc := ⟨.hbm, 158, rfl⟩
abbrev main_cst_25 : Ref sig .tc := ⟨.hbm, 159, rfl⟩
abbrev main_v119 : Ref sig .tc := ⟨.hbm, 160, rfl⟩
abbrev main_v120 : Ref sig .tc := ⟨.hbm, 161, rfl⟩
abbrev main_cst_26 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_v129 : Ref sig .tc := ⟨.hbm, 171, rfl⟩
abbrev main_v130 : Ref sig .tc := ⟨.hbm, 172, rfl⟩
abbrev main_v131 : Ref sig .tc := ⟨.hbm, 173, rfl⟩

abbrev nD : Nat := 1
abbrev τ : Topo := Topo.v7x

variable {F : FTy → Type} [FloatOps F]
-- ==== Kernel2.lean ====
abbrev S2x8192x1024 : Shape := ⟨3, ![2, 8192, 1024]⟩
abbrev S1024 : Shape := ⟨1, ![1024]⟩
abbrev S1024x5632 : Shape := ⟨2, ![1024, 5632]⟩
abbrev S2816x1024 : Shape := ⟨2, ![2816, 1024]⟩
abbrev S16384x1024 : Shape := ⟨2, ![16384, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S1024x5632, .bf16⟩
  | .hbm, ⟨6, _⟩ => ⟨S2816x1024, .bf16⟩
  | .hbm, ⟨7, _⟩ => ⟨S16384x1024, .f32⟩
  | .hbm, ⟨8, _⟩ => ⟨S1x1024, .f32⟩
  | .hbm, ⟨9, _⟩ => ⟨S1x1024, .f32⟩
  | .hbm, ⟨10, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x5632, .bf16⟩
  | .local _ .vmem, ⟨4, _⟩ => ⟨S2816x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S2x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x5632 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S2x8192x1024 : Shape := ⟨3, ![2, 8192, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2x8192 : Shape := ⟨2, ![2, 8192]⟩
abbrev S2x8192x1 : Shape := ⟨3, ![2, 8192, 1]⟩
abbrev S1x1x1024 : Shape := ⟨3, ![1, 1, 1024]⟩
abbrev S2x8192x5632 : Shape := ⟨3, ![2, 8192, 5632]⟩
abbrev S2x8192x2816 : Shape := ⟨3, ![2, 8192, 2816]⟩
abbrev S16384x1024 : Shape := ⟨2, ![16384, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2x8192x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1024, .f32⟩
  | .hbm, ⟨5, _⟩ => ⟨S2x8192x1024, .f32⟩
  | .hbm, ⟨6, _⟩ => ⟨S_, .f32⟩
  | .hbm, ⟨7, _⟩ => ⟨S2x8192, .f32⟩
  | .hbm, ⟨8, _⟩ => ⟨S2x8192x1, .f32⟩
  | .hbm, ⟨9, _⟩ => ⟨S_, .f32⟩
  | .hbm, ⟨10, _⟩ => ⟨S2x8192x1, .f32⟩
  | .hbm, ⟨11, _⟩ => ⟨S2x8192x1, .f32⟩
  | .hbm, ⟨12, _⟩ => ⟨S_, .f32⟩
  | .hbm, ⟨13, _⟩ => ⟨S2x8192x1, .f32⟩
  | .hbm, ⟨14, _⟩ => ⟨S2x8192x1, .f32⟩
  | .hbm, ⟨15, _⟩ => ⟨S2x8192x1, .f32⟩
  | .hbm, ⟨16, _⟩ => ⟨S2x8192x1024, .f32⟩
  | .hbm, ⟨17, _⟩ => ⟨S2x8192x1024, .f32⟩
  | .hbm, ⟨18, _⟩ => ⟨S1x1x1024, .f32⟩
  | .hbm, ⟨19, _⟩ => ⟨S2x8192x1024, .f32⟩
  | .hbm, ⟨20, _⟩ => ⟨S2x8192x1024, .f32⟩
  | .hbm, ⟨21, _⟩ => ⟨S2x8192x5632, .f32⟩
  | .hbm, ⟨22, _⟩ => ⟨S2x8192x2816, .f32⟩
  | .hbm, ⟨23, _⟩ => ⟨S2x8192x2816, .f32⟩
  | .hbm, ⟨24, _⟩ => ⟨S2x8192x2816, .f32⟩
  | .hbm, ⟨25, _⟩ => ⟨S2x8192x2816, .f32⟩
  | .hbm, ⟨26, _⟩ => ⟨S_, .f32⟩
  | .hbm, ⟨27, _⟩ => ⟨S2x8192x2816, .f32⟩
  | .hbm, ⟨28, _⟩ => ⟨S2x8192x2816, .f32⟩
  | .hbm, ⟨29, _⟩ => ⟨S_, .f32⟩
  | .hbm, ⟨30, _⟩ => ⟨S2x8192x2816, .f32⟩
  | .hbm, ⟨31, _⟩ => ⟨S2x8192x2816, .f32⟩
  | .hbm, ⟨32, _⟩ => ⟨S2x8192x2816, .f32⟩
  | .hbm, ⟨33, _⟩ => ⟨S2x8192x2816, .f32⟩
  | .hbm, ⟨34, _⟩ => ⟨S2x8192x1024, .f32⟩
  | .hbm, ⟨35, _⟩ => ⟨S2x8192x1024, .f32⟩
  | .hbm, ⟨36, _⟩ => ⟨S_, .f32⟩
  | .hbm, ⟨37, _⟩ => ⟨S2x8192, .f32⟩
  | .hbm, ⟨38, _⟩ => ⟨S2x8192x1, .f32⟩
  | .hbm, ⟨39, _⟩ => ⟨S_, .f32⟩
  | .hbm, ⟨40, _⟩ => ⟨S2x8192x1, .f32⟩
  | .hbm, ⟨41, _⟩ => ⟨S2x8192x1, .f32⟩
  | .hbm, ⟨42, _⟩ => ⟨S_, .f32⟩
  | .hbm, ⟨43, _⟩ => ⟨S2x8192x1, .f32⟩
  | .hbm, ⟨44, _⟩ => ⟨S2x8192x1, .f32⟩
  | .hbm, ⟨45, _⟩ => ⟨S2x8192x1, .f32⟩
  | .hbm, ⟨46, _⟩ => ⟨S2x8192x1024, .f32⟩
  | .hbm, ⟨47, _⟩ => ⟨S2x8192x1024, .f32⟩
  | .hbm, ⟨48, _⟩ => ⟨S1x1x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S16384x1024, .f32⟩
  | _, _ => ⟨S2x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_call0_v0 : Ref sig .tc := ⟨.hbm, 24, rfl⟩
abbrev main_call0_v1 : Ref sig .tc := ⟨.hbm, 25, rfl⟩
abbrev main_call0_cst : Ref sig .tc := ⟨.hbm, 26, rfl⟩
abbrev main_call0_v2 : Ref sig .tc := ⟨.hbm, 27, rfl⟩
abbrev main_call0_v3 : Ref sig .tc := ⟨.hbm, 28, rfl⟩
abbrev main_call0_cst_0 : Ref sig .tc := ⟨.hbm, 29, rfl⟩
abbrev main_call0_v4 : Ref sig .tc := ⟨.hbm, 30, rfl⟩
abbrev main_call0_v5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_cst_3 : Ref sig .tc := ⟨.hbm, 39, rfl⟩
abbrev main_v22 : Ref sig .tc := ⟨.hbm, 40, rfl⟩
abbrev main_v23 : Ref sig .tc := ⟨.hbm, 41, rfl⟩
abbrev main_cst_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Kernel3.lean ====
abbrev S16384x512 : Shape := ⟨2, ![16384, 512]⟩
abbrev S16384x1024 : Shape := ⟨2, ![16384, 1024]⟩
abbrev S2x8192x1024 : Shape := ⟨3, ![2, 8192, 1024]⟩
abbrev S4x128x128 : Shape := ⟨3, ![4, 128, 128]⟩
abbrev S4x128 : Shape := ⟨2, ![4, 128]⟩
abbrev S512x1024 : Shape := ⟨2, ![512, 1024]⟩
abbrev S1024x1024 : Shape := ⟨2, ![1024, 1024]⟩
abbrev S1024 : Shape := ⟨1, ![1024]⟩
abbrev S128x4 : Shape := ⟨2, ![128, 4]⟩
abbrev S128x4x128 : Shape := ⟨3, ![128, 4, 128]⟩
abbrev S128x512 : Shape := ⟨2, ![128, 512]⟩
abbrev S1x1024 : Shape := ⟨2, ![1, 1024]⟩
abbrev S512x512 : Shape := ⟨2, ![512, 512]⟩
abbrev S128x128 : Shape := ⟨2, ![128, 128]⟩
abbrev S1x128x128 : Shape := ⟨3, ![1, 128, 128]⟩
abbrev S512 : Shape := ⟨1, ![512]⟩
abbrev S512x1 : Shape := ⟨2, ![512, 1]⟩

abbrev nBuf : Space → Nat
  | .hbm => 22
  | .vmem => 21
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S16384x512, .f32⟩
  | .hbm, ⟨3, _⟩ => ⟨S16384x1024, .f32⟩
  | .hbm, ⟨4, _⟩ => ⟨S16384x1024, .f32⟩
  | .hbm, ⟨5, _⟩ => ⟨S2x8192x1024, .f32⟩
  | .hbm, ⟨6, _⟩ => ⟨S4x128x128, .f32⟩
  | .hbm, ⟨7, _⟩ => ⟨S4x128, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S512x1024, .bf16⟩
  | .hbm, ⟨13, _⟩ => ⟨S512x1024, .bf16⟩
  | .hbm, ⟨14, _⟩ => ⟨S1024x1024, .bf16⟩
  | .hbm, ⟨15, _⟩ => ⟨S4x128x128, .bf16⟩
  | .hbm, ⟨16, _⟩ => ⟨S128x4, .f32⟩
  | .hbm, ⟨17, _⟩ => ⟨S128x4x128, .f32⟩
  | .hbm, ⟨18, _⟩ => ⟨S128x512, .f32⟩
  | .hbm, ⟨19, _⟩ => ⟨S16384x1024, .f32⟩
  | .hbm, ⟨20, _⟩ => ⟨S1x1024, .f32⟩
  | .hbm, ⟨21, _⟩ => ⟨S16384x1024, .f32⟩
  | .local _ .vmem, ⟨0, _⟩ => ⟨S512x512, .bf16⟩
  | .local _ .vmem, ⟨1, _⟩ => ⟨S512x512, .bf16⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S4x128x128, .bf16⟩
  | .local _ .vmem, ⟨13, _⟩ => ⟨S128x512, .f32⟩
  | .local _ .vmem, ⟨14, _⟩ => ⟨S512x1024, .bf16⟩
  | .local _ .vmem, ⟨15, _⟩ => ⟨S512x1024, .bf16⟩
  | .local _ .vmem, ⟨16, _⟩ => ⟨S1024x1024, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512x512, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg12_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem12_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== Reference3Ideal.lean ====
abbrev S16384x512 : Shape := ⟨2, ![16384, 512]⟩
abbrev S16384x1024 : Shape := ⟨2, ![16384, 1024]⟩
abbrev S2x8192x1024 : Shape := ⟨3, ![2, 8192, 1024]⟩
abbrev S4x128x128 : Shape := ⟨3, ![4, 128, 128]⟩
abbrev S4x128 : Shape := ⟨2, ![4, 128]⟩
abbrev S512x1024 : Shape := ⟨2, ![512, 1024]⟩
abbrev S1024x1024 : Shape := ⟨2, ![1024, 1024]⟩
abbrev S1024 : Shape := ⟨1, ![1024]⟩
abbrev S2x8192x512 : Shape := ⟨3, ![2, 8192, 512]⟩
abbrev S2x64x128x4x128 : Shape := ⟨5, ![2, 64, 128, 4, 128]⟩
abbrev S_ : Shape := ⟨0, ![]⟩
abbrev S128x128 : Shape := ⟨2, ![128, 128]⟩
abbrev S1x128x128 : Shape := ⟨3, ![1, 128, 128]⟩
abbrev S4x2x64x128x128 : Shape := ⟨5, ![4, 2, 64, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S2x8192 : Shape := ⟨2, ![2, 8192]⟩
abbrev S2x8192x1 : Shape := ⟨3, ![2, 8192, 1]⟩
abbrev S1x1x1024 : Shape := ⟨3, ![1, 1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .f32⟩
  | .hbm, ⟨2, _⟩ => ⟨S16384x512, .f32⟩
  | .hbm, ⟨3, _⟩ => ⟨S16384x1024, .f32⟩
  | .hbm, ⟨4, _⟩ => ⟨S16384x1024, .f32⟩
  | .hbm, ⟨5, _⟩ => ⟨S2x8192x1024, .f32⟩
  | .hbm, ⟨6, _⟩ => ⟨S4x128x128, .f32⟩
  | .hbm, ⟨7, _⟩ => ⟨S4x128, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1024, .f32⟩
  | .hbm, ⟨12, _⟩ => ⟨S2x8192x512, .bf16⟩
  | .hbm, ⟨13, _⟩ => ⟨S2x8192x512, .f32⟩
  | .hbm, ⟨14, _⟩ => ⟨S2x8192x512, .f32⟩
  | .hbm, ⟨15, _⟩ => ⟨S2x8192x1024, .f32⟩
  | .hbm, ⟨16, _⟩ => ⟨S2x8192x1024, .f32⟩
  | .hbm, ⟨17, _⟩ => ⟨S2x64x128x4x128, .f32⟩
  | .hbm, ⟨18, _⟩ => ⟨S_, .f32⟩
  | .hbm, ⟨19, _⟩ => ⟨S128x128, .f32⟩
  | .hbm, ⟨20, _⟩ => ⟨S128x128, .i32⟩
  | .hbm, ⟨21, _⟩ => ⟨S_, .i32⟩
  | .hbm, ⟨22, _⟩ => ⟨S128x128, .i32⟩
  | .hbm, ⟨23, _⟩ => ⟨S128x128, .i32⟩
  | .hbm, ⟨24, _⟩ => ⟨S128x128, .i32⟩
  | .hbm, ⟨25, _⟩ => ⟨S128x128, .i1⟩
  | .hbm, ⟨26, _⟩ => ⟨S_, .f32⟩
  | .hbm, ⟨27, _⟩ => ⟨S128x128, .f32⟩
  | .hbm, ⟨28, _⟩ => ⟨S128x128, .f32⟩
  | .hbm, ⟨29, _⟩ => ⟨S1x128x128, .f32⟩
  | .hbm, ⟨30, _⟩ => ⟨S4x128x128, .f32⟩
  | .hbm, ⟨31, _⟩ => ⟨S4x128x128, .f32⟩
  | .hbm, ⟨32, _⟩ => ⟨S4x2x64x128x128, .f32⟩
  | .hbm, ⟨33, _⟩ => ⟨S2x64x128x4x128, .f32⟩
  | .hbm, ⟨34, _⟩ => ⟨S128x4, .f32⟩
  | .hbm, ⟨35, _⟩ => ⟨S128x4x1, .f32⟩
  | .hbm, ⟨36, _⟩ => ⟨S1x1x128x4x1, .f32⟩
  | .hbm, ⟨37, _⟩ => ⟨S2x64x128x4x128, .f32⟩
  | .hbm, ⟨38, _⟩ => ⟨S2x64x128x4x128, .f32⟩
  | .hbm, ⟨39, _⟩ => ⟨S2x8192x512, .f32⟩
  | .hbm, ⟨40, _⟩ => ⟨S2x8192x512, .f32⟩
  | .hbm, ⟨41, _⟩ => ⟨S2x8192x1024, .f32⟩
  | .hbm, ⟨42, _⟩ => ⟨S2x8192x1024, .f32⟩
  | .hbm, ⟨43, _⟩ => ⟨S_, .f32⟩
  | .hbm, ⟨44, _⟩ => ⟨S2x8192x1024, .f32⟩
  | .hbm, ⟨45, _⟩ => ⟨S2x8192x1024, .f32⟩
  | .hbm, ⟨46, _⟩ => ⟨S_, .f32⟩
  | .hbm, ⟨47, _⟩ => ⟨S2x8192x1024, .f32⟩
  | .hbm, ⟨48, _⟩ => ⟨S2x8192x1024, .f32⟩
  | .hbm, ⟨49, _⟩ => ⟨S2x8192x1024, .f32⟩
  | .hbm, ⟨50, _⟩ => ⟨S2x8192x1024, .f32⟩
  | .hbm, ⟨51, _⟩ => ⟨S2x8192x1024, .f32⟩
  | .hbm, ⟨52, _⟩ => ⟨S2x8192x1024, .f32⟩
  | .hbm, ⟨53, _⟩ => ⟨S_, .f32⟩
  | .hbm, ⟨54, _⟩ => ⟨S2x8192x1024, .f32⟩
  | .hbm, ⟨55, _⟩ => ⟨S2x8192x1024, .f32⟩
  | .hbm, ⟨56, _⟩ => ⟨S_, .f32⟩
  | .hbm, ⟨57, _⟩ => ⟨S2x8192x1024, .f32⟩
  | .hbm, ⟨58, _⟩ => ⟨S2x8192x1024, .f32⟩
  | .hbm, ⟨59, _⟩ => ⟨S2x8192x1024, .f32⟩
  | .hbm, ⟨60, _⟩ => ⟨S2x8192x1024, .f32⟩
  | .hbm, ⟨61, _⟩ => ⟨S2x8192x1024, .f32⟩
  | .hbm, ⟨62, _⟩ => ⟨S2x8192x1024, .f32⟩
  | .hbm, ⟨63, _⟩ => ⟨S2x8192x1024, .f32⟩
  | .hbm, ⟨64, _⟩ => ⟨S_, .f32⟩
  | .hbm, ⟨65, _⟩ => ⟨S2x8192, .f32⟩
  | .hbm, ⟨66, _⟩ => ⟨S2x8192x1, .f32⟩
  | .hbm, ⟨67, _⟩ => ⟨S_, .f32⟩
  | .hbm, ⟨68, _⟩ => ⟨S2x8192x1, .f32⟩
  | .hbm, ⟨69, _⟩ => ⟨S2x8192x1, .f32⟩
  | .hbm, ⟨70, _⟩ => ⟨S_, .f32⟩
  | .hbm, ⟨71, _⟩ => ⟨S2x8192x1, .f32⟩
  | .hbm, ⟨72, _⟩ => ⟨S2x8192x1, .f32⟩
  | .hbm, ⟨73, _⟩ => ⟨S2x8192x1, .f32⟩
  | .hbm, ⟨74, _⟩ => ⟨S2x8192x1024, .f32⟩
  | .hbm, ⟨75, _⟩ => ⟨S2x8192x1024, .f32⟩
  | .hbm, ⟨76, _⟩ => ⟨S1x1x1024, .f32⟩
  | .hbm, ⟨77, _⟩ => ⟨S2x8192x1024, .f32⟩
  | .hbm, ⟨78, _⟩ => ⟨S2x8192x1024, .f32⟩
  | .hbm, ⟨79, _⟩ => ⟨S2x8192x1024, .f32⟩
  | .hbm, ⟨80, _⟩ => ⟨S16384x1024, .f32⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst : Ref sig .tc := ⟨.hbm, 18, rfl⟩
abbrev main_v6 : Ref sig .tc := ⟨.hbm, 19, rfl⟩
abbrev main_call0_v0 : Ref sig .tc := ⟨.hbm, 20, rfl⟩
abbrev main_call0_c : Ref sig .tc := ⟨.hbm, 21, rfl⟩
abbrev main_call0_v1 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_cst : Ref sig .tc := ⟨.hbm, 26, rfl⟩
abbrev main_call0_v5 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_v23 : Ref sig .tc := ⟨.hbm, 45, rfl⟩
abbrev main_cst_1 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_cst_3 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_4 : Ref sig .tc := ⟨.hbm, 64, rfl⟩
abbrev main_v39 : Ref sig .tc := ⟨.hbm, 65, rfl⟩
abbrev main_v40 : Ref sig .tc := ⟨.hbm, 66, rfl⟩
abbrev main_cst_5 : Ref sig .tc := ⟨.hbm, 67, rfl⟩
abbrev main_v41 : Ref sig .tc := ⟨.hbm, 68, rfl⟩
abbrev main_v42 : Ref sig .tc := ⟨.hbm, 69, rfl⟩
abbrev main_cst_6 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩

abbrev nD : Nat := 1
abbrev τ : Topo := Topo.v7x

variable {F : FTy → Type} [FloatOps F]
-- ==== Proof.AttnState.lean ====
module

public import proofs.«01_k».proof.Proof.Gen.KernelIdeal.Loops
public import Idealize.ShloMosaic.Lib.LoopRemainder
public import Idealize.ShloMosaic.Lib.Pipeline.FrameBody
public import Idealize.ShloMosaic.Lib.Pipeline.Value

@[expose] public section

set_option maxRecDepth 16384

noncomputable section

namespace Cert.Proof.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

abbrev UU (nD : Nat) (τ : Topo) : Type := UR sig nD τ
abbrev 𝒱₀ : Variants := Variants.none
abbrev 𝕄 (F : FTy → Type) (nD : Nat) (τ : Topo) := MT nD τ sig Unit (Elt F) ℕ (UR sig nD τ) ℕ

/-- The running state between two steps of the key loop, per half of the head: the scores of the key tile in hand, their column maxima, their shift, the running maxima, the weighted sums; the first half's weights and rescaling factors are one tile ahead. -/
structure St (F : FTy → Type) where
  st0 : Vec F S1x512x512 .f32
  st1 : Vec F S1x512x512 .f32
  cm0 : Vec F S1x1x512 .f32
  cm1 : Vec F S1x1x512 .f32
  sh0 : Vec F S1x1x512 .f32
  sh1 : Vec F S1x1x512 .f32
  p0 : Vec F S1x512x512 .bf16
  al0 : Vec F S1x1x512 .f32
  m0 : Vec F S1x1x512 .f32
  m1 : Vec F S1x1x512 .f32
  acc0 : Vec F S1x144x512 .f32
  acc1 : Vec F S1x144x512 .f32

/-- One step of the key loop on the running state, from the two tiles of scores `a0`, `a1` (before the shift `w`) and the block `vt` of values: the first half's pending weights are added to its sum, the second half's are formed and added, and the first half's next weights are formed. -/
def core (s : St F) (vt : Vec F S1x144x512 .bf16) (a0 a1 : FVec F S512x512 .f32) (w : F .f32) : St F :=
  let st0 := k2_pay49 a0
  let st1 := k2_pay49 a1
  let cm0 := k2_pay50 a0 w
  let cm1 := k2_pay50 a1 w
  let sh0 := k2_pay51 w
  let sh1 := k2_pay51 w
  let al1 := k2_pay11 s.m1 s.cm1
  let p1 := k2_pay12 s.m1 s.cm1 s.st1 s.sh1
  { st0 := st0, st1 := st1, cm0 := cm0, cm1 := cm1, sh0 := sh0, sh1 := sh1
    p0 := k2_pay12 s.m0 cm0 st0 sh0
    al0 := k2_pay11 s.m0 cm0
    m0 := k2_pay13 (k2_pay10 s.m0 cm0), m1 := k2_pay13 (k2_pay10 s.m1 s.cm1)
    acc0 := k2_pay2 s.al0 s.acc0 vt s.p0, acc1 := k2_pay2 al1 s.acc1 vt p1 }

/-- The step of a far tile: its scores carry one constant bias, the shift. -/
def farStep (i : grid2.Coords) (K : Vec F S8192x128 .bf16) (VT : Vec F S16x144x512 .bf16) (qz0 qz1 : Vec F S1x512x128 .bf16) (w : F .f32) (s : St F) (k : Fin (k2_t1_loop i).trips) : St F :=
  let kb : Vec F S512x128 .bf16 := View.ld K (Rect.unit (s := S8192x128) (k2_off4 i k) S512x128.size (k2_off4_inb i k))
  core s (View.ld VT (Rect.unit (s := S16x144x512) (k2_off3 i k) S1x144x512.size (k2_off3_inb i k))) (k2_pay3 kb qz0) (k2_pay3 kb qz1) w

/-- The step of a near tile: its scores carry a tile of biases. -/
def nearStep (i : grid2.Coords) (K : Vec F S8192x128 .bf16) (VT : Vec F S16x144x512 .bf16) (B : Vec F S1x3x512x512 .f32) (qz0 qz1 : Vec F S1x512x128 .bf16) (s : St F) (k : Fin (k2_t3_loop i).trips) : St F :=
  let kb : Vec F S512x128 .bf16 := View.ld K (Rect.unit (s := S8192x128) (k2_off8 i k) S512x128.size (k2_off8_inb i k))
  let bb : Vec F S1x1x512x512 .f32 := View.ld B (Rect.unit (s := S1x3x512x512) (k2_off9 i k) S1x1x512x512.size (k2_off9_inb i k))
  core s (View.ld VT (Rect.unit (s := S16x144x512) (k2_off7 i k) S1x144x512.size (k2_off7_inb i k))) (k2_pay47 kb qz0 bb) (k2_pay47 kb qz1 bb) (Scalar.ofBits .f32 0x00000000#32)

/-- The two halves of the query block: the lanes of the other half are zero. -/
def qzA (Q : Vec F S512x128 .bf16) : Vec F S1x512x128 .bf16 :=
  k2_pay91 (View.ld Q (Rect.unit (s := S512x128) ![0, 0] S512x128.size inb_S512x128_S512x128_0_0))
def qzB (Q : Vec F S512x128 .bf16) : Vec F S1x512x128 .bf16 :=
  k2_pay92 (View.ld Q (Rect.unit (s := S512x128) ![0, 0] S512x128.size inb_S512x128_S512x128_0_0))

/-- The bias of the far tiles: the head's last bucket, in the units of the base-two exponential. -/
def farBias (i : grid2.Coords) (RB : Vec F S32x4 .f32) : F .f32 :=
  k2_pay95 (View.ld RB (Rect.unit (s := S32x4) (k2_off1 i) S1x1.size (k2_off1_inb i)) (Shape.Idx.first (s := S1x1) (numel1_S1x1.symm ▸ Nat.one_pos)))

/-- The state before the key loop: the scores of the first tile, the first half's weights of it, empty sums. -/
def initSt (i : grid2.Coords) (Q : Vec F S512x128 .bf16) (K : Vec F S8192x128 .bf16) (B : Vec F S1x3x512x512 .f32) : St F :=
  let kb : Vec F S512x128 .bf16 := View.ld K (Rect.unit (s := S8192x128) ![0, 0] S512x128.size inb_S8192x128_S512x128_0_0)
  let bb : Vec F S1x1x512x512 .f32 := View.ld B (Rect.unit (s := S1x3x512x512) (k2_off2 i) S1x1x512x512.size (k2_off2_inb i))
  let w : F .f32 := Scalar.ofBits .f32 0x00000000#32
  let a0 := k2_pay47 kb (qzA Q) bb
  let a1 := k2_pay47 kb (qzB Q) bb
  let M : Vec F S1x1x512 .f32 := View.ld (k2_pay93 (F := F)) (Rect.unit (s := S2x1x512) ![0, 0, 0] S1x1x512.size inb_S2x1x512_S1x1x512_0_0_0)
  let M1 : Vec F S1x1x512 .f32 := View.ld (k2_pay93 (F := F)) (Rect.unit (s := S2x1x512) ![1, 0, 0] S1x1x512.size inb_S2x1x512_S1x1x512_1_0_0)
  { st0 := k2_pay49 a0, st1 := k2_pay49 a1, cm0 := k2_pay50 a0 w, cm1 := k2_pay50 a1 w, sh0 := k2_pay51 w, sh1 := k2_pay51 w
    p0 := k2_pay12 M (k2_pay50 a0 w) (k2_pay49 a0) (k2_pay51 w)
    al0 := k2_pay11 M (k2_pay50 a0 w)
    m0 := k2_pay13 (k2_pay10 M (k2_pay50 a0 w)), m1 := M1
    acc0 := View.ld (k2_pay94 (F := F)) (Rect.unit (s := S2x144x512) ![0, 0, 0] S1x144x512.size inb_S2x144x512_S1x144x512_0_0_0)
    acc1 := View.ld (k2_pay94 (F := F)) (Rect.unit (s := S2x144x512) ![1, 0, 0] S1x144x512.size inb_S2x144x512_S1x144x512_1_0_0) }

/-- A state taken through the first `n` trips of a loop, by the trips' step. -/
def after {T : Nat} (step : St F → Fin T → St F) (s : St F) : Nat → St F
  | 0 => s
  | n + 1 => if h : n < T then step (after step s n) ⟨n, h⟩ else after step s n

theorem after_succ {T : Nat} (step : St F → Fin T → St F) (s : St F) (k : Fin T) :
    after step s (k.val + 1) = step (after step s k.val) k := by
  rw [after, dif_pos k.isLt]

/-- The state after the far tiles, -/
def farSt (i : grid2.Coords) (Q : Vec F S512x128 .bf16) (K : Vec F S8192x128 .bf16) (VT : Vec F S16x144x512 .bf16) (B : Vec F S1x3x512x512 .f32) (RB : Vec F S32x4 .f32) : Nat → St F :=
  after (farStep i K VT (qzA Q) (qzB Q) (farBias i RB)) (initSt i Q K B)

/-- and then after the near ones. -/
def nearSt (i : grid2.Coords) (Q : Vec F S512x128 .bf16) (K : Vec F S8192x128 .bf16) (VT : Vec F S16x144x512 .bf16) (B : Vec F S1x3x512x512 .f32) (RB : Vec F S32x4 .f32) : Nat → St F :=
  after (nearStep i K VT B (qzA Q) (qzB Q)) (farSt i Q K VT B RB (k2_t1_loop i).trips)

/-- The block of outputs from the last state: the last tile is weighed, the two halves are combined, normalised and transposed. -/
def outOf (s : St F) (vt : Vec F S1x144x512 .bf16) (LM : Vec F S4x64 .f32) (GS : Vec F S128x1 .f32) : FVec F S512x128 .bf16 :=
  k2_pay1 (k2_pay131 (k2_pay128 LM) (k2_pay129 LM) (k2_pay130 LM) (k2_pay2 s.al0 s.acc0 vt s.p0)
    (k2_pay2 (k2_pay11 s.m1 s.cm1) s.acc1 vt (k2_pay12 s.m1 s.cm1 s.st1 s.sh1)) GS)

def attnOut (i : grid2.Coords) (Q : Vec F S512x128 .bf16) (K : Vec F S8192x128 .bf16) (VT : Vec F S16x144x512 .bf16) (B : Vec F S1x3x512x512 .f32) (RB : Vec F S32x4 .f32) (LM : Vec F S4x64 .f32) (GS : Vec F S128x1 .f32) : FVec F S512x128 .bf16 :=
  outOf (nearSt i Q K VT B RB (k2_t3_loop i).trips) (View.ld VT (Rect.unit (s := S16x144x512) (k2_off13 i) S1x144x512.size (k2_off13_inb i)))
    (View.ld LM (Rect.unit (s := S4x64) ![0, 0] S4x64.size inb_S4x64_S4x64_0_0))
    (View.ld GS (Rect.unit (s := S128x1) ![0, 0] S128x1.size inb_S128x1_S128x1_0_0))

section Slabs
variable {sig : RefSig} {κ : Kind} {sp : Space} {S : Shape} {e : EltTy} {Val : EltTy → Type} [∀ e, Nonempty (Val e)]

/-- Two rectangles that tile a two-slab buffer. -/
structure Pair (r0 r1 : Rect S) : Prop where
  dis : Disjoint r0.set r1.set
  cov : ∀ y, y ∈ r0.set ∨ y ∈ r1.set

theorem Pair.w1010 {r0 r1 : Rect S} (h : Pair r0 r1) (v : View sig κ sp S e) (a b x y) :
    v.writes Val v.junk [⟨r1, b⟩, ⟨r0, a⟩, ⟨r1, x⟩, ⟨r0, y⟩] = v.writes Val v.junk [⟨r1, b⟩, ⟨r0, a⟩] := by
  refine (View.writes_drop v v.junk [⟨r1, b⟩, ⟨r0, a⟩] r1 x [⟨r0, y⟩] (fun z hz => ⟨⟨r1, b⟩, by simp, hz⟩)).trans ?_
  exact View.writes_drop v v.junk [⟨r1, b⟩, ⟨r0, a⟩] r0 y [] (fun z hz => ⟨⟨r0, a⟩, by simp, hz⟩)

theorem Pair.w0110 {r0 r1 : Rect S} (h : Pair r0 r1) (v : View sig κ sp S e) (a b x y) :
    v.writes Val v.junk [⟨r0, a⟩, ⟨r1, b⟩, ⟨r1, x⟩, ⟨r0, y⟩] = v.writes Val v.junk [⟨r1, b⟩, ⟨r0, a⟩] := by
  rw [View.writes_swap v v.junk _ _ _ h.dis, h.w1010]

theorem Pair.r1 {r0 r1 : Rect S} (h : Pair r0 r1) (v : View sig κ sp S e) (b L) :
    v.readCov (Val := Val) (⟨r1, b⟩ :: L) r0.toLoadRect = v.readCov L r0.toLoadRect :=
  View.readCov_cons_of_disjoint v _ _ _ h.dis.symm

theorem Pair.r0 {r0 r1 : Rect S} (h : Pair r0 r1) (v : View sig κ sp S e) (b L) :
    v.readCov (Val := Val) (⟨r0, b⟩ :: L) r1.toLoadRect = v.readCov L r1.toLoadRect :=
  View.readCov_cons_of_disjoint v _ _ _ h.dis

/-- A buffer whose two slabs were written, over whatever it held; -/
theorem Pair.two {r0 r1 : Rect S} (h : Pair r0 r1) (v : View sig κ sp S e) (f) (a b) :
    v.read Val (v.writes Val f [⟨r1, b⟩, ⟨r0, a⟩]) = v.read Val (v.writes Val v.junk [⟨r1, b⟩, ⟨r0, a⟩]) := by
  have hc : ∀ y, ∃ p ∈ ([⟨r1, b⟩, ⟨r0, a⟩] : List (View.Piece Val S e)), y ∈ p.1.set := by
    intro y
    rcases h.cov y with hy | hy
    · exact ⟨⟨r0, a⟩, by simp, hy⟩
    · exact ⟨⟨r1, b⟩, by simp, hy⟩
  funext y
  rw [View.read_writes_apply_eq_canon v _ y _ (hc y), View.read_writes_apply_eq_canon v _ y _ (hc y)]

/-- whose contents are read off as its two slabs; -/
theorem Pair.split {r0 r1 : Rect S} (h : Pair r0 r1) (v : View sig κ sp S e) (f) :
    v.read Val f = v.read Val (v.writes Val v.junk [⟨r1, View.ld (v.read Val f) r1⟩, ⟨r0, View.ld (v.read Val f) r0⟩]) := by
  funext y
  by_cases h1 : y ∈ r1.set
  · obtain ⟨x, rfl⟩ := r1.exists_idx_of_mem h1
    exact (View.read_writes_cons_emb v v.junk r1 (View.ld (v.read Val f) r1) [⟨r0, View.ld (v.read Val f) r0⟩] x).symm
  · rcases h.cov y with hy | hy
    · obtain ⟨x, rfl⟩ := r0.exists_idx_of_mem hy
      rw [View.read_writes_apply_eq_canon v _ _ _ ⟨⟨r0, View.ld (v.read Val f) r0⟩, by simp, hy⟩, View.canon_cons_of_not_mem _ _ h1]
      exact (View.canon_cons_emb r0 (View.ld (v.read Val f) r0) [] x).symm
    · exact absurd hy h1

/-- whose first slab was written over contents `f`. -/
theorem Pair.over {r0 r1 : Rect S} (h : Pair r0 r1) (v : View sig κ sp S e) (f) (a) :
    v.read Val (v.writes Val f [⟨r0, a⟩]) = v.read Val (v.writes Val v.junk [⟨r1, View.ld (v.read Val f) r1⟩, ⟨r0, a⟩]) := by
  rw [h.split v (v.writes Val f [⟨r0, a⟩])]
  have e1 : View.ld (v.read Val (v.writes Val f [⟨r0, a⟩])) r1 = View.ld (v.read Val f) r1 := by
    funext x
    show v.read Val (v.writes Val f [⟨r0, a⟩]) (r1.emb x) = v.read Val f (r1.emb x)
    have hx : r1.emb x ∉ Finset.univ.map r0.emb := by
      rw [Rect.map_emb_univ]
      intro hm
      exact Finset.disjoint_left.mp h.dis hm (r1.idx_mem x)
    rw [View.writes_cons, View.read_slice_write_of_not_mem r0 _ _ _ hx]; rfl
  have e0 : View.ld (v.read Val (v.writes Val f [⟨r0, a⟩])) r0 = a := by
    funext x
    exact View.read_writes_cons_emb ..
  rw [e1, e0]

/-- A buffer written whole reads as what was written, -/
theorem read_unit_zero {off : Fin S.rank → Nat} (h : off = fun _ => 0) (inb : ∀ a, off a + S.size a ≤ S.size a) (v : View sig κ sp S e) (f) (w : S.Idx → Val e) :
    v.read Val (v.writes Val f [⟨Rect.unit off S.size inb, w⟩]) = w := by
  funext y
  rw [View.read_writes_apply_eq_canon v f y _ ⟨⟨Rect.unit off S.size inb, w⟩, by simp, View.mem_set_unit_zero h inb y⟩, View.canon_unit_zero h inb w]

/-- and so does a part of it. -/
theorem readCov_whole {off : Fin S.rank → Nat} (h : off = fun _ => 0) (inb : ∀ a, off a + S.size a ≤ S.size a) (v : View sig κ sp S e) (w : S.Idx → Val e) (r : Rect S) :
    v.readCov (Val := Val) [⟨Rect.unit off S.size inb, w⟩] r.toLoadRect = View.ld w r := by
  rw [View.readCov_eq_canon_ld v _ r (fun y => ⟨⟨Rect.unit off S.size inb, w⟩, by simp, View.mem_set_unit_zero h inb y⟩), View.canon_unit_zero h inb w]

theorem Pair.splitWhole {r0 r1 : Rect S} (h : Pair r0 r1) {off : Fin S.rank → Nat} (h0 : off = fun _ => 0) (inb : ∀ a, off a + S.size a ≤ S.size a) (v : View sig κ sp S e) (f) (w : S.Idx → Val e) :
    v.read Val (v.writes Val f [⟨Rect.unit off S.size inb, w⟩]) = v.read Val (v.writes Val v.junk [⟨r1, View.ld w r1⟩, ⟨r0, View.ld w r0⟩]) := by
  rw [h.split v (v.writes Val f [⟨Rect.unit off S.size inb, w⟩]), read_unit_zero h0]

theorem Pair.overWhole {r0 r1 : Rect S} (h : Pair r0 r1) {off : Fin S.rank → Nat} (h0 : off = fun _ => 0) (inb : ∀ a, off a + S.size a ≤ S.size a) (v : View sig κ sp S e) (f) (w : S.Idx → Val e) (a) :
    v.read Val (v.writes Val f [⟨r0, a⟩, ⟨Rect.unit off S.size inb, w⟩]) = v.read Val (v.writes Val v.junk [⟨r1, View.ld w r1⟩, ⟨r0, a⟩]) := by
  have := h.over v (v.writes Val f [⟨Rect.unit off S.size inb, w⟩]) a
  rw [read_unit_zero h0] at this
  exact this

end Slabs

theorem zero4 : (![0, 0, 0, 0] : Fin 4 → Nat) = fun _ => 0 := by decide
theorem zero3 : (![0, 0, 0] : Fin 3 → Nat) = fun _ => 0 := by decide
theorem zero2 : (![0, 0] : Fin 2 → Nat) = fun _ => 0 := by decide

section
variable {Val : EltTy → Type} [∀ e, Nonempty (Val e)]
theorem pt_read_congr (c : Thread nD τ) {sp : Space} {s : Shape} {e : EltTy} (m : Memref sig c.2.kind sp s e) (f g : Buf (Elt F) (m.view.loc c)) (q : PosShare TreeShare)
    (h : m.view.read (Elt F) f = m.view.read (Elt F) g) :
    (m.view.loc c ↦[m.view.set]{q} f : sProp (𝕄 F nD τ)) ⊢ m.view.loc c ↦[m.view.set]{q} g :=
  Entails.of_eq (by rw [pointsTo_rep c m f, h, ← pointsTo_rep c m g])
end

theorem two_slabs {S : Shape} {a : Fin S.rank} {o0 o1 z : Fin S.rank → Nat} {i0 i1} (h0 : o0 a = 0) (h1 : o1 a = 1) (hz : z a = 1 ∧ S.size a = 2)
    (h : ∀ b, b ≠ a → o0 b = 0 ∧ o1 b = 0 ∧ z b = S.size b) (y : S.Idx) :
    y ∈ (Rect.unit (s := S) o0 z i0).set ∨ y ∈ (Rect.unit (s := S) o1 z i1).set := by
  rw [Rect.mem_set_unit, Rect.mem_set_unit]
  have hy := (y a).isLt
  by_cases hh : (y a).val = 0
  · refine .inl fun b => ?_
    by_cases hb : b = a
    · subst hb; omega
    · have := h b hb; have := (y b).isLt; omega
  · refine .inr fun b => ?_
    by_cases hb : b = a
    · subst hb; omega
    · have := h b hb; have := (y b).isLt; omega

theorem pairQ : Pair (Rect.unit (s := S2x512x128) ![0, 0, 0] S1x512x128.size inb_S2x512x128_S1x512x128_0_0_0) (Rect.unit (s := S2x512x128) ![1, 0, 0] S1x512x128.size inb_S2x512x128_S1x512x128_1_0_0) :=
  ⟨Rect.unit_disjoint 0 (by decide), two_slabs (a := 0) rfl rfl ⟨rfl, rfl⟩ (fun a h => by fin_cases a <;> first | exact absurd rfl h | exact ⟨rfl, rfl, rfl⟩)⟩
theorem pairS : Pair (Rect.unit (s := S2x512x512) ![0, 0, 0] S1x512x512.size inb_S2x512x512_S1x512x512_0_0_0) (Rect.unit (s := S2x512x512) ![1, 0, 0] S1x512x512.size inb_S2x512x512_S1x512x512_1_0_0) :=
  ⟨Rect.unit_disjoint 0 (by decide), two_slabs (a := 0) rfl rfl ⟨rfl, rfl⟩ (fun a h => by fin_cases a <;> first | exact absurd rfl h | exact ⟨rfl, rfl, rfl⟩)⟩
theorem pairM : Pair (Rect.unit (s := S2x1x512) ![0, 0, 0] S1x1x512.size inb_S2x1x512_S1x1x512_0_0_0) (Rect.unit (s := S2x1x512) ![1, 0, 0] S1x1x512.size inb_S2x1x512_S1x1x512_1_0_0) :=
  ⟨Rect.unit_disjoint 0 (by decide), two_slabs (a := 0) rfl rfl ⟨rfl, rfl⟩ (fun a h => by fin_cases a <;> first | exact absurd rfl h | exact ⟨rfl, rfl, rfl⟩)⟩
theorem pairA : Pair (Rect.unit (s := S2x144x512) ![0, 0, 0] S1x144x512.size inb_S2x144x512_S1x144x512_0_0_0) (Rect.unit (s := S2x144x512) ![1, 0, 0] S1x144x512.size inb_S2x144x512_S1x144x512_1_0_0) :=
  ⟨Rect.unit_disjoint 0 (by decide), two_slabs (a := 0) rfl rfl ⟨rfl, rfl⟩ (fun a h => by fin_cases a <;> first | exact absurd rfl h | exact ⟨rfl, rfl, rfl⟩)⟩

end Cert.Proof.KernelIdeal.Attn
-- ==== Proof.AttnTrip.lean ====
module

public import proofs.«01_k».proof.Proof.AttnState
public import Idealize.ShloMosaic.Lib.LoopRemainder
public import Idealize.ShloMosaic.Lib.Tactic.Stretches
public import Idealize.ShloMosaic.Lib.Pipeline.FrameBody

@[expose] public section

set_option maxRecDepth 16384

noncomputable section

namespace Cert.Proof.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section Trip
variable (c : Dev nD) (i : grid2.Coords)
  (arg3 : Memref sig .tc .vmem S512x128 .bf16) (harg3 : arg3.IsWhole)
  (arg4 : Memref sig .tc .vmem S8192x128 .bf16) (harg4 : arg4.IsWhole)
  (arg5 : Memref sig .tc .vmem S16x144x512 .bf16) (harg5 : arg5.IsWhole)
  (arg6 : Memref sig .tc .vmem S1x3x512x512 .f32) (harg6 : arg6.IsWhole)
  (arg7 : Memref sig .tc .smem S32x4 .f32) (harg7 : arg7.IsWhole)
  (arg8 : Memref sig .tc .vmem S4x64 .f32) (harg8 : arg8.IsWhole)
  (arg9 : Memref sig .tc .vmem S128x1 .f32) (harg9 : arg9.IsWhole)
  (arg10 : Memref sig .tc .vmem S512x128 .bf16) (harg10 : arg10.IsWhole)
  (arg11 : Memref sig .tc .vmem S2x512x128 .bf16) (harg11 : arg11.IsWhole)
  (arg12 : Memref sig .tc .vmem S2x512x512 .f32) (harg12 : arg12.IsWhole)
  (arg13 : Memref sig .tc .vmem S2x1x512 .f32) (harg13 : arg13.IsWhole)
  (arg14 : Memref sig .tc .vmem S2x1x512 .f32) (harg14 : arg14.IsWhole)
  (arg15 : Memref sig .tc .vmem S2x512x512 .bf16) (harg15 : arg15.IsWhole)
  (arg16 : Memref sig .tc .vmem S2x1x512 .f32) (harg16 : arg16.IsWhole)
  (arg17 : Memref sig .tc .vmem S2x1x512 .f32) (harg17 : arg17.IsWhole)
  (arg18 : Memref sig .tc .vmem S2x144x512 .f32) (harg18 : arg18.IsWhole)
  (q4 q5 q6 : PosShare TreeShare)
  (K : Vec F S8192x128 .bf16) (VT : Vec F S16x144x512 .bf16) (B : Vec F S1x3x512x512 .f32)
  (qz0 qz1 : Vec F S1x512x128 .bf16)
  (arg2 : BitVec 32) (v27 : F .f32) (v84 : FVec F S1x512 .f32) (v106 : BitVec 32)

abbrev RES (s : St F) : sProp (𝕄 F nD τ) :=
  iprop((arg4.view.loc (c : Thread nD τ) ↦[arg4.view.set]{q4} (arg4.view.rep K))
    ∗ (arg5.view.loc (c : Thread nD τ) ↦[arg5.view.set]{q5} (arg5.view.rep VT))
    ∗ (arg6.view.loc (c : Thread nD τ) ↦[arg6.view.set]{q6} (arg6.view.rep B))
    ∗ (arg11.view.loc (c : Thread nD τ) ↦[arg11.view.set]{fullShare} (arg11.view.writes (Elt F) arg11.view.junk [⟨Rect.unit (s := S2x512x128) ![1, 0, 0] S1x512x128.size inb_S2x512x128_S1x512x128_1_0_0, qz1⟩, ⟨Rect.unit (s := S2x512x128) ![0, 0, 0] S1x512x128.size inb_S2x512x128_S1x512x128_0_0_0, qz0⟩]))
    ∗ (arg12.view.loc (c : Thread nD τ) ↦[arg12.view.set]{fullShare} (arg12.view.writes (Elt F) arg12.view.junk [⟨Rect.unit (s := S2x512x512) ![1, 0, 0] S1x512x512.size inb_S2x512x512_S1x512x512_1_0_0, s.st1⟩, ⟨Rect.unit (s := S2x512x512) ![0, 0, 0] S1x512x512.size inb_S2x512x512_S1x512x512_0_0_0, s.st0⟩]))
    ∗ (arg13.view.loc (c : Thread nD τ) ↦[arg13.view.set]{fullShare} (arg13.view.writes (Elt F) arg13.view.junk [⟨Rect.unit (s := S2x1x512) ![1, 0, 0] S1x1x512.size inb_S2x1x512_S1x1x512_1_0_0, s.cm1⟩, ⟨Rect.unit (s := S2x1x512) ![0, 0, 0] S1x1x512.size inb_S2x1x512_S1x1x512_0_0_0, s.cm0⟩]))
    ∗ (arg14.view.loc (c : Thread nD τ) ↦[arg14.view.set]{fullShare} (arg14.view.writes (Elt F) arg14.view.junk [⟨Rect.unit (s := S2x1x512) ![1, 0, 0] S1x1x512.size inb_S2x1x512_S1x1x512_1_0_0, s.sh1⟩, ⟨Rect.unit (s := S2x1x512) ![0, 0, 0] S1x1x512.size inb_S2x1x512_S1x1x512_0_0_0, s.sh0⟩]))
    ∗ (∃ p1, arg15.view.loc (c : Thread nD τ) ↦[arg15.view.set]{fullShare} (arg15.view.writes (Elt F) arg15.view.junk [⟨Rect.unit (s := S2x512x512) ![1, 0, 0] S1x512x512.size inb_S2x512x512_S1x512x512_1_0_0, p1⟩, ⟨Rect.unit (s := S2x512x512) ![0, 0, 0] S1x512x512.size inb_S2x512x512_S1x512x512_0_0_0, s.p0⟩]))
    ∗ (∃ al1, arg16.view.loc (c : Thread nD τ) ↦[arg16.view.set]{fullShare} (arg16.view.writes (Elt F) arg16.view.junk [⟨Rect.unit (s := S2x1x512) ![1, 0, 0] S1x1x512.size inb_S2x1x512_S1x1x512_1_0_0, al1⟩, ⟨Rect.unit (s := S2x1x512) ![0, 0, 0] S1x1x512.size inb_S2x1x512_S1x1x512_0_0_0, s.al0⟩]))
    ∗ (arg17.view.loc (c : Thread nD τ) ↦[arg17.view.set]{fullShare} (arg17.view.writes (Elt F) arg17.view.junk [⟨Rect.unit (s := S2x1x512) ![1, 0, 0] S1x1x512.size inb_S2x1x512_S1x1x512_1_0_0, s.m1⟩, ⟨Rect.unit (s := S2x1x512) ![0, 0, 0] S1x1x512.size inb_S2x1x512_S1x1x512_0_0_0, s.m0⟩]))
    ∗ (arg18.view.loc (c : Thread nD τ) ↦[arg18.view.set]{fullShare} (arg18.view.writes (Elt F) arg18.view.junk [⟨Rect.unit (s := S2x144x512) ![1, 0, 0] S1x144x512.size inb_S2x144x512_S1x144x512_1_0_0, s.acc1⟩, ⟨Rect.unit (s := S2x144x512) ![0, 0, 0] S1x144x512.size inb_S2x144x512_S1x144x512_0_0_0, s.acc0⟩])))

/-- One trip of the loop over the far key tiles takes the state to its step. -/
theorem trip_far (k : Fin (k2_t1_loop i).trips) (s : St F) :
    RES c arg4 arg5 arg6 arg11 arg12 arg13 arg14 arg15 arg16 arg17 arg18 q4 q5 q6 K VT B qz0 qz1 s
      ⊢ wp Idealize.ShloMosaic.frame (wpE (defs₀ (F := F)) 𝒱₀ (c : Thread nD τ) none) Set.univ
          (k2_t1_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v27 v84 k ())
          (fun _ => RES c arg4 arg5 arg6 arg11 arg12 arg13 arg14 arg15 arg16 arg17 arg18 q4 q5 q6 K VT B qz0 qz1 (farStep i K VT qz0 qz1 v27 s k)) := by
  iintro ⟨H4, H5, H6, H11, H12, H13, H14, ⟨%p1, H15⟩, ⟨%al1, H16⟩, H17, H18⟩
  unfold k2_t1_body
  sl_exec
  sl_step
  isplitl [H4]; · iexact H4
  isplitl [H5]; · iexact H5
  isplitl [H6]; · iexact H6
  isplitl [H11]; · iexact H11
  isplitl [H12]
  · refine Entails.of_eq (congrArg _ ?_)
    sl_open_run
    simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
    rfl
  isplitl [H13]
  · refine Entails.of_eq (congrArg _ ?_)
    sl_open_run
    simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
    rfl
  isplitl [H14]
  · refine Entails.of_eq (congrArg _ ?_)
    sl_open_run
    simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
    rfl
  isplitl [H15]
  · iexists (k2_pay12 s.m1 s.cm1 s.st1 s.sh1)
    refine Entails.of_eq (congrArg _ ?_)
    sl_open_run
    simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
    rfl
  isplitl [H16]
  · iexists (k2_pay11 s.m1 s.cm1)
    refine Entails.of_eq (congrArg _ ?_)
    sl_open_run
    simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
    rfl
  isplitl [H17]
  · refine Entails.of_eq (congrArg _ ?_)
    sl_open_run
    simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
    rfl
  refine Entails.of_eq (congrArg _ ?_)
  sl_open_run
  simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
  rfl

/-- One trip of the loop over the near key tiles takes the state to its step. -/
theorem trip_near (k : Fin (k2_t3_loop i).trips) (s : St F) :
    RES c arg4 arg5 arg6 arg11 arg12 arg13 arg14 arg15 arg16 arg17 arg18 q4 q5 q6 K VT B qz0 qz1 s
      ⊢ wp Idealize.ShloMosaic.frame (wpE (defs₀ (F := F)) 𝒱₀ (c : Thread nD τ) none) Set.univ
          (k2_t3_body (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg2 v27 v84 v106 k ())
          (fun _ => RES c arg4 arg5 arg6 arg11 arg12 arg13 arg14 arg15 arg16 arg17 arg18 q4 q5 q6 K VT B qz0 qz1 (nearStep i K VT B qz0 qz1 s k)) := by
  iintro ⟨H4, H5, H6, H11, H12, H13, H14, ⟨%p1, H15⟩, ⟨%al1, H16⟩, H17, H18⟩
  unfold k2_t3_body
  sl_exec
  sl_step
  isplitl [H4]; · iexact H4
  isplitl [H5]; · iexact H5
  isplitl [H6]; · iexact H6
  isplitl [H11]; · iexact H11
  isplitl [H12]
  · refine Entails.of_eq (congrArg _ ?_)
    sl_open_run
    simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
    rfl
  isplitl [H13]
  · refine Entails.of_eq (congrArg _ ?_)
    sl_open_run
    simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
    rfl
  isplitl [H14]
  · refine Entails.of_eq (congrArg _ ?_)
    sl_open_run
    simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
    rfl
  isplitl [H15]
  · iexists (k2_pay12 s.m1 s.cm1 s.st1 s.sh1)
    refine Entails.of_eq (congrArg _ ?_)
    sl_open_run
    simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
    rfl
  isplitl [H16]
  · iexists (k2_pay11 s.m1 s.cm1)
    refine Entails.of_eq (congrArg _ ?_)
    sl_open_run
    simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
    rfl
  isplitl [H17]
  · refine Entails.of_eq (congrArg _ ?_)
    sl_open_run
    simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
    rfl
  refine Entails.of_eq (congrArg _ ?_)
  sl_open_run
  simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
  rfl

end Trip
end Cert.Proof.KernelIdeal.Attn
-- ==== Proof.AttnBody.lean ====
module

public import proofs.«01_k».proof.Proof.AttnTrip
public import Idealize.ShloMosaic.Lib.LoopRemainder
public import Idealize.ShloMosaic.Lib.Tactic.Stretches
public import Idealize.ShloMosaic.Lib.Pipeline.FrameBody

@[expose] public section

set_option maxRecDepth 16384

noncomputable section

namespace Cert.Proof.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section Body
variable (c : Dev nD) (i : grid2.Coords)
  (arg3 : Memref sig .tc .vmem S512x128 .bf16) (harg3 : arg3.IsWhole)
  (arg4 : Memref sig .tc .vmem S8192x128 .bf16) (harg4 : arg4.IsWhole)
  (arg5 : Memref sig .tc .vmem S16x144x512 .bf16) (harg5 : arg5.IsWhole)
  (arg6 : Memref sig .tc .vmem S1x3x512x512 .f32) (harg6 : arg6.IsWhole)
  (arg7 : Memref sig .tc .smem S32x4 .f32) (harg7 : arg7.IsWhole)
  (arg8 : Memref sig .tc .vmem S4x64 .f32) (harg8 : arg8.IsWhole)
  (arg9 : Memref sig .tc .vmem S128x1 .f32) (harg9 : arg9.IsWhole)
  (arg10 : Memref sig .tc .vmem S512x128 .bf16) (harg10 : arg10.IsWhole)
  (arg11 : Memref sig .tc .vmem S2x512x128 .bf16) (harg11 : arg11.IsWhole)
  (arg12 : Memref sig .tc .vmem S2x512x512 .f32) (harg12 : arg12.IsWhole)
  (arg13 : Memref sig .tc .vmem S2x1x512 .f32) (harg13 : arg13.IsWhole)
  (arg14 : Memref sig .tc .vmem S2x1x512 .f32) (harg14 : arg14.IsWhole)
  (arg15 : Memref sig .tc .vmem S2x512x512 .bf16) (harg15 : arg15.IsWhole)
  (arg16 : Memref sig .tc .vmem S2x1x512 .f32) (harg16 : arg16.IsWhole)
  (arg17 : Memref sig .tc .vmem S2x1x512 .f32) (harg17 : arg17.IsWhole)
  (arg18 : Memref sig .tc .vmem S2x144x512 .f32) (harg18 : arg18.IsWhole)

  (q3 q4 q5 q6 q7 q8 q9 : PosShare TreeShare)
  (Q : Vec F S512x128 .bf16) (K : Vec F S8192x128 .bf16) (VT : Vec F S16x144x512 .bf16) (B : Vec F S1x3x512x512 .f32)
  (RB : Vec F S32x4 .f32) (LM : Vec F S4x64 .f32) (GS : Vec F S128x1 .f32)

set_option maxHeartbeats 4000000 in
theorem body_run : iprop((arg3.view.loc (c : Thread nD τ) ↦[arg3.view.set]{q3} (arg3.view.rep Q))
    ∗ (arg4.view.loc (c : Thread nD τ) ↦[arg4.view.set]{q4} (arg4.view.rep K))
    ∗ (arg5.view.loc (c : Thread nD τ) ↦[arg5.view.set]{q5} (arg5.view.rep VT))
    ∗ (arg6.view.loc (c : Thread nD τ) ↦[arg6.view.set]{q6} (arg6.view.rep B))
    ∗ (arg7.view.loc (c : Thread nD τ) ↦[arg7.view.set]{q7} (arg7.view.rep RB))
    ∗ (arg8.view.loc (c : Thread nD τ) ↦[arg8.view.set]{q8} (arg8.view.rep LM))
    ∗ (arg9.view.loc (c : Thread nD τ) ↦[arg9.view.set]{q9} (arg9.view.rep GS))
    ∗ (∃ f10, arg10.view.loc (c : Thread nD τ) ↦[arg10.view.set]{fullShare} f10)
    ∗ (∃ f11, arg11.view.loc (c : Thread nD τ) ↦[arg11.view.set]{fullShare} f11)
    ∗ (∃ f12, arg12.view.loc (c : Thread nD τ) ↦[arg12.view.set]{fullShare} f12)
    ∗ (∃ f13, arg13.view.loc (c : Thread nD τ) ↦[arg13.view.set]{fullShare} f13)
    ∗ (∃ f14, arg14.view.loc (c : Thread nD τ) ↦[arg14.view.set]{fullShare} f14)
    ∗ (∃ f15, arg15.view.loc (c : Thread nD τ) ↦[arg15.view.set]{fullShare} f15)
    ∗ (∃ f16, arg16.view.loc (c : Thread nD τ) ↦[arg16.view.set]{fullShare} f16)
    ∗ (∃ f17, arg17.view.loc (c : Thread nD τ) ↦[arg17.view.set]{fullShare} f17)
    ∗ (∃ f18, arg18.view.loc (c : Thread nD τ) ↦[arg18.view.set]{fullShare} f18))
   ⊢ (wp Idealize.ShloMosaic.frame (wpE (defs₀ (F := F)) 𝒱₀ (c : Thread nD τ) none) Set.univ
          (cc2_attn_prompt (F := F) i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18)
          (fun _ => iprop((arg3.view.loc (c : Thread nD τ) ↦[arg3.view.set]{q3} (arg3.view.rep Q))
    ∗ (arg4.view.loc (c : Thread nD τ) ↦[arg4.view.set]{q4} (arg4.view.rep K))
    ∗ (arg5.view.loc (c : Thread nD τ) ↦[arg5.view.set]{q5} (arg5.view.rep VT))
    ∗ (arg6.view.loc (c : Thread nD τ) ↦[arg6.view.set]{q6} (arg6.view.rep B))
    ∗ (arg7.view.loc (c : Thread nD τ) ↦[arg7.view.set]{q7} (arg7.view.rep RB))
    ∗ (arg8.view.loc (c : Thread nD τ) ↦[arg8.view.set]{q8} (arg8.view.rep LM))
    ∗ (arg9.view.loc (c : Thread nD τ) ↦[arg9.view.set]{q9} (arg9.view.rep GS))
    ∗ (arg10.view.loc (c : Thread nD τ) ↦[arg10.view.set]{fullShare} (arg10.view.rep (attnOut i Q K VT B RB LM GS)))
    ∗ (∃ f11, arg11.view.loc (c : Thread nD τ) ↦[arg11.view.set]{fullShare} f11)
    ∗ (∃ f12, arg12.view.loc (c : Thread nD τ) ↦[arg12.view.set]{fullShare} f12)
    ∗ (∃ f13, arg13.view.loc (c : Thread nD τ) ↦[arg13.view.set]{fullShare} f13)
    ∗ (∃ f14, arg14.view.loc (c : Thread nD τ) ↦[arg14.view.set]{fullShare} f14)
    ∗ (∃ f15, arg15.view.loc (c : Thread nD τ) ↦[arg15.view.set]{fullShare} f15)
    ∗ (∃ f16, arg16.view.loc (c : Thread nD τ) ↦[arg16.view.set]{fullShare} f16)
    ∗ (∃ f17, arg17.view.loc (c : Thread nD τ) ↦[arg17.view.set]{fullShare} f17)
    ∗ (∃ f18, arg18.view.loc (c : Thread nD τ) ↦[arg18.view.set]{fullShare} f18))) : sProp (𝕄 F nD τ)) := by
  iintro ⟨H3, H4, H5, H6, H7, H8, H9, ⟨%f10, H10⟩, ⟨%f11, H11⟩, ⟨%f12, H12⟩, ⟨%f13, H13⟩, ⟨%f14, H14⟩, ⟨%f15, H15⟩, ⟨%f16, H16⟩, ⟨%f17, H17⟩, ⟨%f18, H18⟩⟩
  rw [cc2_attn_prompt_eq_skeleton]
  unfold cc2_attn_prompt_skel
  simp only [k2_part20_eq_skeleton]
  sl_exec
  sl_for (fun k _ => RES c arg4 arg5 arg6 arg11 arg12 arg13 arg14 arg15 arg16 arg17 arg18 q4 q5 q6 K VT B (qzA Q) (qzB Q) (farSt i Q K VT B RB k)) $$ [H4 H5 H6 H11 H12 H13 H14 H15 H16 H17 H18]
  · intro k acc
    have hr : body_run.sl.r_1 i arg7 RB = farBias i RB := by
      unfold body_run.sl.r_1 body_run.sl.r farBias
      rw [View.readAt_rep]
    have hs : farSt i Q K VT B RB (k.val + 1) = farStep i K VT (qzA Q) (qzB Q) (body_run.sl.r_1 i arg7 RB) (farSt i Q K VT B RB k.val) k := by
      rw [hr, farSt, after_succ]
    rw [hs]
    unfold body_run.sl.prog.body_1
    exact trip_far c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q4 q5 q6 K VT B (qzA Q) (qzB Q) (BitVec.ofNat 32 (i 2).val) (body_run.sl.r_1 i arg7 RB) (fun _ => Scalar.ofBits .f32 0#32) k _
  · isplitl [H4]; · iexact H4
    isplitl [H5]; · iexact H5
    isplitl [H6]; · iexact H6
    isplitl [H11]
    · refine pt_read_congr c arg11 _ _ _ ?_
      sl_open_run
      rw [pairQ.two]
      simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep, View.readAt_rep]
      rfl
    isplitl [H12]
    · refine pt_read_congr c arg12 _ _ _ ?_
      sl_open_run
      rw [pairS.two]
      simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep, View.readAt_rep]
      rfl
    isplitl [H13]
    · refine pt_read_congr c arg13 _ _ _ ?_
      sl_open_run
      rw [pairM.two]
      simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep, View.readAt_rep]
      rfl
    isplitl [H14]
    · refine pt_read_congr c arg14 _ _ _ ?_
      sl_open_run
      rw [pairM.two]
      simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep, View.readAt_rep]
      rfl
    isplitl [H15]
    · iexists (View.ld (arg15.view.read (Elt F) f15) (Rect.unit (s := S2x512x512) ![1, 0, 0] S1x512x512.size inb_S2x512x512_S1x512x512_1_0_0))
      refine pt_read_congr c arg15 _ _ _ ?_
      sl_open_run
      rw [pairS.over]
      simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep, View.readAt_rep, readCov_whole (S := S2x1x512) zero3]
      rfl
    isplitl [H16]
    · iexists (View.ld (arg16.view.read (Elt F) f16) (Rect.unit (s := S2x1x512) ![1, 0, 0] S1x1x512.size inb_S2x1x512_S1x1x512_1_0_0))
      refine pt_read_congr c arg16 _ _ _ ?_
      sl_open_run
      rw [pairM.over]
      simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep, View.readAt_rep, readCov_whole (S := S2x1x512) zero3]
      rfl
    isplitl [H17]
    · refine pt_read_congr c arg17 _ _ _ ?_
      sl_open_run
      rw [pairM.overWhole zero3]
      simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep, readCov_whole (S := S2x1x512) zero3]
      rfl
    refine pt_read_congr c arg18 _ _ _ ?_
    sl_open_run
    rw [pairA.splitWhole zero3]
    rfl
  iintro %acc ⟨H4, H5, H6, H11, H12, H13, H14, ⟨%p1, H15⟩, ⟨%al1, H16⟩, H17, H18⟩
  sl_exec
  sl_for (fun k _ => RES c arg4 arg5 arg6 arg11 arg12 arg13 arg14 arg15 arg16 arg17 arg18 q4 q5 q6 K VT B (qzA Q) (qzB Q) (nearSt i Q K VT B RB k)) $$ [H4 H5 H6 H11 H12 H13 H14 H15 H16 H17 H18]
  · intro k acc
    rw [nearSt, after_succ]
    exact trip_near c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 q4 q5 q6 K VT B (qzA Q) (qzB Q) (BitVec.ofNat 32 (i 2).val) (farBias i RB) (fun _ => Scalar.ofBits .f32 0#32) _ k _
  · isplitl [H4]; · iexact H4
    isplitl [H5]; · iexact H5
    isplitl [H6]; · iexact H6
    isplitl [H11]; · iexact H11
    isplitl [H12]; · iexact H12
    isplitl [H13]; · iexact H13
    isplitl [H14]; · iexact H14
    isplitl [H15]; · iexists p1; iexact H15
    isplitl [H16]; · iexists al1; iexact H16
    isplitl [H17]; · iexact H17
    iexact H18
  iintro %acc ⟨H4, H5, H6, H11, H12, H13, H14, ⟨%p1, H15⟩, ⟨%al1, H16⟩, H17, H18⟩
  sl_exec
  sl_step
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · refine pt_read_congr c arg10 _ _ _ ?_
    sl_open_run
    rw [read_unit_zero zero2, View.read_rep]
    simp only [pairS.w1010, pairS.w0110, pairM.w1010, pairM.w0110, pairA.w1010, pairA.w0110, pairS.r0, pairS.r1, pairM.r0, pairM.r1, pairA.r0, pairA.r1, pairQ.r0, pairQ.r1, View.readCov_cons_toLoadRect, View.readAt_rep]
    first | rfl | (unfold attnOut outOf; rfl)
  isplitl [H11]; · iexists _; iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  iexists _; iexact H18
end Body
end Cert.Proof.KernelIdeal.Attn
-- ==== Proof.BiasBody.lean ====
module

public import proofs.«01_k».proof.Proof.AttnState
public import Idealize.ShloMosaic.Lib.LoopRemainder
public import Idealize.ShloMosaic.Lib.Tactic.Stretches
public import Idealize.ShloMosaic.Lib.Pipeline.FrameBody

@[expose] public section

set_option maxRecDepth 16384

noncomputable section

namespace Cert.Proof.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The word of the bias table that one scalar load reads. -/
def word0 (RB : Vec F S32x4 .f32) (off : Fin S32x4.rank → Nat) (h : ∀ a, off a + S1x1.size a ≤ S32x4.size a) : Elt F .f32 :=
  View.ld RB (Rect.unit (s := S32x4) off S1x1.size h) (Shape.Idx.first (s := S1x1) (numel1_S1x1.symm ▸ Nat.one_pos))

/-- One tile of the bias table by distance: for each pair of positions the bias of its bucket, and the mask below the diagonal. -/
def biasOut (i : grid0.Coords) (RB : Vec F S32x4 .f32) : FVec F S1x1x512x512 .f32 :=
  let b := k0_pay3 (F := F) i
  let v38 := k0_pay4 i (word0 RB (k0_off1 i) (k0_off1_inb i)) (word0 RB (k0_off2 i) (k0_off2_inb i))
  let v86 := k0_pay6 b v38 (k0_pay5 (F := F) i) (word0 RB (k0_off3 i) (k0_off3_inb i)) (word0 RB (k0_off4 i) (k0_off4_inb i)) (word0 RB (k0_off5 i) (k0_off5_inb i)) (word0 RB (k0_off6 i) (k0_off6_inb i)) (word0 RB (k0_off7 i) (k0_off7_inb i)) (word0 RB (k0_off8 i) (k0_off8_inb i)) (word0 RB (k0_off9 i) (k0_off9_inb i)) (word0 RB (k0_off10 i) (k0_off10_inb i))
  let v128 := k0_pay7 b v86 10#32 (word0 RB (k0_off11 i) (k0_off11_inb i)) (word0 RB (k0_off12 i) (k0_off12_inb i)) (word0 RB (k0_off13 i) (k0_off13_inb i)) (word0 RB (k0_off14 i) (k0_off14_inb i)) (word0 RB (k0_off15 i) (k0_off15_inb i)) (word0 RB (k0_off16 i) (k0_off16_inb i)) (word0 RB (k0_off17 i) (k0_off17_inb i))
  let v176 := k0_pay9 b v128 (k0_pay8 b) (word0 RB (k0_off18 i) (k0_off18_inb i)) (word0 RB (k0_off19 i) (k0_off19_inb i)) (word0 RB (k0_off20 i) (k0_off20_inb i)) (word0 RB (k0_off21 i) (k0_off21_inb i)) (word0 RB (k0_off22 i) (k0_off22_inb i)) (word0 RB (k0_off23 i) (k0_off23_inb i)) (word0 RB (k0_off24 i) (k0_off24_inb i)) (word0 RB (k0_off25 i) (k0_off25_inb i))
  let v218 := k0_pay10 b v176 25#32 (word0 RB (k0_off26 i) (k0_off26_inb i)) (word0 RB (k0_off27 i) (k0_off27_inb i)) (word0 RB (k0_off28 i) (k0_off28_inb i)) (word0 RB (k0_off29 i) (k0_off29_inb i)) (word0 RB (k0_off30 i) (k0_off30_inb i)) (word0 RB (k0_off31 i) (k0_off31_inb i)) (word0 RB (k0_off32 i) (k0_off32_inb i))
  k0_pay1 v218 (k0_pay11 (k0_pay2 i)) (k0_pay12 (F := F))

set_option maxHeartbeats 4000000 in
/-- One call of the bias kernel leaves that tile. -/
theorem bias_run (c : Dev nD) (i : grid0.Coords)
  (arg2 : Memref sig .tc .smem S32x4 .f32) (harg2 : arg2.IsWhole)
  (arg3 : Memref sig .tc .vmem S1x1x512x512 .f32) (harg3 : arg3.IsWhole) (q2 : PosShare TreeShare) (RB : Vec F S32x4 .f32) :
  iprop((arg2.view.loc (c : Thread nD τ) ↦[arg2.view.set]{q2} (arg2.view.rep RB))
    ∗ (∃ f3, arg3.view.loc (c : Thread nD τ) ↦[arg3.view.set]{fullShare} f3))
   ⊢ (wp Idealize.ShloMosaic.frame (wpE (defs₀ (F := F)) 𝒱₀ (c : Thread nD τ) none) Set.univ
          (cc0_bias_tiles (F := F) i arg2 harg2 arg3 harg3)
          (fun _ => iprop((arg2.view.loc (c : Thread nD τ) ↦[arg2.view.set]{q2} (arg2.view.rep RB))
    ∗ (arg3.view.loc (c : Thread nD τ) ↦[arg3.view.set]{fullShare} (arg3.view.rep (biasOut i RB))))) : sProp (𝕄 F nD τ)) := by
  iintro ⟨H2, ⟨%f3, H3⟩⟩
  sl_unfold [cc0_bias_tiles]
  sl_exec
  sl_step
  isplitl [H2]; · iexact H2
  refine pt_read_congr c arg3 _ _ _ ?_
  sl_open_run
  rw [read_unit_zero zero4, View.read_rep]
  simp only [View.readAt_rep]
  rfl

end Cert.Proof.KernelIdeal.Attn
-- ==== Proof.ProjBody.lean ====
module

public import proofs.«01_k».proof.Proof.AttnState
public import Idealize.ShloMosaic.Lib.LoopRemainder
public import Idealize.ShloMosaic.Lib.Tactic.Stretches
public import Idealize.ShloMosaic.Lib.Pipeline.FrameBody

@[expose] public section

set_option maxRecDepth 16384

noncomputable section

namespace Cert.Proof.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- The block of queries and keys side by side, as the stores that fill it. -/
def proj5L (X : Vec F S512x1024 .f32) (G : Vec F S1x1024 .f32) (W : Vec F S1024x4608 .bf16) (GV : Vec F S1x512 .f32) : List (View.Piece (Elt F) S512x1024 .bf16) :=
  [⟨Rect.unit (s := S512x1024) ![0, 512] S512x512.size inb_S512x1024_S512x512_0_512, k1_pay6 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 512] S1024x512.size inb_S1024x4608_S1024x512_0_512))⟩, ⟨Rect.unit (s := S512x1024) ![0, 0] S512x512.size inb_S512x1024_S512x512_0_0, k1_pay5 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 0] S1024x512.size inb_S1024x4608_S1024x512_0_0))⟩]
def proj5 (X : Vec F S512x1024 .f32) (G : Vec F S1x1024 .f32) (W : Vec F S1024x4608 .bf16) (GV : Vec F S1x512 .f32) : Vec F S512x1024 .bf16 :=
  View.canon (proj5L X G W GV)

/-- The block of transposed values with a row of ones per head, as the stores that fill it. -/
def proj6L (X : Vec F S512x1024 .f32) (G : Vec F S1x1024 .f32) (W : Vec F S1024x4608 .bf16) (GV : Vec F S1x512 .f32) : List (View.Piece (Elt F) S1x576x512 .bf16) :=
  [⟨Rect.unit (s := S1x576x512) ![0, 560, 0] S1x16x512.size inb_S1x576x512_S1x16x512_0_560_0, k1_pay23 (k1_pay8 (F := F) (iota .tc S16x512 32 [0] iota_S16x512_d0_w32) 0#32)⟩, ⟨Rect.unit (s := S1x576x512) ![0, 432, 0] S1x128x512.size inb_S1x576x512_S1x128x512_0_432_0, k1_pay22 (k1_pay7 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 1024] S1024x512.size inb_S1024x4608_S1024x512_0_1024)))⟩, ⟨Rect.unit (s := S1x576x512) ![0, 416, 0] S1x16x512.size inb_S1x576x512_S1x16x512_0_416_0, k1_pay19 (k1_pay8 (F := F) (iota .tc S16x512 32 [0] iota_S16x512_d0_w32) 0#32)⟩, ⟨Rect.unit (s := S1x576x512) ![0, 288, 0] S1x128x512.size inb_S1x576x512_S1x128x512_0_288_0, k1_pay18 (k1_pay7 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 1024] S1024x512.size inb_S1024x4608_S1024x512_0_1024)))⟩, ⟨Rect.unit (s := S1x576x512) ![0, 272, 0] S1x16x512.size inb_S1x576x512_S1x16x512_0_272_0, k1_pay14 (F := F) (iota .tc S16x512 32 [0] iota_S16x512_d0_w32) 0#32⟩, ⟨Rect.unit (s := S1x576x512) ![0, 144, 0] S1x128x512.size inb_S1x576x512_S1x128x512_0_144_0, k1_pay13 (k1_pay7 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 1024] S1024x512.size inb_S1024x4608_S1024x512_0_1024)))⟩, ⟨Rect.unit (s := S1x576x512) ![0, 128, 0] S1x16x512.size inb_S1x576x512_S1x16x512_0_128_0, k1_pay10 (F := F) (iota .tc S16x512 32 [0] iota_S16x512_d0_w32) 0#32⟩, ⟨Rect.unit (s := S1x576x512) ![0, 0, 0] S1x128x512.size inb_S1x576x512_S1x128x512_0_0_0, k1_pay9 (k1_pay7 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 1024] S1024x512.size inb_S1024x4608_S1024x512_0_1024)))⟩]
def proj6 (X : Vec F S512x1024 .f32) (G : Vec F S1x1024 .f32) (W : Vec F S1024x4608 .bf16) (GV : Vec F S1x512 .f32) : Vec F S1x576x512 .bf16 :=
  View.canon (proj6L X G W GV)

/-- The block of keys by position and head, as the stores that fill it. -/
def proj7L (X : Vec F S512x1024 .f32) (G : Vec F S1x1024 .f32) (W : Vec F S1024x4608 .bf16) (GV : Vec F S1x512 .f32) : List (View.Piece (Elt F) S1x2048x128 .f32) :=
  [⟨⟨(⟨![0, 3, 0], S1x512x128.size, ![1, 4, 1], inb_S1x2048x128_S1x512x128_0_3_0_s_1_4_1⟩ : LoadRect S1x2048x128), spos_1_4_1⟩, k1_pay25 (k1_pay24 (k1_pay3 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 512] S1024x512.size inb_S1024x4608_S1024x512_0_512))))⟩, ⟨⟨(⟨![0, 2, 0], S1x512x128.size, ![1, 4, 1], inb_S1x2048x128_S1x512x128_0_2_0_s_1_4_1⟩ : LoadRect S1x2048x128), spos_1_4_1⟩, k1_pay20 (k1_pay3 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 512] S1024x512.size inb_S1024x4608_S1024x512_0_512)))⟩, ⟨⟨(⟨![0, 1, 0], S1x512x128.size, ![1, 4, 1], inb_S1x2048x128_S1x512x128_0_1_0_s_1_4_1⟩ : LoadRect S1x2048x128), spos_1_4_1⟩, k1_pay16 (k1_pay15 (k1_pay3 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 512] S1024x512.size inb_S1024x4608_S1024x512_0_512))))⟩, ⟨⟨(⟨![0, 0, 0], S1x512x128.size, ![1, 4, 1], inb_S1x2048x128_S1x512x128_0_0_0_s_1_4_1⟩ : LoadRect S1x2048x128), spos_1_4_1⟩, k1_pay11 (k1_pay3 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 512] S1024x512.size inb_S1024x4608_S1024x512_0_512)))⟩]
def proj7 (X : Vec F S512x1024 .f32) (G : Vec F S1x1024 .f32) (W : Vec F S1024x4608 .bf16) (GV : Vec F S1x512 .f32) : Vec F S1x2048x128 .f32 :=
  View.canon (proj7L X G W GV)

/-- The block of values by position and head, as the stores that fill it. -/
def proj8L (X : Vec F S512x1024 .f32) (G : Vec F S1x1024 .f32) (W : Vec F S1024x4608 .bf16) (GV : Vec F S1x512 .f32) : List (View.Piece (Elt F) S1x2048x128 .f32) :=
  [⟨⟨(⟨![0, 3, 0], S1x512x128.size, ![1, 4, 1], inb_S1x2048x128_S1x512x128_0_3_0_s_1_4_1⟩ : LoadRect S1x2048x128), spos_1_4_1⟩, k1_pay26 (k1_pay4 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 1024] S1024x512.size inb_S1024x4608_S1024x512_0_1024)))⟩, ⟨⟨(⟨![0, 2, 0], S1x512x128.size, ![1, 4, 1], inb_S1x2048x128_S1x512x128_0_2_0_s_1_4_1⟩ : LoadRect S1x2048x128), spos_1_4_1⟩, k1_pay21 (k1_pay4 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 1024] S1024x512.size inb_S1024x4608_S1024x512_0_1024)))⟩, ⟨⟨(⟨![0, 1, 0], S1x512x128.size, ![1, 4, 1], inb_S1x2048x128_S1x512x128_0_1_0_s_1_4_1⟩ : LoadRect S1x2048x128), spos_1_4_1⟩, k1_pay17 (k1_pay4 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 1024] S1024x512.size inb_S1024x4608_S1024x512_0_1024)))⟩, ⟨⟨(⟨![0, 0, 0], S1x512x128.size, ![1, 4, 1], inb_S1x2048x128_S1x512x128_0_0_0_s_1_4_1⟩ : LoadRect S1x2048x128), spos_1_4_1⟩, k1_pay12 (k1_pay4 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 1024] S1024x512.size inb_S1024x4608_S1024x512_0_1024)))⟩]
def proj8 (X : Vec F S512x1024 .f32) (G : Vec F S1x1024 .f32) (W : Vec F S1024x4608 .bf16) (GV : Vec F S1x512 .f32) : Vec F S1x2048x128 .f32 :=
  View.canon (proj8L X G W GV)

/-- The block of the gate input. -/
def proj9 (X : Vec F S512x1024 .f32) (G : Vec F S1x1024 .f32) (W : Vec F S1024x4608 .bf16) (GV : Vec F S1x512 .f32) : FVec F S512x512 .f32 :=
  k1_pay27 (k1_pay2 (View.ld X (Rect.unit (s := S512x1024) ![0, 0] S512x1024.size inb_S512x1024_S512x1024_0_0)) (View.ld G (Rect.unit (s := S1x1024) ![0, 0] S1x1024.size inb_S1x1024_S1x1024_0_0))) (View.ld W (Rect.unit (s := S1024x4608) ![0, 1536] S1024x512.size inb_S1024x4608_S1024x512_0_1536))

/-- The block of the normalised gate values. -/
def proj10 (X : Vec F S512x1024 .f32) (G : Vec F S1x1024 .f32) (W : Vec F S1024x4608 .bf16) (GV : Vec F S1x512 .f32) : FVec F S512x512 .f32 :=
  k1_pay28 (k1_pay2 (View.ld X (Rect.unit (s := S512x1024) ![0, 0] S512x1024.size inb_S512x1024_S512x1024_0_0)) (View.ld G (Rect.unit (s := S1x1024) ![0, 0] S1x1024.size inb_S1x1024_S1x1024_0_0))) (View.ld W (Rect.unit (s := S1024x4608) ![0, 2048] S1024x512.size inb_S1024x4608_S1024x512_0_2048)) (View.ld GV (Rect.unit (s := S1x512) ![0, 0] S1x512.size inb_S1x512_S1x512_0_0))

/-- The block of the first gate. -/
def proj11 (X : Vec F S512x1024 .f32) (G : Vec F S1x1024 .f32) (W : Vec F S1024x4608 .bf16) (GV : Vec F S1x512 .f32) : FVec F S512x1024 .f32 :=
  k1_pay29 (k1_pay2 (View.ld X (Rect.unit (s := S512x1024) ![0, 0] S512x1024.size inb_S512x1024_S512x1024_0_0)) (View.ld G (Rect.unit (s := S1x1024) ![0, 0] S1x1024.size inb_S1x1024_S1x1024_0_0))) (View.ld W (Rect.unit (s := S1024x4608) ![0, 2560] S1024x1024.size inb_S1024x4608_S1024x1024_0_2560))

/-- The block of the second gate. -/
def proj12 (X : Vec F S512x1024 .f32) (G : Vec F S1x1024 .f32) (W : Vec F S1024x4608 .bf16) (GV : Vec F S1x512 .f32) : FVec F S512x1024 .f32 :=
  k1_pay1 (k1_pay2 (View.ld X (Rect.unit (s := S512x1024) ![0, 0] S512x1024.size inb_S512x1024_S512x1024_0_0)) (View.ld G (Rect.unit (s := S1x1024) ![0, 0] S1x1024.size inb_S1x1024_S1x1024_0_0))) (View.ld W (Rect.unit (s := S1024x4608) ![0, 3584] S1024x1024.size inb_S1024x4608_S1024x1024_0_3584))

theorem proj5_cov (X : Vec F S512x1024 .f32) (G : Vec F S1x1024 .f32) (W : Vec F S1024x4608 .bf16) (GV : Vec F S1x512 .f32) (y) : ∃ p ∈ proj5L X G W GV, y ∈ p.1.set := by
  have h0 : (y 0).val < 512 := (y 0).isLt
  have h1 : (y 1).val < 1024 := (y 1).isLt
  by_cases h : (y 1).val < 512
  · refine ⟨_, .tail _ (.head _), ?_⟩
    rw [Rect.mem_set_unit]
    intro a
    fin_cases a
    · exact ⟨Nat.zero_le _, by show (y 0).val < 0 + 512; omega⟩
    · exact ⟨Nat.zero_le _, by show (y 1).val < 0 + 512; omega⟩
  · refine ⟨_, .head _, ?_⟩
    rw [Rect.mem_set_unit]
    intro a
    fin_cases a
    · exact ⟨Nat.zero_le _, by show (y 0).val < 0 + 512; omega⟩
    · exact ⟨by show 512 ≤ (y 1).val; omega, by show (y 1).val < 512 + 512; omega⟩

theorem proj6_cov (X : Vec F S512x1024 .f32) (G : Vec F S1x1024 .f32) (W : Vec F S1024x4608 .bf16) (GV : Vec F S1x512 .f32) (y) : ∃ p ∈ proj6L X G W GV, y ∈ p.1.set := by
  have h0 : (y 0).val < 1 := (y 0).isLt
  have h1 : (y 1).val < 576 := (y 1).isLt
  have h2 : (y 2).val < 512 := (y 2).isLt
  by_cases c0 : 560 ≤ (y 1).val
  · refine ⟨_, .head _, ?_⟩
    rw [Rect.mem_set_unit]
    intro a
    fin_cases a
    · exact ⟨Nat.zero_le _, by show (y 0).val < 0 + 1; omega⟩
    · exact ⟨by show 560 ≤ (y 1).val; omega, by show (y 1).val < 560 + 16; omega⟩
    · exact ⟨Nat.zero_le _, by show (y 2).val < 0 + 512; omega⟩
  by_cases c1 : 432 ≤ (y 1).val
  · refine ⟨_, .tail _ (.head _), ?_⟩
    rw [Rect.mem_set_unit]
    intro a
    fin_cases a
    · exact ⟨Nat.zero_le _, by show (y 0).val < 0 + 1; omega⟩
    · exact ⟨by show 432 ≤ (y 1).val; omega, by show (y 1).val < 432 + 128; omega⟩
    · exact ⟨Nat.zero_le _, by show (y 2).val < 0 + 512; omega⟩
  by_cases c2 : 416 ≤ (y 1).val
  · refine ⟨_, .tail _ (.tail _ (.head _)), ?_⟩
    rw [Rect.mem_set_unit]
    intro a
    fin_cases a
    · exact ⟨Nat.zero_le _, by show (y 0).val < 0 + 1; omega⟩
    · exact ⟨by show 416 ≤ (y 1).val; omega, by show (y 1).val < 416 + 16; omega⟩
    · exact ⟨Nat.zero_le _, by show (y 2).val < 0 + 512; omega⟩
  by_cases c3 : 288 ≤ (y 1).val
  · refine ⟨_, .tail _ (.tail _ (.tail _ (.head _))), ?_⟩
    rw [Rect.mem_set_unit]
    intro a
    fin_cases a
    · exact ⟨Nat.zero_le _, by show (y 0).val < 0 + 1; omega⟩
    · exact ⟨by show 288 ≤ (y 1).val; omega, by show (y 1).val < 288 + 128; omega⟩
    · exact ⟨Nat.zero_le _, by show (y 2).val < 0 + 512; omega⟩
  by_cases c4 : 272 ≤ (y 1).val
  · refine ⟨_, .tail _ (.tail _ (.tail _ (.tail _ (.head _)))), ?_⟩
    rw [Rect.mem_set_unit]
    intro a
    fin_cases a
    · exact ⟨Nat.zero_le _, by show (y 0).val < 0 + 1; omega⟩
    · exact ⟨by show 272 ≤ (y 1).val; omega, by show (y 1).val < 272 + 16; omega⟩
    · exact ⟨Nat.zero_le _, by show (y 2).val < 0 + 512; omega⟩
  by_cases c5 : 144 ≤ (y 1).val
  · refine ⟨_, .tail _ (.tail _ (.tail _ (.tail _ (.tail _ (.head _))))), ?_⟩
    rw [Rect.mem_set_unit]
    intro a
    fin_cases a
    · exact ⟨Nat.zero_le _, by show (y 0).val < 0 + 1; omega⟩
    · exact ⟨by show 144 ≤ (y 1).val; omega, by show (y 1).val < 144 + 128; omega⟩
    · exact ⟨Nat.zero_le _, by show (y 2).val < 0 + 512; omega⟩
  by_cases c6 : 128 ≤ (y 1).val
  · refine ⟨_, .tail _ (.tail _ (.tail _ (.tail _ (.tail _ (.tail _ (.head _)))))), ?_⟩
    rw [Rect.mem_set_unit]
    intro a
    fin_cases a
    · exact ⟨Nat.zero_le _, by show (y 0).val < 0 + 1; omega⟩
    · exact ⟨by show 128 ≤ (y 1).val; omega, by show (y 1).val < 128 + 16; omega⟩
    · exact ⟨Nat.zero_le _, by show (y 2).val < 0 + 512; omega⟩
  · refine ⟨_, .tail _ (.tail _ (.tail _ (.tail _ (.tail _ (.tail _ (.tail _ (.head _))))))), ?_⟩
    rw [Rect.mem_set_unit]
    intro a
    fin_cases a
    · exact ⟨Nat.zero_le _, by show (y 0).val < 0 + 1; omega⟩
    · exact ⟨by show 0 ≤ (y 1).val; omega, by show (y 1).val < 0 + 128; omega⟩
    · exact ⟨Nat.zero_le _, by show (y 2).val < 0 + 512; omega⟩

theorem proj7_cov (X : Vec F S512x1024 .f32) (G : Vec F S1x1024 .f32) (W : Vec F S1024x4608 .bf16) (GV : Vec F S1x512 .f32) (y) : ∃ p ∈ proj7L X G W GV, y ∈ p.1.set := by
  have h0 : (y 0).val < 1 := (y 0).isLt
  have h1 : (y 1).val < 2048 := (y 1).isLt
  have h2 : (y 2).val < 128 := (y 2).isLt
  obtain h | h | h | h : (y 1).val % 4 = 3 ∨ (y 1).val % 4 = 2 ∨ (y 1).val % 4 = 1 ∨ (y 1).val % 4 = 0 := by omega
  · refine ⟨_, .head _, ?_⟩
    refine (LoadRect.mem_set _).mpr ?_
    intro a
    fin_cases a
    · exact ⟨0, by show 0 < 1; omega, by show (y 0).val = 0 + 1 * (0); omega⟩
    · exact ⟨(y 1).val / 4, by show (y 1).val / 4 < 512; omega, by show (y 1).val = 3 + 4 * ((y 1).val / 4); omega⟩
    · exact ⟨(y 2).val, by show (y 2).val < 128; omega, by show (y 2).val = 0 + 1 * ((y 2).val); omega⟩
  · refine ⟨_, .tail _ (.head _), ?_⟩
    refine (LoadRect.mem_set _).mpr ?_
    intro a
    fin_cases a
    · exact ⟨0, by show 0 < 1; omega, by show (y 0).val = 0 + 1 * (0); omega⟩
    · exact ⟨(y 1).val / 4, by show (y 1).val / 4 < 512; omega, by show (y 1).val = 2 + 4 * ((y 1).val / 4); omega⟩
    · exact ⟨(y 2).val, by show (y 2).val < 128; omega, by show (y 2).val = 0 + 1 * ((y 2).val); omega⟩
  · refine ⟨_, .tail _ (.tail _ (.head _)), ?_⟩
    refine (LoadRect.mem_set _).mpr ?_
    intro a
    fin_cases a
    · exact ⟨0, by show 0 < 1; omega, by show (y 0).val = 0 + 1 * (0); omega⟩
    · exact ⟨(y 1).val / 4, by show (y 1).val / 4 < 512; omega, by show (y 1).val = 1 + 4 * ((y 1).val / 4); omega⟩
    · exact ⟨(y 2).val, by show (y 2).val < 128; omega, by show (y 2).val = 0 + 1 * ((y 2).val); omega⟩
  · refine ⟨_, .tail _ (.tail _ (.tail _ (.head _))), ?_⟩
    refine (LoadRect.mem_set _).mpr ?_
    intro a
    fin_cases a
    · exact ⟨0, by show 0 < 1; omega, by show (y 0).val = 0 + 1 * (0); omega⟩
    · exact ⟨(y 1).val / 4, by show (y 1).val / 4 < 512; omega, by show (y 1).val = 0 + 4 * ((y 1).val / 4); omega⟩
    · exact ⟨(y 2).val, by show (y 2).val < 128; omega, by show (y 2).val = 0 + 1 * ((y 2).val); omega⟩

theorem proj8_cov (X : Vec F S512x1024 .f32) (G : Vec F S1x1024 .f32) (W : Vec F S1024x4608 .bf16) (GV : Vec F S1x512 .f32) (y) : ∃ p ∈ proj8L X G W GV, y ∈ p.1.set := by
  have h0 : (y 0).val < 1 := (y 0).isLt
  have h1 : (y 1).val < 2048 := (y 1).isLt
  have h2 : (y 2).val < 128 := (y 2).isLt
  obtain h | h | h | h : (y 1).val % 4 = 3 ∨ (y 1).val % 4 = 2 ∨ (y 1).val % 4 = 1 ∨ (y 1).val % 4 = 0 := by omega
  · refine ⟨_, .head _, ?_⟩
    refine (LoadRect.mem_set _).mpr ?_
    intro a
    fin_cases a
    · exact ⟨0, by show 0 < 1; omega, by show (y 0).val = 0 + 1 * (0); omega⟩
    · exact ⟨(y 1).val / 4, by show (y 1).val / 4 < 512; omega, by show (y 1).val = 3 + 4 * ((y 1).val / 4); omega⟩
    · exact ⟨(y 2).val, by show (y 2).val < 128; omega, by show (y 2).val = 0 + 1 * ((y 2).val); omega⟩
  · refine ⟨_, .tail _ (.head _), ?_⟩
    refine (LoadRect.mem_set _).mpr ?_
    intro a
    fin_cases a
    · exact ⟨0, by show 0 < 1; omega, by show (y 0).val = 0 + 1 * (0); omega⟩
    · exact ⟨(y 1).val / 4, by show (y 1).val / 4 < 512; omega, by show (y 1).val = 2 + 4 * ((y 1).val / 4); omega⟩
    · exact ⟨(y 2).val, by show (y 2).val < 128; omega, by show (y 2).val = 0 + 1 * ((y 2).val); omega⟩
  · refine ⟨_, .tail _ (.tail _ (.head _)), ?_⟩
    refine (LoadRect.mem_set _).mpr ?_
    intro a
    fin_cases a
    · exact ⟨0, by show 0 < 1; omega, by show (y 0).val = 0 + 1 * (0); omega⟩
    · exact ⟨(y 1).val / 4, by show (y 1).val / 4 < 512; omega, by show (y 1).val = 1 + 4 * ((y 1).val / 4); omega⟩
    · exact ⟨(y 2).val, by show (y 2).val < 128; omega, by show (y 2).val = 0 + 1 * ((y 2).val); omega⟩
  · refine ⟨_, .tail _ (.tail _ (.tail _ (.head _))), ?_⟩
    refine (LoadRect.mem_set _).mpr ?_
    intro a
    fin_cases a
    · exact ⟨0, by show 0 < 1; omega, by show (y 0).val = 0 + 1 * (0); omega⟩
    · exact ⟨(y 1).val / 4, by show (y 1).val / 4 < 512; omega, by show (y 1).val = 0 + 4 * ((y 1).val / 4); omega⟩
    · exact ⟨(y 2).val, by show (y 2).val < 128; omega, by show (y 2).val = 0 + 1 * ((y 2).val); omega⟩

theorem canon_congr_read {sig : RefSig} {κ : Kind} {sp : Space} {S : Shape} {e : EltTy} {Val : EltTy → Type} [∀ e, Nonempty (Val e)]
    (v : View sig κ sp S e) (f) (L : List (View.Piece Val S e)) (h : ∀ y, ∃ p ∈ L, y ∈ p.1.set) :
    v.read Val (v.writes Val f L) = v.read Val (v.rep (View.canon L)) := by
  rw [View.read_rep]; funext y; exact View.read_writes_apply_eq_canon v f y L (h y)

set_option maxHeartbeats 4000000 in
/-- One call of the projection kernel leaves those blocks. -/
theorem proj_run (c : Dev nD) (i : grid1.Coords)
  (arg1 : Memref sig .tc .vmem S512x1024 .f32) (harg1 : arg1.IsWhole) (arg2 : Memref sig .tc .vmem S1x1024 .f32) (harg2 : arg2.IsWhole) (arg3 : Memref sig .tc .vmem S1024x4608 .bf16) (harg3 : arg3.IsWhole) (arg4 : Memref sig .tc .vmem S1x512 .f32) (harg4 : arg4.IsWhole) (arg5 : Memref sig .tc .vmem S512x1024 .bf16) (harg5 : arg5.IsWhole) (arg6 : Memref sig .tc .vmem S1x576x512 .bf16) (harg6 : arg6.IsWhole) (arg7 : Memref sig .tc .vmem S1x2048x128 .f32) (harg7 : arg7.IsWhole) (arg8 : Memref sig .tc .vmem S1x2048x128 .f32) (harg8 : arg8.IsWhole) (arg9 : Memref sig .tc .vmem S512x512 .f32) (harg9 : arg9.IsWhole) (arg10 : Memref sig .tc .vmem S512x512 .f32) (harg10 : arg10.IsWhole) (arg11 : Memref sig .tc .vmem S512x1024 .f32) (harg11 : arg11.IsWhole) (arg12 : Memref sig .tc .vmem S512x1024 .f32) (harg12 : arg12.IsWhole) (q1 q2 q3 q4 : PosShare TreeShare) (X : Vec F S512x1024 .f32) (G : Vec F S1x1024 .f32) (W : Vec F S1024x4608 .bf16) (GV : Vec F S1x512 .f32) :
  iprop((arg1.view.loc (c : Thread nD τ) ↦[arg1.view.set]{q1} (arg1.view.rep X))
    ∗ (arg2.view.loc (c : Thread nD τ) ↦[arg2.view.set]{q2} (arg2.view.rep G))
    ∗ (arg3.view.loc (c : Thread nD τ) ↦[arg3.view.set]{q3} (arg3.view.rep W))
    ∗ (arg4.view.loc (c : Thread nD τ) ↦[arg4.view.set]{q4} (arg4.view.rep GV))
    ∗ (∃ f5, arg5.view.loc (c : Thread nD τ) ↦[arg5.view.set]{fullShare} f5)
    ∗ (∃ f6, arg6.view.loc (c : Thread nD τ) ↦[arg6.view.set]{fullShare} f6)
    ∗ (∃ f7, arg7.view.loc (c : Thread nD τ) ↦[arg7.view.set]{fullShare} f7)
    ∗ (∃ f8, arg8.view.loc (c : Thread nD τ) ↦[arg8.view.set]{fullShare} f8)
    ∗ (∃ f9, arg9.view.loc (c : Thread nD τ) ↦[arg9.view.set]{fullShare} f9)
    ∗ (∃ f10, arg10.view.loc (c : Thread nD τ) ↦[arg10.view.set]{fullShare} f10)
    ∗ (∃ f11, arg11.view.loc (c : Thread nD τ) ↦[arg11.view.set]{fullShare} f11)
    ∗ (∃ f12, arg12.view.loc (c : Thread nD τ) ↦[arg12.view.set]{fullShare} f12))
   ⊢ (wp Idealize.ShloMosaic.frame (wpE (defs₀ (F := F)) 𝒱₀ (c : Thread nD τ) none) Set.univ
          (cc1_proj (F := F) i arg1 harg1 arg2 harg2 arg3 harg3 arg4 harg4 arg5 harg5 arg6 harg6 arg7 harg7 arg8 harg8 arg9 harg9 arg10 harg10 arg11 harg11 arg12 harg12)
          (fun _ => iprop((arg1.view.loc (c : Thread nD τ) ↦[arg1.view.set]{q1} (arg1.view.rep X))
    ∗ (arg2.view.loc (c : Thread nD τ) ↦[arg2.view.set]{q2} (arg2.view.rep G))
    ∗ (arg3.view.loc (c : Thread nD τ) ↦[arg3.view.set]{q3} (arg3.view.rep W))
    ∗ (arg4.view.loc (c : Thread nD τ) ↦[arg4.view.set]{q4} (arg4.view.rep GV))
    ∗ (arg5.view.loc (c : Thread nD τ) ↦[arg5.view.set]{fullShare} (arg5.view.rep (proj5 X G W GV)))
    ∗ (arg6.view.loc (c : Thread nD τ) ↦[arg6.view.set]{fullShare} (arg6.view.rep (proj6 X G W GV)))
    ∗ (arg7.view.loc (c : Thread nD τ) ↦[arg7.view.set]{fullShare} (arg7.view.rep (proj7 X G W GV)))
    ∗ (arg8.view.loc (c : Thread nD τ) ↦[arg8.view.set]{fullShare} (arg8.view.rep (proj8 X G W GV)))
    ∗ (arg9.view.loc (c : Thread nD τ) ↦[arg9.view.set]{fullShare} (arg9.view.rep (proj9 X G W GV)))
    ∗ (arg10.view.loc (c : Thread nD τ) ↦[arg10.view.set]{fullShare} (arg10.view.rep (proj10 X G W GV)))
    ∗ (arg11.view.loc (c : Thread nD τ) ↦[arg11.view.set]{fullShare} (arg11.view.rep (proj11 X G W GV)))
    ∗ (arg12.view.loc (c : Thread nD τ) ↦[arg12.view.set]{fullShare} (arg12.view.rep (proj12 X G W GV))))) : sProp (𝕄 F nD τ)) := by
  iintro ⟨H1, H2, H3, H4, ⟨%f5, H5⟩, ⟨%f6, H6⟩, ⟨%f7, H7⟩, ⟨%f8, H8⟩, ⟨%f9, H9⟩, ⟨%f10, H10⟩, ⟨%f11, H11⟩, ⟨%f12, H12⟩⟩
  sl_unfold [cc1_proj]
  sl_exec
  sl_step
  isplitl [H1]; · iexact H1
  isplitl [H2]; · iexact H2
  isplitl [H3]; · iexact H3
  isplitl [H4]; · iexact H4
  isplitl [H5]
  · refine pt_read_congr c arg5 _ _ _ ?_
    sl_open_run
    simp only [View.readAt_rep]
    exact canon_congr_read arg5.view _ (proj5L X G W GV) (proj5_cov X G W GV)
  isplitl [H6]
  · refine pt_read_congr c arg6 _ _ _ ?_
    sl_open_run
    simp only [View.readAt_rep]
    exact canon_congr_read arg6.view _ (proj6L X G W GV) (proj6_cov X G W GV)
  isplitl [H7]
  · refine pt_read_congr c arg7 _ _ _ ?_
    sl_open_run
    simp only [View.readAt_rep]
    exact canon_congr_read arg7.view _ (proj7L X G W GV) (proj7_cov X G W GV)
  isplitl [H8]
  · refine pt_read_congr c arg8 _ _ _ ?_
    sl_open_run
    simp only [View.readAt_rep]
    exact canon_congr_read arg8.view _ (proj8L X G W GV) (proj8_cov X G W GV)
  isplitl [H9]
  · refine pt_read_congr c arg9 _ _ _ ?_
    sl_open_run
    rw [read_unit_zero zero2, View.read_rep]
    simp only [View.readAt_rep]
    rfl
  isplitl [H10]
  · refine pt_read_congr c arg10 _ _ _ ?_
    sl_open_run
    rw [read_unit_zero zero2, View.read_rep]
    simp only [View.readAt_rep]
    rfl
  isplitl [H11]
  · refine pt_read_congr c arg11 _ _ _ ?_
    sl_open_run
    rw [read_unit_zero zero2, View.read_rep]
    simp only [View.readAt_rep]
    rfl
  refine pt_read_congr c arg12 _ _ _ ?_
  sl_open_run
  rw [read_unit_zero zero2, View.read_rep]
  simp only [View.readAt_rep]
  rfl

end Cert.Proof.KernelIdeal.Attn
-- ==== Proof.RegionData.lean ====
module

public import proofs.«01_k».proof.Proof.AttnBody
public import proofs.«01_k».proof.Proof.BiasBody
public import proofs.«01_k».proof.Proof.ProjBody
public import proofs.«01_k».proof.Proof.Gen.KernelIdeal.Points
public import proofs.«01_k».proof.Proof.Gen.KernelIdeal.Launch
public import Idealize.ShloMosaic.Lib.Pipeline.TableIdle
public import Idealize.ShloMosaic.Lib.Pipeline.FrameBody

@[expose] public section

set_option maxRecDepth 16384

noncomputable section

namespace Cert.Proof.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

/-- What a core's buffers hold when a call is entered. -/
abbrev Val (F : FTy → Type) : Type := (c : Dev nD) → (b : Ref sig .tc) → Buf (Elt F) ((c : Thread nD τ).loc b)

theorem own_in {ι : Type} [Nonempty ι] (c : Dev nD) {sp : Space} {s : Shape} {e : EltTy} (m : Memref sig .tc sp s e) (bf : ι → s.Idx → Elt F e) (X : s.Idx → Elt F e) (h : ∀ d, bf d = X) :
    (iprop(∃ d, owns (c : Thread nD τ) m fullShare (bf d)) : sProp (𝕄 F nD τ)) ⊢ (m.view.loc (c : Thread nD τ) ↦[m.view.set]{fullShare} m.view.rep X) := by
  simp only [h, owns_eq_rep]
  iintro ⟨%d, H⟩
  iexact H

theorem own_any {ι : Type} (c : Dev nD) {sp : Space} {s : Shape} {e : EltTy} (m : Memref sig .tc sp s e) (bf : ι → s.Idx → Elt F e) :
    (iprop(∃ d, owns (c : Thread nD τ) m fullShare (bf d)) : sProp (𝕄 F nD τ)) ⊢ iprop(∃ f, (m.view.loc (c : Thread nD τ) ↦[m.view.set]{fullShare} f)) := by
  simp only [owns_eq_rep]
  iintro ⟨%d, H⟩
  iexists _
  iexact H

theorem whole_in (c : Dev nD) (b : Ref sig .tc) :
    (iprop(∃ f : Buf (Elt F) ((c : Thread nD τ).loc b), ((c : Thread nD τ).loc b) ↦{fullShare} f) : sProp (𝕄 F nD τ)) = iprop(∃ f, ((Memref.whole b).view.loc (c : Thread nD τ) ↦[(Memref.whole b).view.set]{fullShare} f)) := by
  simp only [Memref.view_whole, View.set_whole]

/-- The block of window 0 that call 0 reads at point `t`. -/
abbrev in0_0 (V : Val F) (c : Dev nD) (t : Fin cfg0.N) : (cfg0.win 0).block.Idx → Elt F (cfg0.win 0).elt :=
  ((cfg0.win 0).blk t).view.read (Elt F) (V c (Pipeline.arrRef spec0 0))

/-- The proof data of call 0 entered at `V`: inputs stay in place, each result's block is the body's value of the inputs' blocks. -/
def dat0 (V : Val F) (c : Dev nD) : Dat τ (Elt F) Unit ℕ (UR sig nD τ) ℕ cfg0 c where
  A w := V c (Pipeline.arrRef spec0 w)
  after w t := match w with
    | ⟨0, _⟩ => in0_0 V c t
    | ⟨1, _⟩ => biasOut (grid0.coords t) (in0_0 V c t)
  Φ _ := Pipeline.scopedRest spec0 c
  q w := Pipeline.shareOf spec0 w
  owed _ := 0

theorem before0_0 (V : Val F) (c : Dev nD) (t : Fin cfg0.N) (d) : (dat0 V c).before 0 t d = in0_0 V c t :=
  (Dat.before_in_eq_fetched (dat0 V c) 0 rfl (fun _ => rfl) (fun _ _ _ => rfl) (fun _ => rfl) t d).trans rfl

set_option maxHeartbeats 2000000 in
theorem ob0 (V : Val F) (c : Dev nD) : BodyObligation (dat0 V c) (defs₀ (F := F)) 𝒱₀ () Set.univ := fun t => by
  rw [bigSep_W0, bigSep_W0]
  show iprop(Pipeline.scopedRest spec0 c ∗ (dat0 V c).owesAt () t.castSucc ∗ (∃ d, owns (c : Thread nD τ) ((cfg0.win 0).stage (cfg0.slots t 0)) fullShare ((dat0 V c).before 0 t d)) ∗ (∃ d, owns (c : Thread nD τ) ((cfg0.win 1).stage (cfg0.slots t 1)) fullShare ((dat0 V c).before 1 t d)))
    ⊢ wp Idealize.ShloMosaic.frame (wpE (defs₀ (F := F)) 𝒱₀ (c : Thread nD τ) none) Set.univ (bodyAt0 t) (fun _ => iprop(Pipeline.scopedRest spec0 c ∗ (dat0 V c).owesAt () t.castSucc ∗ (owns (c : Thread nD τ) ((cfg0.win 0).stage (cfg0.slots t 0)) fullShare ((dat0 V c).after 0 t)) ∗ (owns (c : Thread nD τ) ((cfg0.win 1).stage (cfg0.slots t 1)) fullShare ((dat0 V c).after 1 t))))
  iintro ⟨HR, Howes, H0, H1⟩
  ihave H0 := (own_in c _ _ (in0_0 V c t) (before0_0 V c t)) $$ H0
  ihave H1 := (own_any c _ _) $$ H1
  ihave Hw := (bias_run c (grid0.coords t) (win0_0.stage (cfg0.slots t 0)) (hstage0_0 ((cfg0.slots t 0).cast nbuf0_0)) (win0_1.stage (cfg0.slots t 1)) (hstage0_1 ((cfg0.slots t 1).cast nbuf0_1)) fullShare (in0_0 V c t)) $$ [H0 H1]
  · isplitl [H0]; · iexact H0
    iexact H1
  iapply (wp_wand _ _ _) $$ Hw
  iintro %a ⟨H0, H1⟩
  isplitl [HR]; · iexact HR
  isplitl [Howes]; · iexact Howes
  isplitl [H0]; · rw [owns_eq_rep]; iexact H0
  rw [owns_eq_rep]; iexact H1

/-- The block of window 0 that call 1 reads at point `t`. -/
abbrev in1_0 (V : Val F) (c : Dev nD) (t : Fin cfg1.N) : (cfg1.win 0).block.Idx → Elt F (cfg1.win 0).elt :=
  ((cfg1.win 0).blk t).view.read (Elt F) (V c (Pipeline.arrRef spec1 0))

/-- The block of window 1 that call 1 reads at point `t`. -/
abbrev in1_1 (V : Val F) (c : Dev nD) (t : Fin cfg1.N) : (cfg1.win 1).block.Idx → Elt F (cfg1.win 1).elt :=
  ((cfg1.win 1).blk t).view.read (Elt F) (V c (Pipeline.arrRef spec1 1))

/-- The block of window 2 that call 1 reads at point `t`. -/
abbrev in1_2 (V : Val F) (c : Dev nD) (t : Fin cfg1.N) : (cfg1.win 2).block.Idx → Elt F (cfg1.win 2).elt :=
  ((cfg1.win 2).blk t).view.read (Elt F) (V c (Pipeline.arrRef spec1 2))

/-- The block of window 3 that call 1 reads at point `t`. -/
abbrev in1_3 (V : Val F) (c : Dev nD) (t : Fin cfg1.N) : (cfg1.win 3).block.Idx → Elt F (cfg1.win 3).elt :=
  ((cfg1.win 3).blk t).view.read (Elt F) (V c (Pipeline.arrRef spec1 3))

/-- The proof data of call 1 entered at `V`: inputs stay in place, each result's block is the body's value of the inputs' blocks. -/
def dat1 (V : Val F) (c : Dev nD) : Dat τ (Elt F) Unit ℕ (UR sig nD τ) ℕ cfg1 c where
  A w := V c (Pipeline.arrRef spec1 w)
  after w t := match w with
    | ⟨0, _⟩ => in1_0 V c t
    | ⟨1, _⟩ => in1_1 V c t
    | ⟨2, _⟩ => in1_2 V c t
    | ⟨3, _⟩ => in1_3 V c t
    | ⟨4, _⟩ => proj5 (in1_0 V c t) (in1_1 V c t) (in1_2 V c t) (in1_3 V c t)
    | ⟨5, _⟩ => proj6 (in1_0 V c t) (in1_1 V c t) (in1_2 V c t) (in1_3 V c t)
    | ⟨6, _⟩ => proj7 (in1_0 V c t) (in1_1 V c t) (in1_2 V c t) (in1_3 V c t)
    | ⟨7, _⟩ => proj8 (in1_0 V c t) (in1_1 V c t) (in1_2 V c t) (in1_3 V c t)
    | ⟨8, _⟩ => proj9 (in1_0 V c t) (in1_1 V c t) (in1_2 V c t) (in1_3 V c t)
    | ⟨9, _⟩ => proj10 (in1_0 V c t) (in1_1 V c t) (in1_2 V c t) (in1_3 V c t)
    | ⟨10, _⟩ => proj11 (in1_0 V c t) (in1_1 V c t) (in1_2 V c t) (in1_3 V c t)
    | ⟨11, _⟩ => proj12 (in1_0 V c t) (in1_1 V c t) (in1_2 V c t) (in1_3 V c t)
  Φ _ := Pipeline.scopedRest spec1 c
  q w := Pipeline.shareOf spec1 w
  owed _ := 0

theorem before1_0 (V : Val F) (c : Dev nD) (t : Fin cfg1.N) (d) : (dat1 V c).before 0 t d = in1_0 V c t :=
  (Dat.before_in_eq_fetched (dat1 V c) 0 rfl (fun _ => rfl) (fun _ _ _ => rfl) (fun _ => rfl) t d).trans rfl
theorem before1_1 (V : Val F) (c : Dev nD) (t : Fin cfg1.N) (d) : (dat1 V c).before 1 t d = in1_1 V c t :=
  (Dat.before_in_eq_fetched (dat1 V c) 1 rfl (fun _ => rfl) (fun _ _ _ => rfl) (fun _ => rfl) t d).trans rfl
theorem before1_2 (V : Val F) (c : Dev nD) (t : Fin cfg1.N) (d) : (dat1 V c).before 2 t d = in1_2 V c t :=
  (Dat.before_in_eq_fetched (dat1 V c) 2 rfl (fun _ => rfl) (fun _ _ _ => rfl) (fun _ => rfl) t d).trans rfl
theorem before1_3 (V : Val F) (c : Dev nD) (t : Fin cfg1.N) (d) : (dat1 V c).before 3 t d = in1_3 V c t :=
  (Dat.before_in_eq_fetched (dat1 V c) 3 rfl (fun _ => rfl) (fun _ _ _ => rfl) (fun _ => rfl) t d).trans rfl

set_option maxHeartbeats 2000000 in
theorem ob1 (V : Val F) (c : Dev nD) : BodyObligation (dat1 V c) (defs₀ (F := F)) 𝒱₀ () Set.univ := fun t => by
  rw [bigSep_W1, bigSep_W1]
  show iprop(Pipeline.scopedRest spec1 c ∗ (dat1 V c).owesAt () t.castSucc ∗ (∃ d, owns (c : Thread nD τ) ((cfg1.win 0).stage (cfg1.slots t 0)) fullShare ((dat1 V c).before 0 t d)) ∗ (∃ d, owns (c : Thread nD τ) ((cfg1.win 1).stage (cfg1.slots t 1)) fullShare ((dat1 V c).before 1 t d)) ∗ (∃ d, owns (c : Thread nD τ) ((cfg1.win 2).stage (cfg1.slots t 2)) fullShare ((dat1 V c).before 2 t d)) ∗ (∃ d, owns (c : Thread nD τ) ((cfg1.win 3).stage (cfg1.slots t 3)) fullShare ((dat1 V c).before 3 t d)) ∗ (∃ d, owns (c : Thread nD τ) ((cfg1.win 4).stage (cfg1.slots t 4)) fullShare ((dat1 V c).before 4 t d)) ∗ (∃ d, owns (c : Thread nD τ) ((cfg1.win 5).stage (cfg1.slots t 5)) fullShare ((dat1 V c).before 5 t d)) ∗ (∃ d, owns (c : Thread nD τ) ((cfg1.win 6).stage (cfg1.slots t 6)) fullShare ((dat1 V c).before 6 t d)) ∗ (∃ d, owns (c : Thread nD τ) ((cfg1.win 7).stage (cfg1.slots t 7)) fullShare ((dat1 V c).before 7 t d)) ∗ (∃ d, owns (c : Thread nD τ) ((cfg1.win 8).stage (cfg1.slots t 8)) fullShare ((dat1 V c).before 8 t d)) ∗ (∃ d, owns (c : Thread nD τ) ((cfg1.win 9).stage (cfg1.slots t 9)) fullShare ((dat1 V c).before 9 t d)) ∗ (∃ d, owns (c : Thread nD τ) ((cfg1.win 10).stage (cfg1.slots t 10)) fullShare ((dat1 V c).before 10 t d)) ∗ (∃ d, owns (c : Thread nD τ) ((cfg1.win 11).stage (cfg1.slots t 11)) fullShare ((dat1 V c).before 11 t d)))
    ⊢ wp Idealize.ShloMosaic.frame (wpE (defs₀ (F := F)) 𝒱₀ (c : Thread nD τ) none) Set.univ (bodyAt1 t) (fun _ => iprop(Pipeline.scopedRest spec1 c ∗ (dat1 V c).owesAt () t.castSucc ∗ (owns (c : Thread nD τ) ((cfg1.win 0).stage (cfg1.slots t 0)) fullShare ((dat1 V c).after 0 t)) ∗ (owns (c : Thread nD τ) ((cfg1.win 1).stage (cfg1.slots t 1)) fullShare ((dat1 V c).after 1 t)) ∗ (owns (c : Thread nD τ) ((cfg1.win 2).stage (cfg1.slots t 2)) fullShare ((dat1 V c).after 2 t)) ∗ (owns (c : Thread nD τ) ((cfg1.win 3).stage (cfg1.slots t 3)) fullShare ((dat1 V c).after 3 t)) ∗ (owns (c : Thread nD τ) ((cfg1.win 4).stage (cfg1.slots t 4)) fullShare ((dat1 V c).after 4 t)) ∗ (owns (c : Thread nD τ) ((cfg1.win 5).stage (cfg1.slots t 5)) fullShare ((dat1 V c).after 5 t)) ∗ (owns (c : Thread nD τ) ((cfg1.win 6).stage (cfg1.slots t 6)) fullShare ((dat1 V c).after 6 t)) ∗ (owns (c : Thread nD τ) ((cfg1.win 7).stage (cfg1.slots t 7)) fullShare ((dat1 V c).after 7 t)) ∗ (owns (c : Thread nD τ) ((cfg1.win 8).stage (cfg1.slots t 8)) fullShare ((dat1 V c).after 8 t)) ∗ (owns (c : Thread nD τ) ((cfg1.win 9).stage (cfg1.slots t 9)) fullShare ((dat1 V c).after 9 t)) ∗ (owns (c : Thread nD τ) ((cfg1.win 10).stage (cfg1.slots t 10)) fullShare ((dat1 V c).after 10 t)) ∗ (owns (c : Thread nD τ) ((cfg1.win 11).stage (cfg1.slots t 11)) fullShare ((dat1 V c).after 11 t))))
  iintro ⟨HR, Howes, H0, H1, H2, H3, H4, H5, H6, H7, H8, H9, H10, H11⟩
  ihave H0 := (own_in c _ _ (in1_0 V c t) (before1_0 V c t)) $$ H0
  ihave H1 := (own_in c _ _ (in1_1 V c t) (before1_1 V c t)) $$ H1
  ihave H2 := (own_in c _ _ (in1_2 V c t) (before1_2 V c t)) $$ H2
  ihave H3 := (own_in c _ _ (in1_3 V c t) (before1_3 V c t)) $$ H3
  ihave H4 := (own_any c _ _) $$ H4
  ihave H5 := (own_any c _ _) $$ H5
  ihave H6 := (own_any c _ _) $$ H6
  ihave H7 := (own_any c _ _) $$ H7
  ihave H8 := (own_any c _ _) $$ H8
  ihave H9 := (own_any c _ _) $$ H9
  ihave H10 := (own_any c _ _) $$ H10
  ihave H11 := (own_any c _ _) $$ H11
  ihave Hw := (proj_run c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) fullShare fullShare fullShare fullShare (in1_0 V c t) (in1_1 V c t) (in1_2 V c t) (in1_3 V c t)) $$ [H0 H1 H2 H3 H4 H5 H6 H7 H8 H9 H10 H11]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    iexact H11
  iapply (wp_wand _ _ _) $$ Hw
  iintro %a ⟨H0, H1, H2, H3, H4, H5, H6, H7, H8, H9, H10, H11⟩
  isplitl [HR]; · iexact HR
  isplitl [Howes]; · iexact Howes
  isplitl [H0]; · rw [owns_eq_rep]; iexact H0
  isplitl [H1]; · rw [owns_eq_rep]; iexact H1
  isplitl [H2]; · rw [owns_eq_rep]; iexact H2
  isplitl [H3]; · rw [owns_eq_rep]; iexact H3
  isplitl [H4]; · rw [owns_eq_rep]; iexact H4
  isplitl [H5]; · rw [owns_eq_rep]; iexact H5
  isplitl [H6]; · rw [owns_eq_rep]; iexact H6
  isplitl [H7]; · rw [owns_eq_rep]; iexact H7
  isplitl [H8]; · rw [owns_eq_rep]; iexact H8
  isplitl [H9]; · rw [owns_eq_rep]; iexact H9
  isplitl [H10]; · rw [owns_eq_rep]; iexact H10
  rw [owns_eq_rep]; iexact H11

/-- The block of window 0 that call 2 reads at point `t`. -/
abbrev in2_0 (V : Val F) (c : Dev nD) (t : Fin cfg2.N) : (cfg2.win 0).block.Idx → Elt F (cfg2.win 0).elt :=
  ((cfg2.win 0).blk t).view.read (Elt F) (V c (Pipeline.arrRef spec2 0))

/-- The block of window 1 that call 2 reads at point `t`. -/
abbrev in2_1 (V : Val F) (c : Dev nD) (t : Fin cfg2.N) : (cfg2.win 1).block.Idx → Elt F (cfg2.win 1).elt :=
  ((cfg2.win 1).blk t).view.read (Elt F) (V c (Pipeline.arrRef spec2 1))

/-- The block of window 2 that call 2 reads at point `t`. -/
abbrev in2_2 (V : Val F) (c : Dev nD) (t : Fin cfg2.N) : (cfg2.win 2).block.Idx → Elt F (cfg2.win 2).elt :=
  ((cfg2.win 2).blk t).view.read (Elt F) (V c (Pipeline.arrRef spec2 2))

/-- The block of window 3 that call 2 reads at point `t`. -/
abbrev in2_3 (V : Val F) (c : Dev nD) (t : Fin cfg2.N) : (cfg2.win 3).block.Idx → Elt F (cfg2.win 3).elt :=
  ((cfg2.win 3).blk t).view.read (Elt F) (V c (Pipeline.arrRef spec2 3))

/-- The block of window 4 that call 2 reads at point `t`. -/
abbrev in2_4 (V : Val F) (c : Dev nD) (t : Fin cfg2.N) : (cfg2.win 4).block.Idx → Elt F (cfg2.win 4).elt :=
  ((cfg2.win 4).blk t).view.read (Elt F) (V c (Pipeline.arrRef spec2 4))

/-- The block of window 5 that call 2 reads at point `t`. -/
abbrev in2_5 (V : Val F) (c : Dev nD) (t : Fin cfg2.N) : (cfg2.win 5).block.Idx → Elt F (cfg2.win 5).elt :=
  ((cfg2.win 5).blk t).view.read (Elt F) (V c (Pipeline.arrRef spec2 5))

/-- The block of window 6 that call 2 reads at point `t`. -/
abbrev in2_6 (V : Val F) (c : Dev nD) (t : Fin cfg2.N) : (cfg2.win 6).block.Idx → Elt F (cfg2.win 6).elt :=
  ((cfg2.win 6).blk t).view.read (Elt F) (V c (Pipeline.arrRef spec2 6))

/-- The proof data of call 2 entered at `V`: inputs stay in place, each result's block is the body's value of the inputs' blocks. -/
def dat2 (V : Val F) (c : Dev nD) : Dat τ (Elt F) Unit ℕ (UR sig nD τ) ℕ cfg2 c where
  A w := V c (Pipeline.arrRef spec2 w)
  after w t := match w with
    | ⟨0, _⟩ => in2_0 V c t
    | ⟨1, _⟩ => in2_1 V c t
    | ⟨2, _⟩ => in2_2 V c t
    | ⟨3, _⟩ => in2_3 V c t
    | ⟨4, _⟩ => in2_4 V c t
    | ⟨5, _⟩ => in2_5 V c t
    | ⟨6, _⟩ => in2_6 V c t
    | ⟨7, _⟩ => attnOut (grid2.coords t) (in2_0 V c t) (in2_1 V c t) (in2_2 V c t) (in2_3 V c t) (in2_4 V c t) (in2_5 V c t) (in2_6 V c t)
  Φ _ := Pipeline.scopedRest spec2 c
  q w := Pipeline.shareOf spec2 w
  owed _ := 0

theorem before2_0 (V : Val F) (c : Dev nD) (t : Fin cfg2.N) (d) : (dat2 V c).before 0 t d = in2_0 V c t :=
  (Dat.before_in_eq_fetched (dat2 V c) 0 rfl (fun _ => rfl) (fun _ _ _ => rfl) (fun _ => rfl) t d).trans rfl
theorem before2_1 (V : Val F) (c : Dev nD) (t : Fin cfg2.N) (d) : (dat2 V c).before 1 t d = in2_1 V c t :=
  (Dat.before_in_eq_fetched (dat2 V c) 1 rfl (fun _ => rfl) (fun _ _ _ => rfl) (fun _ => rfl) t d).trans rfl
theorem before2_2 (V : Val F) (c : Dev nD) (t : Fin cfg2.N) (d) : (dat2 V c).before 2 t d = in2_2 V c t :=
  (Dat.before_in_eq_fetched (dat2 V c) 2 rfl (fun _ => rfl) (fun _ _ _ => rfl) (fun _ => rfl) t d).trans rfl
theorem before2_3 (V : Val F) (c : Dev nD) (t : Fin cfg2.N) (d) : (dat2 V c).before 3 t d = in2_3 V c t :=
  (Dat.before_in_eq_fetched (dat2 V c) 3 rfl (fun _ => rfl) (fun _ _ _ => rfl) (fun _ => rfl) t d).trans rfl
theorem before2_4 (V : Val F) (c : Dev nD) (t : Fin cfg2.N) (d) : (dat2 V c).before 4 t d = in2_4 V c t :=
  (Dat.before_in_eq_fetched (dat2 V c) 4 rfl (fun _ => rfl) (fun _ _ _ => rfl) (fun _ => rfl) t d).trans rfl
theorem before2_5 (V : Val F) (c : Dev nD) (t : Fin cfg2.N) (d) : (dat2 V c).before 5 t d = in2_5 V c t :=
  (Dat.before_in_eq_fetched (dat2 V c) 5 rfl (fun _ => rfl) (fun _ _ _ => rfl) (fun _ => rfl) t d).trans rfl
theorem before2_6 (V : Val F) (c : Dev nD) (t : Fin cfg2.N) (d) : (dat2 V c).before 6 t d = in2_6 V c t :=
  (Dat.before_in_eq_fetched (dat2 V c) 6 rfl (fun _ => rfl) (fun _ _ _ => rfl) (fun _ => rfl) t d).trans rfl

set_option maxHeartbeats 2000000 in
theorem ob2 (V : Val F) (c : Dev nD) : BodyObligation (dat2 V c) (defs₀ (F := F)) 𝒱₀ () Set.univ := fun t => by
  rw [bigSep_W2, bigSep_W2]
  show iprop(Pipeline.scopedRest spec2 c ∗ (dat2 V c).owesAt () t.castSucc ∗ (∃ d, owns (c : Thread nD τ) ((cfg2.win 0).stage (cfg2.slots t 0)) fullShare ((dat2 V c).before 0 t d)) ∗ (∃ d, owns (c : Thread nD τ) ((cfg2.win 1).stage (cfg2.slots t 1)) fullShare ((dat2 V c).before 1 t d)) ∗ (∃ d, owns (c : Thread nD τ) ((cfg2.win 2).stage (cfg2.slots t 2)) fullShare ((dat2 V c).before 2 t d)) ∗ (∃ d, owns (c : Thread nD τ) ((cfg2.win 3).stage (cfg2.slots t 3)) fullShare ((dat2 V c).before 3 t d)) ∗ (∃ d, owns (c : Thread nD τ) ((cfg2.win 4).stage (cfg2.slots t 4)) fullShare ((dat2 V c).before 4 t d)) ∗ (∃ d, owns (c : Thread nD τ) ((cfg2.win 5).stage (cfg2.slots t 5)) fullShare ((dat2 V c).before 5 t d)) ∗ (∃ d, owns (c : Thread nD τ) ((cfg2.win 6).stage (cfg2.slots t 6)) fullShare ((dat2 V c).before 6 t d)) ∗ (∃ d, owns (c : Thread nD τ) ((cfg2.win 7).stage (cfg2.slots t 7)) fullShare ((dat2 V c).before 7 t d)))
    ⊢ wp Idealize.ShloMosaic.frame (wpE (defs₀ (F := F)) 𝒱₀ (c : Thread nD τ) none) Set.univ (bodyAt2 t) (fun _ => iprop(Pipeline.scopedRest spec2 c ∗ (dat2 V c).owesAt () t.castSucc ∗ (owns (c : Thread nD τ) ((cfg2.win 0).stage (cfg2.slots t 0)) fullShare ((dat2 V c).after 0 t)) ∗ (owns (c : Thread nD τ) ((cfg2.win 1).stage (cfg2.slots t 1)) fullShare ((dat2 V c).after 1 t)) ∗ (owns (c : Thread nD τ) ((cfg2.win 2).stage (cfg2.slots t 2)) fullShare ((dat2 V c).after 2 t)) ∗ (owns (c : Thread nD τ) ((cfg2.win 3).stage (cfg2.slots t 3)) fullShare ((dat2 V c).after 3 t)) ∗ (owns (c : Thread nD τ) ((cfg2.win 4).stage (cfg2.slots t 4)) fullShare ((dat2 V c).after 4 t)) ∗ (owns (c : Thread nD τ) ((cfg2.win 5).stage (cfg2.slots t 5)) fullShare ((dat2 V c).after 5 t)) ∗ (owns (c : Thread nD τ) ((cfg2.win 6).stage (cfg2.slots t 6)) fullShare ((dat2 V c).after 6 t)) ∗ (owns (c : Thread nD τ) ((cfg2.win 7).stage (cfg2.slots t 7)) fullShare ((dat2 V c).after 7 t))))
  rw [scopedRest2_split]
  simp only [whole_in]
  iintro ⟨⟨⟨S0, S1, S2, S3, S4, S5, S6, S7⟩, HR⟩, Howes, H0, H1, H2, H3, H4, H5, H6, H7⟩
  ihave H0 := (own_in c _ _ (in2_0 V c t) (before2_0 V c t)) $$ H0
  ihave H1 := (own_in c _ _ (in2_1 V c t) (before2_1 V c t)) $$ H1
  ihave H2 := (own_in c _ _ (in2_2 V c t) (before2_2 V c t)) $$ H2
  ihave H3 := (own_in c _ _ (in2_3 V c t) (before2_3 V c t)) $$ H3
  ihave H4 := (own_in c _ _ (in2_4 V c t) (before2_4 V c t)) $$ H4
  ihave H5 := (own_in c _ _ (in2_5 V c t) (before2_5 V c t)) $$ H5
  ihave H6 := (own_in c _ _ (in2_6 V c t) (before2_6 V c t)) $$ H6
  ihave H7 := (own_any c _ _) $$ H7
  ihave Hw := (body_run c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) (Memref.whole cc2_scratch7) (Memref.isWhole_whole _) fullShare fullShare fullShare fullShare fullShare fullShare fullShare (in2_0 V c t) (in2_1 V c t) (in2_2 V c t) (in2_3 V c t) (in2_4 V c t) (in2_5 V c t) (in2_6 V c t)) $$ [H0 H1 H2 H3 H4 H5 H6 H7 S0 S1 S2 S3 S4 S5 S6 S7]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  iapply (wp_wand _ _ _) $$ Hw
  iintro %a ⟨H0, H1, H2, H3, H4, H5, H6, H7, S0, S1, S2, S3, S4, S5, S6, S7⟩
  isplitl [HR S0 S1 S2 S3 S4 S5 S6 S7]
  · isplitl [S0 S1 S2 S3 S4 S5 S6 S7]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    iexact HR
  isplitl [Howes]; · iexact Howes
  isplitl [H0]; · rw [owns_eq_rep]; iexact H0
  isplitl [H1]; · rw [owns_eq_rep]; iexact H1
  isplitl [H2]; · rw [owns_eq_rep]; iexact H2
  isplitl [H3]; · rw [owns_eq_rep]; iexact H3
  isplitl [H4]; · rw [owns_eq_rep]; iexact H4
  isplitl [H5]; · rw [owns_eq_rep]; iexact H5
  isplitl [H6]; · rw [owns_eq_rep]; iexact H6
  rw [owns_eq_rep]; iexact H7

end Cert.Proof.KernelIdeal.Attn

end
-- ==== Proof.Run.lean ====
module

public import proofs.«01_k».proof.Proof.RegionData
public import proofs.«01_k».proof.Proof.Gen.KernelIdeal.Regions
public import Idealize.ShloMosaic.Lib.Pipeline.RegionsLoop

@[expose] public section

set_option maxRecDepth 16384

noncomputable section

namespace Cert.Proof.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

abbrev UR1 : Type := UR sig nD τ

/-- No core owes another anything. -/
abbrev L : GSem nD τ sig → Finset Unit := fun _ => ∅
abbrev lv : GSem nD τ sig → Unit → ℕ := fun _ _ => 0

section Contents
variable (m : (ℓ : Loc nD τ sig) → Buf (Elt F) ℓ)

abbrev asVal (W : (c : Dev nD) → Valuation τ sig (Elt F)) : Val F := fun c b => W c b

/-- The buffers after the bias call. -/
def W1 (c : Dev nD) : Valuation τ sig (Elt F) := Function.update (V0 m c) main_v0 ((dat0 (asVal (V0 m)) c).arrAt 1 cfg0.N)
/-- The buffers after the host lines that prepare the projection. -/
def W2 (c : Dev nD) : Valuation τ sig (Elt F) := StableHlo.after hostOps1 (W1 m c)
/-- The buffers after the projection. -/
def W3 (c : Dev nD) : Valuation τ sig (Elt F) :=
  Function.update (Function.update (Function.update (Function.update (Function.update (Function.update (Function.update (Function.update (W2 m c) main_v11_0 ((dat1 (asVal (W2 m)) c).arrAt 4 cfg1.N)) main_v11_1 ((dat1 (asVal (W2 m)) c).arrAt 5 cfg1.N)) main_v11_2 ((dat1 (asVal (W2 m)) c).arrAt 6 cfg1.N)) main_v11_3 ((dat1 (asVal (W2 m)) c).arrAt 7 cfg1.N)) main_v11_4 ((dat1 (asVal (W2 m)) c).arrAt 8 cfg1.N)) main_v11_5 ((dat1 (asVal (W2 m)) c).arrAt 9 cfg1.N)) main_v11_6 ((dat1 (asVal (W2 m)) c).arrAt 10 cfg1.N)) main_v11_7 ((dat1 (asVal (W2 m)) c).arrAt 11 cfg1.N)
/-- The buffers after the host line that prepares the attention. -/
def W4 (c : Dev nD) : Valuation τ sig (Elt F) := StableHlo.after hostOps2 (W3 m c)
/-- The buffers after the attention. -/
def W5 (c : Dev nD) : Valuation τ sig (Elt F) := Function.update (W4 m c) main_v13 ((dat2 (asVal (W4 m)) c).arrAt 7 cfg2.N)

/-- What the calls leave in the buffers they may change. -/
def outs : Outs (F := F)
  | 1, r, c => W1 m c r
  | 3, r, c => W3 m c r
  | _, r, c => W5 m c r

theorem W1_v0 (c : Dev nD) : W1 m c main_v0 = (dat0 (asVal (V0 m)) c).arrAt 1 cfg0.N := by
  unfold W1; rw [Function.update_self]
theorem W3_v11_0 (c : Dev nD) : W3 m c main_v11_0 = (dat1 (asVal (W2 m)) c).arrAt 4 cfg1.N := by
  unfold W3
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_self]
theorem W3_v11_1 (c : Dev nD) : W3 m c main_v11_1 = (dat1 (asVal (W2 m)) c).arrAt 5 cfg1.N := by
  unfold W3
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_self]
theorem W3_v11_2 (c : Dev nD) : W3 m c main_v11_2 = (dat1 (asVal (W2 m)) c).arrAt 6 cfg1.N := by
  unfold W3
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_self]
theorem W3_v11_3 (c : Dev nD) : W3 m c main_v11_3 = (dat1 (asVal (W2 m)) c).arrAt 7 cfg1.N := by
  unfold W3
  rw [Function.update_of_ne (StableHlo.devRef_ne_of_ne (by decide))]
  rw [Function.update_of_ne (StableHlo.devRef_ne_of_ne (by decide))]
  rw [Function.update_of_ne (StableHlo.devRef_ne_of_ne (by decide))]
  rw [Function.update_of_ne (StableHlo.devRef_ne_of_ne (by decide))]
  rw [Function.update_self]
theorem W3_v11_4 (c : Dev nD) : W3 m c main_v11_4 = (dat1 (asVal (W2 m)) c).arrAt 8 cfg1.N := by
  unfold W3
  rw [Function.update_of_ne (StableHlo.devRef_ne_of_ne (by decide))]
  rw [Function.update_of_ne (StableHlo.devRef_ne_of_ne (by decide))]
  rw [Function.update_of_ne (StableHlo.devRef_ne_of_ne (by decide))]
  rw [Function.update_self]
theorem W3_v11_5 (c : Dev nD) : W3 m c main_v11_5 = (dat1 (asVal (W2 m)) c).arrAt 9 cfg1.N := by
  unfold W3
  rw [Function.update_of_ne (StableHlo.devRef_ne_of_ne (by decide))]
  rw [Function.update_of_ne (StableHlo.devRef_ne_of_ne (by decide))]
  rw [Function.update_self]
theorem W3_v11_6 (c : Dev nD) : W3 m c main_v11_6 = (dat1 (asVal (W2 m)) c).arrAt 10 cfg1.N := by
  unfold W3
  rw [Function.update_of_ne (StableHlo.devRef_ne_of_ne (by decide))]
  rw [Function.update_self]
theorem W3_v11_7 (c : Dev nD) : W3 m c main_v11_7 = (dat1 (asVal (W2 m)) c).arrAt 11 cfg1.N := by
  unfold W3
  rw [Function.update_self]
theorem W5_v13 (c : Dev nD) : W5 m c main_v13 = (dat2 (asVal (W4 m)) c).arrAt 7 cfg2.N := by
  unfold W5; rw [Function.update_self]

theorem V1_eq (c : Dev nD) : V1 m (outs m) c = W1 m c := by
  show Function.update (V0 m c) main_v0 (W1 m c main_v0) = _
  rw [W1_v0]; rfl
theorem V2_eq (c : Dev nD) : V2 m (outs m) c = W2 m c := by
  show StableHlo.after hostOps1 (V1 m (outs m) c) = _
  rw [V1_eq]; rfl
theorem V3_eq (c : Dev nD) : V3 m (outs m) c = W3 m c := by
  show Function.update (Function.update (Function.update (Function.update (Function.update (Function.update (Function.update (Function.update (V2 m (outs m) c) main_v11_0 (W3 m c main_v11_0)) main_v11_1 (W3 m c main_v11_1)) main_v11_2 (W3 m c main_v11_2)) main_v11_3 (W3 m c main_v11_3)) main_v11_4 (W3 m c main_v11_4)) main_v11_5 (W3 m c main_v11_5)) main_v11_6 (W3 m c main_v11_6)) main_v11_7 (W3 m c main_v11_7) = _
  rw [V2_eq, W3_v11_0, W3_v11_1, W3_v11_2, W3_v11_3, W3_v11_4, W3_v11_5, W3_v11_6, W3_v11_7]; rfl
theorem V4_eq (c : Dev nD) : V4 m (outs m) c = W4 m c := by
  show StableHlo.after hostOps2 (V3 m (outs m) c) = _
  rw [V3_eq]; rfl
theorem V5_eq (c : Dev nD) : V5 m (outs m) c = W5 m c := by
  show Function.update (V4 m (outs m) c) main_v13 (W5 m c main_v13) = _
  rw [V4_eq, W5_v13]; rfl

theorem W1_of (c : Dev nD) (r : Ref sig .tc) (h : r ∉ ([main_v0] : List (Ref sig .tc))) : W1 m c r = V0 m c r := by
  rw [← V1_eq]; exact V1_of m (outs m) c r h
theorem W3_of (c : Dev nD) (r : Ref sig .tc) (h : r ∉ ([main_v11_0, main_v11_1, main_v11_2, main_v11_3, main_v11_4, main_v11_5, main_v11_6, main_v11_7] : List (Ref sig .tc))) : W3 m c r = W2 m c r := by
  rw [← V3_eq, ← V2_eq]; exact V3_of m (outs m) c r h
theorem W5_of (c : Dev nD) (r : Ref sig .tc) (h : r ∉ ([main_v13] : List (Ref sig .tc))) : W5 m c r = W4 m c r := by
  rw [← V5_eq, ← V4_eq]; exact V5_of m (outs m) c r h
theorem W2_of (c : Dev nD) (r : Ref sig .tc) (h : r ∉ hostOps1_W) : W2 m c r = W1 m c r := by
  rw [← V2_eq, ← V1_eq]; exact V2_of m (outs m) c r h
theorem W4_of (c : Dev nD) (r : Ref sig .tc) (h : r ∉ hostOps2_W) : W4 m c r = W3 m c r := by
  rw [← V4_eq, ← V3_eq]; exact V4_of m (outs m) c r h

/-- The three calls' proof data, each entered at the contents the run has there. -/
def pdats : (p : Fin 3) → (c : Dev nD) → Dat τ (Elt F) Unit ℕ (UR sig nD τ) ℕ (cfgs p) c
  | ⟨0, _⟩ => fun c => dat0 (asVal (V0 m)) c
  | ⟨1, _⟩ => fun c => dat1 (asVal (W2 m)) c
  | ⟨2, _⟩ => fun c => dat2 (asVal (W4 m)) c

end Contents

/-- What rides along between the calls. -/
abbrev EE (c : Dev nD) : sProp (𝕄 F nD τ) := iprop(∃ W, owes (c : Thread nD τ) (0 : CellTallies nD τ sig Unit) W)

set_option backward.isDefEq.respectTransparency.types false in
/-- A call as a segment of the run: entered with every unscoped buffer at `V`, left with them at `Vp`. -/
def mkReg (p : Fin 3) (pd : (p : Fin 3) → (c : Dev nD) → Dat τ (Elt F) Unit ℕ (UR sig nD τ) ℕ (cfgs p) c)
    (win : Pipeline.WinFacts₀ (cfgs p).spec) (shr : Pipeline.SharedIn (cfgs p).spec)
    (bpos : ∀ w : Fin (cfgs p).W, 0 < ((cfgs p).spec w).block.numel) (aw : ∀ w : Fin (cfgs p).W, ((cfgs p).spec w).arr.IsWhole)
    (sw : ∀ (w : Fin (cfgs p).W) (s : Fin ((cfgs p).spec w).nbuf), (((cfgs p).spec w).stage s).IsWhole)
    (V Vp : (c : Dev nD) → Valuation τ sig (Elt F))
    (hb : ∀ c, BodyObligation (pd p c) (defs₀ (F := F)) 𝒱₀ () Set.univ)
    (hΦ : ∀ c t, (pd p c).Φ t = Pipeline.scopedRest (cfgs p).spec c)
    (howed : ∀ c t, (pd p c).owed t = 0) (hrec : ∀ c t, (pd p c).recorded t = Set.univ)
    (hq : ∀ c w, (pd p c).q w = Pipeline.shareOf (cfgs p).spec w)
    (hA : ∀ c w, (pd p c).A w = V c (Pipeline.arrRef (cfgs p).spec w))
    (hF : ∀ c w, (pd p c).arrAt w (cfgs p).N = Vp c (Pipeline.arrRef (cfgs p).spec w))
    (hrest : ∀ c (b : Ref sig .tc), b ∉ Finset.univ.image (Pipeline.arrRef (cfgs p).spec) → Vp c b = V c b) :
    Pipeline.RegionSeg (pcfgs (F := F)) adm pd () defs₀ 𝒱₀ L lv p where
  win := win
  block_pos := bpos
  stage_whole := sw
  K := PEmpty
  osem k := k.elim
  ho := Pipeline.OwnSemFacts.none _
  hbody c := (hb c).loose
  hwaits := Pipeline.hwaits_of_owed_zero _ _ _ _ L lv p howed
  pre c := iprop(StableHlo.held (c : Thread nD τ) (Pipeline.ucRefs τ sig) (V c) ∗ EE c)
  post c := iprop(StableHlo.held (c : Thread nD τ) (Pipeline.ucRefs τ sig) (Vp c) ∗ EE c)
  X _ := BI.emp
  Y _ := BI.emp
  Z c := Pipeline.unscopedRest (Ix := Unit) (Name := ℕ) (U := UR sig nD τ) (Lvl := ℕ) (cfgs p).spec c (fun b => V c b)
  hentry c := by
    rw [Pipeline.ownSems0_none]
    have hsplit := Pipeline.arrays_of_unscopedBufs_shared (p := p) (pcfgs (F := F)) adm pd win shr aw c
      (fun w _ => hq c w) (fun b => V c b) (hA c)
    rw [← Pipeline.unscopedBufs_held (Ix := Unit) (Name := ℕ) (U := UR sig nD τ) (Lvl := ℕ) c (V c)]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed c 0]
      icases HO with ⟨%W, HO⟩; iexists W; isplitr; · ipureintro; exact fun _ _ => Or.inl (by rw [hrec]; trivial)
      iexact HO
    isplitr; · iempintro
    iexact Hrest
  hin c := by
    rw [hΦ c 0]
    iintro ⟨-, -, Hr⟩; iexact Hr
  hout c := by
    rw [Pipeline.ownSems0_none, hΦ c (Fin.last _)]
    iintro Hr
    isplitr; · iempintro
    isplitr; · iempintro
    iexact Hr
  hexit c := by
    have hjoin := Pipeline.unscopedBufs_of_arrays_shared (p := p) (pcfgs (F := F)) adm (Ix := Unit) (Name := ℕ) (U := UR sig nD τ) (Lvl := ℕ) win shr aw c
      pd (fun w _ => hq c w) (fun b => V c b) (fun b => Vp c b) ((pd p c).arrAt · (cfgs p).N) (hF c) (hrest c)
    rw [← Pipeline.unscopedBufs_held (Ix := Unit) (Name := ℕ) (U := UR sig nD τ) (Lvl := ℕ) c (Vp c)]
    iintro ⟨Ha, HO, -, Hrest⟩
    imodintro
    isplitl [Ha Hrest]
    · iapply hjoin; isplitl [Ha] <;> iassumption
    unfold Pipeline.Dat.owesAt Pipeline.owesWithin
    rw [howed c (Fin.last _)]
    icases HO with ⟨%W, -, HO⟩; iexists W; iexact HO

section Run
variable (m : (ℓ : Loc nD τ sig) → Buf (Elt F) ℓ)

theorem exit0_0 (c : Dev nD) : (dat0 (asVal (V0 m)) c).arrAt 0 cfg0.N = (W1 m) c (Pipeline.arrRef spec0 0) :=
  ((dat0 (asVal (V0 m)) c).arrAt_in 0 rfl _).trans (W1_of m c (Pipeline.arrRef spec0 0) (by decide)).symm
theorem exit0_1 (c : Dev nD) : (dat0 (asVal (V0 m)) c).arrAt 1 cfg0.N = (W1 m) c (Pipeline.arrRef spec0 1) :=
  (W1_v0 m c).symm

theorem exit0 (c : Dev nD) : ∀ w, (pdats m 0 c).arrAt w cfg0.N = (W1 m) c (Pipeline.arrRef spec0 w)
  | ⟨0, _⟩ => exit0_0 m c
  | ⟨1, _⟩ => exit0_1 m c

theorem rest0 (c : Dev nD) (b : Ref sig .tc) (h : b ∉ Finset.univ.image (Pipeline.arrRef spec0)) : (W1 m) c b = (V0 m) c b := by
  refine W1_of m c b fun hb => h ?_
  have hs : ∀ r ∈ ([main_v0] : List (Ref sig .tc)), r ∈ Finset.univ.image (Pipeline.arrRef spec0) := by decide
  exact hs b hb

/-- Call 0 as a segment. -/
def reg0 : Pipeline.RegionSeg (pcfgs (F := F)) adm (pdats m) () defs₀ 𝒱₀ L lv 0 :=
  mkReg 0 (pdats m) launch0.win.to₀ (Pipeline.SharedIn.of_injective launch0.win.arr_inj) block_pos0 arr_whole0 stage_whole0 (V0 m) (W1 m) (fun c => ob0 _ c) (fun _ _ => rfl) (fun _ _ => rfl) (fun _ _ => rfl) (fun _ _ => rfl) (fun _ _ => rfl) (exit0 m) (rest0 m)

theorem exit1_0 (c : Dev nD) : (dat1 (asVal (W2 m)) c).arrAt 0 cfg1.N = (W3 m) c (Pipeline.arrRef spec1 0) :=
  ((dat1 (asVal (W2 m)) c).arrAt_in 0 rfl _).trans (W3_of m c (Pipeline.arrRef spec1 0) (by decide)).symm
theorem exit1_1 (c : Dev nD) : (dat1 (asVal (W2 m)) c).arrAt 1 cfg1.N = (W3 m) c (Pipeline.arrRef spec1 1) :=
  ((dat1 (asVal (W2 m)) c).arrAt_in 1 rfl _).trans (W3_of m c (Pipeline.arrRef spec1 1) (by decide)).symm
theorem exit1_2 (c : Dev nD) : (dat1 (asVal (W2 m)) c).arrAt 2 cfg1.N = (W3 m) c (Pipeline.arrRef spec1 2) :=
  ((dat1 (asVal (W2 m)) c).arrAt_in 2 rfl _).trans (W3_of m c (Pipeline.arrRef spec1 2) (by decide)).symm
theorem exit1_3 (c : Dev nD) : (dat1 (asVal (W2 m)) c).arrAt 3 cfg1.N = (W3 m) c (Pipeline.arrRef spec1 3) :=
  ((dat1 (asVal (W2 m)) c).arrAt_in 3 rfl _).trans (W3_of m c (Pipeline.arrRef spec1 3) (by decide)).symm
theorem exit1_4 (c : Dev nD) : (dat1 (asVal (W2 m)) c).arrAt 4 cfg1.N = (W3 m) c (Pipeline.arrRef spec1 4) :=
  (W3_v11_0 m c).symm
theorem exit1_5 (c : Dev nD) : (dat1 (asVal (W2 m)) c).arrAt 5 cfg1.N = (W3 m) c (Pipeline.arrRef spec1 5) :=
  (W3_v11_1 m c).symm
theorem exit1_6 (c : Dev nD) : (dat1 (asVal (W2 m)) c).arrAt 6 cfg1.N = (W3 m) c (Pipeline.arrRef spec1 6) :=
  (W3_v11_2 m c).symm
theorem exit1_7 (c : Dev nD) : (dat1 (asVal (W2 m)) c).arrAt 7 cfg1.N = (W3 m) c (Pipeline.arrRef spec1 7) :=
  (W3_v11_3 m c).symm
theorem exit1_8 (c : Dev nD) : (dat1 (asVal (W2 m)) c).arrAt 8 cfg1.N = (W3 m) c (Pipeline.arrRef spec1 8) :=
  (W3_v11_4 m c).symm
theorem exit1_9 (c : Dev nD) : (dat1 (asVal (W2 m)) c).arrAt 9 cfg1.N = (W3 m) c (Pipeline.arrRef spec1 9) :=
  (W3_v11_5 m c).symm
theorem exit1_10 (c : Dev nD) : (dat1 (asVal (W2 m)) c).arrAt 10 cfg1.N = (W3 m) c (Pipeline.arrRef spec1 10) :=
  (W3_v11_6 m c).symm
theorem exit1_11 (c : Dev nD) : (dat1 (asVal (W2 m)) c).arrAt 11 cfg1.N = (W3 m) c (Pipeline.arrRef spec1 11) :=
  (W3_v11_7 m c).symm

theorem exit1 (c : Dev nD) : ∀ w, (pdats m 1 c).arrAt w cfg1.N = (W3 m) c (Pipeline.arrRef spec1 w)
  | ⟨0, _⟩ => exit1_0 m c
  | ⟨1, _⟩ => exit1_1 m c
  | ⟨2, _⟩ => exit1_2 m c
  | ⟨3, _⟩ => exit1_3 m c
  | ⟨4, _⟩ => exit1_4 m c
  | ⟨5, _⟩ => exit1_5 m c
  | ⟨6, _⟩ => exit1_6 m c
  | ⟨7, _⟩ => exit1_7 m c
  | ⟨8, _⟩ => exit1_8 m c
  | ⟨9, _⟩ => exit1_9 m c
  | ⟨10, _⟩ => exit1_10 m c
  | ⟨11, _⟩ => exit1_11 m c

theorem rest1 (c : Dev nD) (b : Ref sig .tc) (h : b ∉ Finset.univ.image (Pipeline.arrRef spec1)) : (W3 m) c b = (W2 m) c b := by
  refine W3_of m c b fun hb => h ?_
  have hs : ∀ r ∈ ([main_v11_0, main_v11_1, main_v11_2, main_v11_3, main_v11_4, main_v11_5, main_v11_6, main_v11_7] : List (Ref sig .tc)), r ∈ Finset.univ.image (Pipeline.arrRef spec1) := by decide
  exact hs b hb

/-- Call 1 as a segment. -/
def reg1 : Pipeline.RegionSeg (pcfgs (F := F)) adm (pdats m) () defs₀ 𝒱₀ L lv 1 :=
  mkReg 1 (pdats m) launch1.win.to₀ (Pipeline.SharedIn.of_injective launch1.win.arr_inj) block_pos1 arr_whole1 stage_whole1 (W2 m) (W3 m) (fun c => ob1 _ c) (fun _ _ => rfl) (fun _ _ => rfl) (fun _ _ => rfl) (fun _ _ => rfl) (fun _ _ => rfl) (exit1 m) (rest1 m)

theorem exit2_0 (c : Dev nD) : (dat2 (asVal (W4 m)) c).arrAt 0 cfg2.N = (W5 m) c (Pipeline.arrRef spec2 0) :=
  ((dat2 (asVal (W4 m)) c).arrAt_in 0 rfl _).trans (W5_of m c (Pipeline.arrRef spec2 0) (by decide)).symm
theorem exit2_1 (c : Dev nD) : (dat2 (asVal (W4 m)) c).arrAt 1 cfg2.N = (W5 m) c (Pipeline.arrRef spec2 1) :=
  ((dat2 (asVal (W4 m)) c).arrAt_in 1 rfl _).trans (W5_of m c (Pipeline.arrRef spec2 1) (by decide)).symm
theorem exit2_2 (c : Dev nD) : (dat2 (asVal (W4 m)) c).arrAt 2 cfg2.N = (W5 m) c (Pipeline.arrRef spec2 2) :=
  ((dat2 (asVal (W4 m)) c).arrAt_in 2 rfl _).trans (W5_of m c (Pipeline.arrRef spec2 2) (by decide)).symm
theorem exit2_3 (c : Dev nD) : (dat2 (asVal (W4 m)) c).arrAt 3 cfg2.N = (W5 m) c (Pipeline.arrRef spec2 3) :=
  ((dat2 (asVal (W4 m)) c).arrAt_in 3 rfl _).trans (W5_of m c (Pipeline.arrRef spec2 3) (by decide)).symm
theorem exit2_4 (c : Dev nD) : (dat2 (asVal (W4 m)) c).arrAt 4 cfg2.N = (W5 m) c (Pipeline.arrRef spec2 4) :=
  ((dat2 (asVal (W4 m)) c).arrAt_in 4 rfl _).trans (W5_of m c (Pipeline.arrRef spec2 4) (by decide)).symm
theorem exit2_5 (c : Dev nD) : (dat2 (asVal (W4 m)) c).arrAt 5 cfg2.N = (W5 m) c (Pipeline.arrRef spec2 5) :=
  ((dat2 (asVal (W4 m)) c).arrAt_in 5 rfl _).trans (W5_of m c (Pipeline.arrRef spec2 5) (by decide)).symm
theorem exit2_6 (c : Dev nD) : (dat2 (asVal (W4 m)) c).arrAt 6 cfg2.N = (W5 m) c (Pipeline.arrRef spec2 6) :=
  ((dat2 (asVal (W4 m)) c).arrAt_in 6 rfl _).trans (W5_of m c (Pipeline.arrRef spec2 6) (by decide)).symm
theorem exit2_7 (c : Dev nD) : (dat2 (asVal (W4 m)) c).arrAt 7 cfg2.N = (W5 m) c (Pipeline.arrRef spec2 7) :=
  (W5_v13 m c).symm

theorem exit2 (c : Dev nD) : ∀ w, (pdats m 2 c).arrAt w cfg2.N = (W5 m) c (Pipeline.arrRef spec2 w)
  | ⟨0, _⟩ => exit2_0 m c
  | ⟨1, _⟩ => exit2_1 m c
  | ⟨2, _⟩ => exit2_2 m c
  | ⟨3, _⟩ => exit2_3 m c
  | ⟨4, _⟩ => exit2_4 m c
  | ⟨5, _⟩ => exit2_5 m c
  | ⟨6, _⟩ => exit2_6 m c
  | ⟨7, _⟩ => exit2_7 m c

theorem rest2 (c : Dev nD) (b : Ref sig .tc) (h : b ∉ Finset.univ.image (Pipeline.arrRef spec2)) : (W5 m) c b = (W4 m) c b := by
  refine W5_of m c b fun hb => h ?_
  have hs : ∀ r ∈ ([main_v13] : List (Ref sig .tc)), r ∈ Finset.univ.image (Pipeline.arrRef spec2) := by decide
  exact hs b hb

/-- Call 2 as a segment. -/
def reg2 : Pipeline.RegionSeg (pcfgs (F := F)) adm (pdats m) () defs₀ 𝒱₀ L lv 2 :=
  mkReg 2 (pdats m) winFacts₀2 sharedIn2 block_pos2 arr_whole2 stage_whole2 (W4 m) (W5 m) (fun c => ob2 _ c) (fun _ _ => rfl) (fun _ _ => rfl) (fun _ _ => rfl) (fun _ _ => rfl) (fun _ _ => rfl) (exit2 m) (rest2 m)

set_option backward.isDefEq.respectTransparency.types false in
/-- Every run of the three calls and the host lines between them ends, with every semaphore counter at zero and every unscoped buffer at the contents `W5` names. -/
theorem run_main (ρ : Dev nD → PrngReg) : θ_run defs (onTc (τ := τ) (main (F := F))) ⟨m, fun _ => 0, ρ⟩ (fun r => (∀ c : Dev nD, ∀ b ∈ Pipeline.ucRefs τ sig, r.2.mem (c, b) = W5 m c b) ∧ r.2.sem = fun _ => 0) := by
  refine Pipeline.θ_run_regions_kit_dev_sems (pcfgs (F := F)) adm (pdats m) () cellOf_inj emb₁ defs₀ 𝒱₀ L lv m ρ main
    (segs m (outs m) 𝒱₀ L lv (fun _ => EE) () (pdats m) (reg0 m) (reg1 m) (reg2 m))
    (fun c Q => by
      rewrite [main_chain c, Pipeline.Seg.run_eq_chain,
        show (segs m (outs m) 𝒱₀ L lv (fun _ => EE) () (pdats m) (reg0 m) (reg1 m) (reg2 m) c).map Pipeline.Seg.prog = [
          Prog.lift (.customCall (Pipeline.entry 0) ()),
          StableHlo.seq hostOps1,
          Prog.lift (.customCall (Pipeline.entry 1) ()),
          StableHlo.seq hostOps2,
          Prog.lift (.customCall (Pipeline.entry 2) ()) ] from rfl]
      dsimp (config := { failIfUnchanged := false }) only
      exact .rfl)
    (fun c => by simp only [segs, Pipeline.Seg.pipes_host, Pipeline.Seg.pipes_region, Pipeline.Seg.pipes_nil]; decide) 0 (fun _ _ => rfl) (fun _ => iprop(emp))
    (initOf (Pipeline.cells cfgs cellOf_inj) (Pipeline.launchToks cfgs cellOf_inj))
    (by
      iintro Hu; imodintro
      isplitl [Hu]
      · iapply (show (ownU _ : sProp (𝕄 F nD τ)) ⊢ BI.own (emb₁ (initOf (Pipeline.cells cfgs cellOf_inj) (Pipeline.launchToks cfgs cellOf_inj))) from .rfl)
        iexact Hu
      iapply (show (BI.emp : sProp (𝕄 F nD τ)) ⊢ bigSep Finset.univ (fun _ : Dev nD => (BI.emp : sProp (𝕄 F nD τ))) from by rw [BI.bigSep_emp_const])
      iempintro)
    (T₀ := fun c => iprop(StableHlo.held (c : Thread nD τ) (Pipeline.ucRefs τ sig) (V0 m c) ∗ EE c))
    (Tₙ := fun c => StableHlo.held (c : Thread nD τ) (Pipeline.ucRefs τ sig) (W5 m c))
    (hch := fun c => ⟨.rfl, ?_, ?_, ?_, ?_, .rfl⟩)
    (hinit := ?_) (QY := fun c s => ∀ b ∈ Pipeline.ucRefs τ sig, s.mem (c, b) = W5 m c b)
    (hfin := fun c s' => ?_) (hQ := fun _ h hz => ⟨h, funext fun g => hz g (.inr (regions_no_unscoped g.2))⟩)
  · show iprop(StableHlo.held (c : Thread nD τ) (Pipeline.ucRefs τ sig) (W1 m c) ∗ EE c) ⊢ iprop(StableHlo.held (c : Thread nD τ) (Pipeline.ucRefs τ sig) (V1 m (outs m) c) ∗ EE c)
    rw [V1_eq]
  · show iprop(StableHlo.held (c : Thread nD τ) (Pipeline.ucRefs τ sig) (V2 m (outs m) c) ∗ EE c) ⊢ iprop(StableHlo.held (c : Thread nD τ) (Pipeline.ucRefs τ sig) (W2 m c) ∗ EE c)
    rw [V2_eq]
  · show iprop(StableHlo.held (c : Thread nD τ) (Pipeline.ucRefs τ sig) (W3 m c) ∗ EE c) ⊢ iprop(StableHlo.held (c : Thread nD τ) (Pipeline.ucRefs τ sig) (V3 m (outs m) c) ∗ EE c)
    rw [V3_eq]
  · show iprop(StableHlo.held (c : Thread nD τ) (Pipeline.ucRefs τ sig) (V4 m (outs m) c) ∗ EE c) ⊢ iprop(StableHlo.held (c : Thread nD τ) (Pipeline.ucRefs τ sig) (W4 m c) ∗ EE c)
    rw [V4_eq]
  · refine Pipeline.initEach L lv fun c => ?_
    rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W5 m c) s') $$ [Hh HSI]
    · isplitl [Hh] <;> iassumption
    imodintro; iexact Hr

end Run

end Cert.Proof.KernelIdeal.Attn

end
-- ==== Proof.HostVals.lean ====
module

public import proofs.«01_k».proof.Proof.Run
public import Idealize.ShloMosaic.Lib.Pointwise
public import Idealize.ShloMosaic.Lib.Tactic.CleanTypes

@[expose] public section

/-! What the host lines between the calls hand to the next call, at an index. -/

set_option maxRecDepth 16384
set_option maxHeartbeats 1000000

noncomputable section

namespace Cert.Proof.KernelIdeal.Attn

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

theorem W2_v1 : (W2 m c main_v1 : Vec Ideal S16384x1024 .f32) = shapeCast S16384x1024 (W1 m c main_arg0 : Vec Ideal S2x8192x1024 .f32) shapeCasts_S2x8192x1024_S16384x1024 := by
  unfold W2
  after_results_simp
  try rfl

theorem W2_v7 : (W2 m c main_v7 : Vec Ideal S1024x4608 .bf16) = (truncf .bf16 (W1 m c main_arg3 : FVec Ideal S1024x4608 .f32) bitsLt_bf16_f32 : FVec Ideal S1024x4608 .bf16) := by
  unfold W2
  after_results_simp
  try rfl

theorem W2_v8 : (W2 m c main_v8 : Vec Ideal S1x128 .f32) = shapeCast S1x128 (W1 m c main_arg8 : Vec Ideal S128 .f32) shapeCasts_S128_S1x128 := by
  unfold W2
  after_results_simp
  try rfl

theorem W2_v9 : (W2 m c main_v9 : Vec Ideal S1x1024 .f32) = shapeCast S1x1024 (W1 m c main_arg2 : Vec Ideal S1024 .f32) shapeCasts_S1024_S1x1024 := by
  unfold W2
  after_results_simp
  try rfl

theorem W2_v10 : (W2 m c main_v10 : Vec Ideal S1x512 .f32) = shapeCast S1x512 (W1 m c main_arg9 : Vec Ideal S512 .f32) shapeCasts_S512_S1x512 := by
  unfold W2
  after_results_simp
  try rfl

theorem W2_v6 : (W2 m c main_v6 : Vec Ideal S4x64 .f32) = concatenate S4x64 0 [⟨S1x64, broadcastInDim S1x64 ![1] bcast_S64_S1x64_1 (W1 m c main_arg4 : Vec Ideal S64 .f32)⟩, ⟨S1x64, broadcastInDim S1x64 ![1] bcast_S64_S1x64_1 (W1 m c main_arg5 : Vec Ideal S64 .f32)⟩, ⟨S1x64, broadcastInDim S1x64 ![1] bcast_S64_S1x64_1 (W1 m c main_arg6 : Vec Ideal S64 .f32)⟩, ⟨S1x64, broadcastInDim S1x64 ![1] bcast_S64_S1x64_1 (W1 m c main_arg7 : Vec Ideal S64 .f32)⟩] concatenates_S1x64_S1x64_S1x64_S1x64_S4x64_d0 := by
  unfold W2
  after_results_simp
  try rfl

theorem W4_v12 : (W4 m c main_v12 : Vec Ideal S128x1 .f32) = shapeCast S128x1 (W3 m c main_v8 : Vec Ideal S1x128 .f32) shapeCasts_S1x128_S128x1 := by
  unfold W4
  after_results_simp
  try rfl

section
variable (X : FVec Ideal S2x8192x1024 .f32) (A : FVec Ideal S128 .f32) (B : FVec Ideal S1024 .f32) (C : FVec Ideal S512 .f32)

theorem rows_at (R : Fin 16384) (i : Fin 1024) : (shapeCast S16384x1024 X shapeCasts_S2x8192x1024_S16384x1024 : FVec Ideal S16384x1024 .f32) (ix2 R i)
    = X (ix3 ⟨R.val / 8192, by omega⟩ ⟨R.val % 8192, by omega⟩ i) := by
  pointwise

theorem row1024_at (i : Fin 1024) : (shapeCast S1x1024 B shapeCasts_S1024_S1x1024 : FVec Ideal S1x1024 .f32) (ix2 0 i) = B (ix1 i) := by
  pointwise

theorem row512_at (i : Fin 512) : (shapeCast S1x512 C shapeCasts_S512_S1x512 : FVec Ideal S1x512 .f32) (ix2 0 i) = C (ix1 i) := by
  pointwise

theorem col128_at (i : Fin 128) : (shapeCast S128x1 (shapeCast S1x128 A shapeCasts_S128_S1x128 : FVec Ideal S1x128 .f32) shapeCasts_S1x128_S128x1 : FVec Ideal S128x1 .f32) (ix2 i 0) = A (ix1 i) := by
  pointwise
end

section
variable (a b d e : FVec Ideal S64 .f32)

theorem four_at (x : Fin 64) :
    (concatenate S4x64 0 [⟨S1x64, broadcastInDim S1x64 ![1] bcast_S64_S1x64_1 a⟩, ⟨S1x64, broadcastInDim S1x64 ![1] bcast_S64_S1x64_1 b⟩, ⟨S1x64, broadcastInDim S1x64 ![1] bcast_S64_S1x64_1 d⟩, ⟨S1x64, broadcastInDim S1x64 ![1] bcast_S64_S1x64_1 e⟩] concatenates_S1x64_S1x64_S1x64_S1x64_S4x64_d0 : FVec Ideal S4x64 .f32) (ix2 0 x) = a (ix1 x)
    ∧ (concatenate S4x64 0 [⟨S1x64, broadcastInDim S1x64 ![1] bcast_S64_S1x64_1 a⟩, ⟨S1x64, broadcastInDim S1x64 ![1] bcast_S64_S1x64_1 b⟩, ⟨S1x64, broadcastInDim S1x64 ![1] bcast_S64_S1x64_1 d⟩, ⟨S1x64, broadcastInDim S1x64 ![1] bcast_S64_S1x64_1 e⟩] concatenates_S1x64_S1x64_S1x64_S1x64_S4x64_d0 : FVec Ideal S4x64 .f32) (ix2 1 x) = b (ix1 x)
    ∧ (concatenate S4x64 0 [⟨S1x64, broadcastInDim S1x64 ![1] bcast_S64_S1x64_1 a⟩, ⟨S1x64, broadcastInDim S1x64 ![1] bcast_S64_S1x64_1 b⟩, ⟨S1x64, broadcastInDim S1x64 ![1] bcast_S64_S1x64_1 d⟩, ⟨S1x64, broadcastInDim S1x64 ![1] bcast_S64_S1x64_1 e⟩] concatenates_S1x64_S1x64_S1x64_S1x64_S4x64_d0 : FVec Ideal S4x64 .f32) (ix2 2 x) = d (ix1 x)
    ∧ (concatenate S4x64 0 [⟨S1x64, broadcastInDim S1x64 ![1] bcast_S64_S1x64_1 a⟩, ⟨S1x64, broadcastInDim S1x64 ![1] bcast_S64_S1x64_1 b⟩, ⟨S1x64, broadcastInDim S1x64 ![1] bcast_S64_S1x64_1 d⟩, ⟨S1x64, broadcastInDim S1x64 ![1] bcast_S64_S1x64_1 e⟩] concatenates_S1x64_S1x64_S1x64_S1x64_S4x64_d0 : FVec Ideal S4x64 .f32) (ix2 3 x) = e (ix1 x) := by
  refine ⟨?_, ?_, ?_, ?_⟩ <;> pointwise
end

end Cert.Proof.KernelIdeal.Attn

end
-- ==== Proof.ValProj.lean ====
module

public import proofs.«01_k».proof.Proof.ProjBody
public import Idealize.ShloMosaic.Lib.Pointwise
public import Idealize.ShloMosaic.Lib.Pipeline.ValueKit

@[expose] public section

set_option maxRecDepth 16384

noncomputable section

namespace Cert.Proof.KernelIdeal.Attn

open Cert.KernelIdeal Cert.KernelIdeal.Gen
open Idealize.ShloMosaic Idealize.ShloMosaic.TcCoe Idealize.ShloMosaic.Tactic

/-- One entry of a row after root-mean-square normalisation over `n` entries. -/
def nrm {n : Nat} (N : EReal) (x g : Fin n → EReal) (i : Fin n) : EReal :=
  x i * Ideal.rsqrt (Ideal.div (∑ j, x j * x j) N + Ideal.ofBits .f32 0x358637BD#32) * g i

/-- One entry of a normalised row times a matrix. -/
def prow (x g : Fin 1024 → EReal) (w : Fin 1024 → Fin 4608 → EReal) (c : Fin 4608) : EReal :=
  ∑ k, nrm (Ideal.ofBits .f32 0x44800000#32) x g k * w k c

variable (X : Vec Ideal S512x1024 .f32) (G : Vec Ideal S1x1024 .f32) (W : Vec Ideal S1024x4608 .bf16) (GV : Vec Ideal S1x512 .f32)

/-- The rows of a block of the projection, as `prow`. -/
abbrev pb (r : Fin 512) (c : Fin 4608) : EReal := prow (fun i => X (ix2 r i)) (fun i => G (ix2 0 i)) (fun k c => W (ix2 k c)) c

theorem proj9_at (r : Fin 512) (c : Fin 512) : proj9 X G W GV (ix2 r c) = pb X G W r ⟨1536 + c, by omega⟩ := by
  unfold proj9 pb prow nrm
  pointwise [k1_pay27, k1_pay2]

theorem proj10_at (r : Fin 512) (c : Fin 512) : proj10 X G W GV (ix2 r c)
    = nrm (Ideal.ofBits .f32 0x44000000#32) (fun c : Fin 512 => pb X G W r ⟨2048 + c, by omega⟩) (fun c => GV (ix2 0 c)) c := by
  unfold proj10 pb prow nrm
  pointwise [k1_pay28, k1_pay2]

theorem proj11_at (r : Fin 512) (c : Fin 1024) : proj11 X G W GV (ix2 r c) = pb X G W r ⟨2560 + c, by omega⟩ := by
  unfold proj11 pb prow nrm
  pointwise [k1_pay29, k1_pay2]

theorem proj12_at (r : Fin 512) (c : Fin 1024) : proj12 X G W GV (ix2 r c) = pb X G W r ⟨3584 + c, by omega⟩ := by
  unfold proj12 pb prow nrm
  pointwise [k1_pay1, k1_pay2]

theorem k1_pay3_at (r c : Fin 512) : k1_pay3 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 512] S1024x512.size inb_S1024x4608_S1024x512_0_512)) (ix2 r c) = pb X G W r ⟨512 + c, by omega⟩ := by
  unfold pb prow nrm
  pointwise [k1_pay3, k1_pay2]

theorem k1_pay4_at (r c : Fin 512) : k1_pay4 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 1024] S1024x512.size inb_S1024x4608_S1024x512_0_1024)) (ix2 r c) = pb X G W r ⟨1024 + c, by omega⟩ := by
  unfold pb prow nrm
  pointwise [k1_pay4, k1_pay2]

theorem k1_pay5_at (r c : Fin 512) : k1_pay5 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 0] S1024x512.size inb_S1024x4608_S1024x512_0_0)) (ix2 r c) = pb X G W r ⟨c, by omega⟩ * (((8 * (Real.log 2))⁻¹ : ℝ) : EReal) := by
  unfold pb prow nrm
  pointwise [k1_pay5, k1_pay2]
  rw [IdealRules.named_const.ideal_named_scalar κ "scale" _ _ rfl]

theorem k1_pay6_at (r c : Fin 512) : k1_pay6 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 512] S1024x512.size inb_S1024x4608_S1024x512_0_512)) (ix2 r c) = pb X G W r ⟨512 + c, by omega⟩ := by
  rw [← k1_pay3_at]
  pointwise [k1_pay6]

theorem k1_pay7_at (c r : Fin 512) : k1_pay7 (View.ld X (Rect.unit (s := S512x1024) ![0, 0] S512x1024.size inb_S512x1024_S512x1024_0_0)) (View.ld G (Rect.unit (s := S1x1024) ![0, 0] S1x1024.size inb_S1x1024_S1x1024_0_0)) (View.ld W (Rect.unit (s := S1024x4608) ![0, 1024] S1024x512.size inb_S1024x4608_S1024x512_0_1024)) (ix2 c r) = pb X G W r ⟨1024 + c, by omega⟩ := by
  rw [← k1_pay4_at]
  pointwise [k1_pay7]

/-- A row of ones over rows of zeros. -/
theorem k1_pay8_at (a : Fin 16) (r : Fin 512) : k1_pay8 (F := Ideal) (iota .tc S16x512 32 [0] iota_S16x512_d0_w32) 0#32 (ix2 a r) = if a.val = 0 then 1 else 0 := by
  pointwise [k1_pay8]
  fin_cases a <;> rfl

/-- The place of an entry of a stored rectangle. -/
theorem emb_at {S : Shape} {r : Rect S} {x : r.shape.Idx} {y : S.Idx} (h : r.emb x = y) (a : Fin S.rank) : (y a).val = r.off a + r.stride a * x a := by
  rw [← h, Rect.emb_apply]

/-- The block of keys by position and head. -/
theorem proj7_at (b : Fin 2048) (d : Fin 128) : proj7 X G W GV (ix3 0 b d) = pb X G W ⟨b / 4, by omega⟩ ⟨512 + (128 * (b.val % 4) + d), by omega⟩ := by
  refine View.canon_eq_of_allAt _ _ _ (proj7_cov X G W GV _) ?_
  refine View.allAt_cons _ _ _ ?_ (View.allAt_cons _ _ _ ?_ (View.allAt_cons _ _ _ ?_ (View.allAt_cons _ _ _ ?_ (View.allAt_nil _ _))))
  · intro x hx
    have h1 : b.val = 3 + 4 * x 1 := emb_at hx 1
    have h2 : d.val = 0 + 1 * x 2 := emb_at hx 2
    clear hx
    idx_vars x
    pointwise [k1_pay25, k1_pay24, k1_pay3_at]
    congr 1 <;> apply Fin.ext <;> (try dsimp only) <;> omega
  · intro x hx
    have h1 : b.val = 2 + 4 * x 1 := emb_at hx 1
    have h2 : d.val = 0 + 1 * x 2 := emb_at hx 2
    clear hx
    idx_vars x
    pointwise [k1_pay20, k1_pay3_at]
    congr 1 <;> apply Fin.ext <;> (try dsimp only) <;> omega
  · intro x hx
    have h1 : b.val = 1 + 4 * x 1 := emb_at hx 1
    have h2 : d.val = 0 + 1 * x 2 := emb_at hx 2
    clear hx
    idx_vars x
    pointwise [k1_pay16, k1_pay15, k1_pay3_at]
    congr 1 <;> apply Fin.ext <;> (try dsimp only) <;> omega
  · intro x hx
    have h1 : b.val = 0 + 4 * x 1 := emb_at hx 1
    have h2 : d.val = 0 + 1 * x 2 := emb_at hx 2
    clear hx
    idx_vars x
    pointwise [k1_pay11, k1_pay3_at]
    congr 1 <;> apply Fin.ext <;> (try dsimp only) <;> omega

/-- The block of values by position and head. -/
theorem proj8_at (b : Fin 2048) (d : Fin 128) : proj8 X G W GV (ix3 0 b d) = pb X G W ⟨b / 4, by omega⟩ ⟨1024 + (128 * (b.val % 4) + d), by omega⟩ := by
  refine View.canon_eq_of_allAt _ _ _ (proj8_cov X G W GV _) ?_
  refine View.allAt_cons _ _ _ ?_ (View.allAt_cons _ _ _ ?_ (View.allAt_cons _ _ _ ?_ (View.allAt_cons _ _ _ ?_ (View.allAt_nil _ _))))
  · intro x hx
    have h1 : b.val = 3 + 4 * x 1 := emb_at hx 1
    have h2 : d.val = 0 + 1 * x 2 := emb_at hx 2
    clear hx
    idx_vars x
    pointwise [k1_pay26, k1_pay4_at]
    congr 1 <;> apply Fin.ext <;> (try dsimp only) <;> omega
  · intro x hx
    have h1 : b.val = 2 + 4 * x 1 := emb_at hx 1
    have h2 : d.val = 0 + 1 * x 2 := emb_at hx 2
    clear hx
    idx_vars x
    pointwise [k1_pay21, k1_pay4_at]
    congr 1 <;> apply Fin.ext <;> (try dsimp only) <;> omega
  · intro x hx
    have h1 : b.val = 1 + 4 * x 1 := emb_at hx 1
    have h2 : d.val = 0 + 1 * x 2 := emb_at hx 2
    clear hx
    idx_vars x
    pointwise [k1_pay17, k1_pay4_at]
    congr 1 <;> apply Fin.ext <;> (try dsimp only) <;> omega
  · intro x hx
    have h1 : b.val = 0 + 4 * x 1 := emb_at hx 1
    have h2 : d.val = 0 + 1 * x 2 := emb_at hx 2
    clear hx
    idx_vars x
    pointwise [k1_pay12, k1_pay4_at]
    congr 1 <;> apply Fin.ext <;> (try dsimp only) <;> omega

/-- The block of queries and keys: a query's entry is scaled. -/
theorem proj5_at (r : Fin 512) (c : Fin 1024) : proj5 X G W GV (ix2 r c)
    = if c.val < 512 then pb X G W r ⟨c, by omega⟩ * (((8 * (Real.log 2))⁻¹ : ℝ) : EReal) else pb X G W r ⟨c, by omega⟩ := by
  refine View.canon_eq_of_allAt _ _ _ (proj5_cov X G W GV _) ?_
  refine View.allAt_cons _ _ _ ?_ (View.allAt_cons _ _ _ ?_ (View.allAt_nil _ _))
  · intro x hx
    have h0 : r.val = 0 + 1 * x 0 := emb_at hx 0
    have h1 : c.val = 512 + 1 * x 1 := emb_at hx 1
    clear hx
    idx_vars x
    change r.val = 0 + 1 * x0.val at h0
    change c.val = 512 + 1 * x1.val at h1
    rw [if_neg (by omega), k1_pay6_at]
    congr 1 <;> apply Fin.ext <;> (try dsimp only) <;> omega
  · intro x hx
    have h0 : r.val = 0 + 1 * x 0 := emb_at hx 0
    have h1 : c.val = 0 + 1 * x 1 := emb_at hx 1
    clear hx
    idx_vars x
    change r.val = 0 + 1 * x0.val at h0
    change c.val = 0 + 1 * x1.val at h1
    rw [if_pos (by omega), k1_pay5_at]
    congr 2 <;> apply Fin.ext <;> (try dsimp only) <;> omega

/-- The block of values with positions along the row: a head has 128 rows of values, a row of ones and 15 rows of zeros. -/
theorem proj6_at (R : Fin 576) (s : Fin 512) : proj6 X G W GV (ix3 0 R s)
    = if h : R.val % 144 < 128 then pb X G W s ⟨1024 + (128 * (R.val / 144) + R.val % 144), by omega⟩ else if R.val % 144 = 128 then 1 else 0 := by
  refine View.canon_eq_of_allAt _ _ _ (proj6_cov X G W GV _) ?_
  refine (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_nil _ _)))))))))
  · intro x hx
    have h1 : R.val = 560 + 1 * x 1 := emb_at hx 1
    have h2 : s.val = 0 + 1 * x 2 := emb_at hx 2
    clear hx
    idx_vars x
    change R.val = 560 + 1 * x1.val at h1
    change s.val = 0 + 1 * x2.val at h2
    rw [dif_neg (by omega)]
    pointwise [k1_pay23]
    rw [k1_pay8_at]
    by_cases h0 : x1.val = 0
    · rw [if_pos h0, if_pos (by omega)]
    · rw [if_neg h0, if_neg (by omega)]
  · intro x hx
    have h1 : R.val = 432 + 1 * x 1 := emb_at hx 1
    have h2 : s.val = 0 + 1 * x 2 := emb_at hx 2
    clear hx
    idx_vars x
    change R.val = 432 + 1 * x1.val at h1
    change s.val = 0 + 1 * x2.val at h2
    rw [dif_pos (by omega)]
    pointwise [k1_pay22, k1_pay7_at]
    congr 1 <;> apply Fin.ext <;> (try dsimp only) <;> omega
  · intro x hx
    have h1 : R.val = 416 + 1 * x 1 := emb_at hx 1
    have h2 : s.val = 0 + 1 * x 2 := emb_at hx 2
    clear hx
    idx_vars x
    change R.val = 416 + 1 * x1.val at h1
    change s.val = 0 + 1 * x2.val at h2
    rw [dif_neg (by omega)]
    pointwise [k1_pay19]
    rw [k1_pay8_at]
    by_cases h0 : x1.val = 0
    · rw [if_pos h0, if_pos (by omega)]
    · rw [if_neg h0, if_neg (by omega)]
  · intro x hx
    have h1 : R.val = 288 + 1 * x 1 := emb_at hx 1
    have h2 : s.val = 0 + 1 * x 2 := emb_at hx 2
    clear hx
    idx_vars x
    change R.val = 288 + 1 * x1.val at h1
    change s.val = 0 + 1 * x2.val at h2
    rw [dif_pos (by omega)]
    pointwise [k1_pay18, k1_pay7_at]
    congr 1 <;> apply Fin.ext <;> (try dsimp only) <;> omega
  · intro x hx
    have h1 : R.val = 272 + 1 * x 1 := emb_at hx 1
    have h2 : s.val = 0 + 1 * x 2 := emb_at hx 2
    clear hx
    idx_vars x
    change R.val = 272 + 1 * x1.val at h1
    change s.val = 0 + 1 * x2.val at h2
    rw [dif_neg (by omega)]
    pointwise [k1_pay14]
    rw [k1_pay8_at]
    by_cases h0 : x1.val = 0
    · rw [if_pos h0, if_pos (by omega)]
    · rw [if_neg h0, if_neg (by omega)]
  · intro x hx
    have h1 : R.val = 144 + 1 * x 1 := emb_at hx 1
    have h2 : s.val = 0 + 1 * x 2 := emb_at hx 2
    clear hx
    idx_vars x
    change R.val = 144 + 1 * x1.val at h1
    change s.val = 0 + 1 * x2.val at h2
    rw [dif_pos (by omega)]
    pointwise [k1_pay13, k1_pay7_at]
    congr 1 <;> apply Fin.ext <;> (try dsimp only) <;> omega
  · intro x hx
    have h1 : R.val = 128 + 1 * x 1 := emb_at hx 1
    have h2 : s.val = 0 + 1 * x 2 := emb_at hx 2
    clear hx
    idx_vars x
    change R.val = 128 + 1 * x1.val at h1
    change s.val = 0 + 1 * x2.val at h2
    rw [dif_neg (by omega)]
    pointwise [k1_pay10]
    rw [k1_pay8_at]
    by_cases h0 : x1.val = 0
    · rw [if_pos h0, if_pos (by omega)]
    · rw [if_neg h0, if_neg (by omega)]
  · intro x hx
    have h1 : R.val = 0 + 1 * x 1 := emb_at hx 1
    have h2 : s.val = 0 + 1 * x 2 := emb_at hx 2
    clear hx
    idx_vars x
    change R.val = 0 + 1 * x1.val at h1
    change s.val = 0 + 1 * x2.val at h2
    rw [dif_pos (by omega)]
    pointwise [k1_pay9, k1_pay7_at]
    congr 1 <;> apply Fin.ext <;> (try dsimp only) <;> omega

end Cert.Proof.KernelIdeal.Attn
-- ==== Proof.ProjArr.lean ====
module

public import proofs.«01_k».proof.Proof.ValProj
public import proofs.«01_k».proof.Proof.Run

@[expose] public section

set_option maxRecDepth 16384
set_option maxHeartbeats 4000000

noncomputable section

namespace Cert.Proof.KernelIdeal.Attn

open Cert.KernelIdeal Cert.KernelIdeal.Gen
open Idealize.ShloMosaic Idealize.ShloMosaic.TcCoe Idealize.ShloMosaic.Tactic

variable (V : Val Ideal) (c : Dev nD)

/-- The projection's entry at row `R`, column `k`, of the arrays the call is entered with. -/
abbrev pr (R : Fin 16384) (k : Fin 4608) : EReal :=
  prow (fun i => (V c main_v1 : Vec Ideal S16384x1024 .f32) (ix2 R i)) (fun i => (V c main_v9 : Vec Ideal S1x1024 .f32) (ix2 0 i)) (fun j k => (V c main_v7 : Vec Ideal S1024x4608 .bf16) (ix2 j k)) k

theorem idx1 : ∀ t : Fin cfg1.N, win1_0.index t = ![t.val, 0] ∧ win1_1.index t = ![0, 0] ∧ win1_2.index t = ![0, 0] ∧ win1_3.index t = ![0, 0]
    ∧ win1_4.index t = ![t.val, 0] ∧ win1_5.index t = ![t.val, 0, 0] ∧ win1_6.index t = ![0, t.val, 0] ∧ win1_7.index t = ![0, t.val, 0]
    ∧ win1_8.index t = ![t.val, 0] ∧ win1_9.index t = ![t.val, 0] ∧ win1_10.index t = ![t.val, 0] ∧ win1_11.index t = ![t.val, 0] := by decide +kernel

theorem pb_eq (t : Fin cfg1.N) (r : Fin 512) (k : Fin 4608) (ht : t.val < 32) : pb (in1_0 V c t) (in1_1 V c t) (in1_2 V c t) r k = pr V c ⟨512 * t.val + r.val, by omega⟩ k := by
  obtain ⟨i0, i1, i2, i3, -⟩ := idx1 t
  unfold pb pr
  congr 1
  · funext i
    blk_ext [in1_0, i0]
  · funext i
    blk_ext [in1_1, i1]
  · funext j k
    blk_ext [in1_2, i2]

theorem arr8 : ((dat1 V c).arrAt 8 cfg1.N : Vec Ideal S16384x512 .f32) = fun y => pr V c (y 0) ⟨1536 + (y 1).val, by have := (y 1).isLt; change (y 1).val < 512 at this; omega⟩ := by
  refine (dat1 V c).arrAt_eq_of_covers 8 _ (by decide +kernel) fun t hf y => ?_
  have hN : t.val < 32 := t.isLt
  have hi : win1_8.index t = ![t.val, 0] := by have := idx1 t; simp only [this]
  change proj9 (in1_0 V c t) (in1_1 V c t) (in1_2 V c t) (in1_3 V c t) (y : S512x512.Idx) = _
  change S512x512.Idx at y
  idx_vars y
  rw [proj9_at, pb_eq V c t y0 _ hN]
  congr 1 <;> apply Fin.ext <;> blk_simp [hi] <;> (try dsimp only) <;> omega

theorem arr10 : ((dat1 V c).arrAt 10 cfg1.N : Vec Ideal S16384x1024 .f32) = fun y => pr V c (y 0) ⟨2560 + (y 1).val, by have := (y 1).isLt; change (y 1).val < 1024 at this; omega⟩ := by
  refine (dat1 V c).arrAt_eq_of_covers 10 _ (by decide +kernel) fun t hf y => ?_
  have hN : t.val < 32 := t.isLt
  have hi : win1_10.index t = ![t.val, 0] := by have := idx1 t; simp only [this]
  change proj11 (in1_0 V c t) (in1_1 V c t) (in1_2 V c t) (in1_3 V c t) (y : S512x1024.Idx) = _
  change S512x1024.Idx at y
  idx_vars y
  rw [proj11_at, pb_eq V c t y0 _ hN]
  congr 1 <;> apply Fin.ext <;> blk_simp [hi] <;> (try dsimp only) <;> omega

theorem arr11 : ((dat1 V c).arrAt 11 cfg1.N : Vec Ideal S16384x1024 .f32) = fun y => pr V c (y 0) ⟨3584 + (y 1).val, by have := (y 1).isLt; change (y 1).val < 1024 at this; omega⟩ := by
  refine (dat1 V c).arrAt_eq_of_covers 11 _ (by decide +kernel) fun t hf y => ?_
  have hN : t.val < 32 := t.isLt
  have hi : win1_11.index t = ![t.val, 0] := by have := idx1 t; simp only [this]
  change proj12 (in1_0 V c t) (in1_1 V c t) (in1_2 V c t) (in1_3 V c t) (y : S512x1024.Idx) = _
  change S512x1024.Idx at y
  idx_vars y
  rw [proj12_at, pb_eq V c t y0 _ hN]
  congr 1 <;> apply Fin.ext <;> blk_simp [hi] <;> (try dsimp only) <;> omega

/-- A row of the projection's values for the gate, normalised. -/
theorem arr9 : ((dat1 V c).arrAt 9 cfg1.N : Vec Ideal S16384x512 .f32) = fun y => nrm (Ideal.ofBits .f32 0x44000000#32) (fun k : Fin 512 => pr V c (y 0) ⟨2048 + k, by omega⟩) (fun k => (V c main_v10 : Vec Ideal S1x512 .f32) (ix2 0 k)) (y 1) := by
  refine (dat1 V c).arrAt_eq_of_covers 9 _ (by decide +kernel) fun t hf y => ?_
  have hN : t.val < 32 := t.isLt
  have hi : win1_9.index t = ![t.val, 0] := by have := idx1 t; simp only [this]
  change proj10 (in1_0 V c t) (in1_1 V c t) (in1_2 V c t) (in1_3 V c t) (y : S512x512.Idx) = _
  change S512x512.Idx at y
  idx_vars y
  rw [proj10_at]
  obtain ⟨-, -, -, i3, -⟩ := idx1 t
  congr 1
  · funext k
    rw [pb_eq V c t y0 _ hN]
    congr 1
    apply Fin.ext
    blk_simp [hi]
    (try dsimp only) <;> omega
  · funext k
    blk_ext [in1_3, i3]
  · apply Fin.ext
    blk_simp [hi]

theorem arr6 : ((dat1 V c).arrAt 6 cfg1.N : Vec Ideal S1x65536x128 .f32) = fun y => pr V c ⟨(y 1).val / 4, by have := (y 1).isLt; change (y 1).val < 65536 at this; omega⟩ ⟨512 + (128 * ((y 1).val % 4) + (y 2).val), by have := (y 2).isLt; change (y 2).val < 128 at this; omega⟩ := by
  refine (dat1 V c).arrAt_eq_of_covers 6 _ (by decide +kernel) fun t hf y => ?_
  have hN : t.val < 32 := t.isLt
  have hi : win1_6.index t = ![0, t.val, 0] := by have := idx1 t; simp only [this]
  change proj7 (in1_0 V c t) (in1_1 V c t) (in1_2 V c t) (in1_3 V c t) (y : S1x2048x128.Idx) = _
  change S1x2048x128.Idx at y
  idx_vars y
  have h0 : y0 = 0 := Subsingleton.elim _ _
  subst h0
  rw [proj7_at, pb_eq V c t _ _ hN]
  congr 1 <;> apply Fin.ext <;> blk_simp [hi] <;> (try dsimp only) <;> omega

theorem arr7 : ((dat1 V c).arrAt 7 cfg1.N : Vec Ideal S1x65536x128 .f32) = fun y => pr V c ⟨(y 1).val / 4, by have := (y 1).isLt; change (y 1).val < 65536 at this; omega⟩ ⟨1024 + (128 * ((y 1).val % 4) + (y 2).val), by have := (y 2).isLt; change (y 2).val < 128 at this; omega⟩ := by
  refine (dat1 V c).arrAt_eq_of_covers 7 _ (by decide +kernel) fun t hf y => ?_
  have hN : t.val < 32 := t.isLt
  have hi : win1_7.index t = ![0, t.val, 0] := by have := idx1 t; simp only [this]
  change proj8 (in1_0 V c t) (in1_1 V c t) (in1_2 V c t) (in1_3 V c t) (y : S1x2048x128.Idx) = _
  change S1x2048x128.Idx at y
  idx_vars y
  have h0 : y0 = 0 := Subsingleton.elim _ _
  subst h0
  rw [proj8_at, pb_eq V c t _ _ hN]
  congr 1 <;> apply Fin.ext <;> blk_simp [hi] <;> (try dsimp only) <;> omega

/-- The queries, scaled, and the keys. -/
theorem arr4 : ((dat1 V c).arrAt 4 cfg1.N : Vec Ideal S16384x1024 .bf16) = fun y => if (y 1).val < 512 then pr V c (y 0) ⟨(y 1).val, by have := (y 1).isLt; change (y 1).val < 1024 at this; omega⟩ * (((8 * (Real.log 2))⁻¹ : ℝ) : EReal) else pr V c (y 0) ⟨(y 1).val, by have := (y 1).isLt; change (y 1).val < 1024 at this; omega⟩ := by
  refine (dat1 V c).arrAt_eq_of_covers 4 _ (by decide +kernel) fun t hf y => ?_
  have hN : t.val < 32 := t.isLt
  have hi : win1_4.index t = ![t.val, 0] := by have := idx1 t; simp only [this]
  change proj5 (in1_0 V c t) (in1_1 V c t) (in1_2 V c t) (in1_3 V c t) (y : S512x1024.Idx) = _
  change S512x1024.Idx at y
  idx_vars y
  rw [proj5_at, pb_eq V c t _ _ hN]
  have e0 : ((win1_4.blk t).view.emb (ix2 y0 y1 : S512x1024.Idx) 0) = (⟨512 * t.val + y0.val, by omega⟩ : Fin 16384) := by
    apply Fin.ext; blk_simp [hi]; (try dsimp only) <;> omega
  have e1 : (((win1_4.blk t).view.emb (ix2 y0 y1 : S512x1024.Idx) 1) : Fin 1024) = y1 := by
    apply Fin.ext; blk_simp [hi]
  change _ = if (((win1_4.blk t).view.emb (ix2 y0 y1 : S512x1024.Idx) 1) : Fin 1024).val < 512 then pr V c ((win1_4.blk t).view.emb (ix2 y0 y1 : S512x1024.Idx) 0) ⟨(((win1_4.blk t).view.emb (ix2 y0 y1 : S512x1024.Idx) 1) : Fin 1024).val, _⟩ * _ else pr V c ((win1_4.blk t).view.emb (ix2 y0 y1 : S512x1024.Idx) 0) ⟨(((win1_4.blk t).view.emb (ix2 y0 y1 : S512x1024.Idx) 1) : Fin 1024).val, _⟩
  simp only [e0, e1]

end Cert.Proof.KernelIdeal.Attn
-- ==== Proof.ProjArr5.lean ====
module

public import proofs.«01_k».proof.Proof.ProjArr

@[expose] public section

set_option maxRecDepth 16384
set_option maxHeartbeats 4000000

noncomputable section

namespace Cert.Proof.KernelIdeal.Attn

open Cert.KernelIdeal Cert.KernelIdeal.Gen
open Idealize.ShloMosaic Idealize.ShloMosaic.TcCoe Idealize.ShloMosaic.Tactic

variable (V : Val Ideal) (c : Dev nD)

/-- The values of a tile of positions, positions along the row, with a row of ones after each head's. -/
def vtv (t : Fin 32) (R : Fin 576) (s : Fin 512) : EReal :=
  if h : R.val % 144 < 128 then pr V c ⟨512 * t.val + s.val, by omega⟩ ⟨1024 + (128 * (R.val / 144) + R.val % 144), by omega⟩ else if R.val % 144 = 128 then 1 else 0

theorem emb5 (t : Fin cfg1.N) (y1 : Fin 576) (y2 : Fin 512) : (win1_5.blk t).view.emb (ix3 0 y1 y2 : S1x576x512.Idx) = (ix3 ⟨t.val, t.isLt⟩ y1 y2 : S32x576x512.Idx) := by
  have hi : win1_5.index t = ![t.val, 0, 0] := by have := idx1 t; simp only [this]
  funext a
  apply Fin.ext
  fin_cases a <;> blk_simp [hi] <;> rfl

theorem arr5 : ((dat1 V c).arrAt 5 cfg1.N : Vec Ideal S32x576x512 .bf16) = fun y => vtv V c (y 0) (y 1) (y 2) := by
  refine (dat1 V c).arrAt_eq_of_covers 5 _ (by decide +kernel) fun t hf y => ?_
  have hN : t.val < 32 := t.isLt
  change proj6 (in1_0 V c t) (in1_1 V c t) (in1_2 V c t) (in1_3 V c t) (y : S1x576x512.Idx) = _
  change S1x576x512.Idx at y
  idx_vars y
  have h0 : y0 = 0 := Subsingleton.elim _ _
  subst h0
  refine Eq.trans ?_ (congrArg (fun y : S32x576x512.Idx => vtv V c (y 0) (y 1) (y 2)) (emb5 t y1 y2)).symm
  rw [proj6_at]
  simp only [pb_eq V c t _ _ hN]
  rfl

end Cert.Proof.KernelIdeal.Attn
-- ==== Proof.Bucket.lean ====
module

public import Idealize.ShloMosaic.PureOps.Ideal
public import Mathlib.Analysis.SpecialFunctions.Log.Basic
public import Mathlib.Analysis.SpecialFunctions.Pow.Real

@[expose] public section

noncomputable section

namespace Cert.Proof.Bucket

open Idealize.ShloMosaic

/-- The bucket of a distance: exact below sixteen, logarithmic above, at most thirty-one. -/
def bk (d : BitVec 32) : BitVec 32 :=
  Scalar.select (IntOp.cmpi .slt (IntOp.maxsi d 0#32) 16#32) (IntOp.maxsi d 0#32)
    (IntOp.minsi (IntOp.addi 16#32 (FloatOps.fptosi (F := Ideal) (φ := .f32) 32 (Ideal.div (Ideal.log (Ideal.div (FloatOps.sitofp (F := Ideal) .f32 (IntOp.maxsi (IntOp.maxsi d 0#32) 1#32)) (Ideal.ofBits .f32 0x41800000#32))) (Ideal.ofBits .f32 0x40051592#32) * Ideal.ofBits .f32 0x41800000#32))) 31#32)

theorem sixteen : Ideal.ofBits .f32 0x41800000#32 = ((16 : ℝ) : EReal) := by
  simp [Ideal.ofBits, Ideal.ieee, -EReal.coe_mul]; norm_num

theorem base : ∃ c : ℝ, Ideal.ofBits .f32 0x40051592#32 = (c : EReal) ∧ 2 < c ∧ c < 2.1 := by
  refine ⟨(1 + 333202 / 2 ^ 23) * 2, ?_, by norm_num, by norm_num⟩
  simp [Ideal.ofBits, Ideal.ieee, -EReal.coe_mul]; norm_num

theorem max_toInt (x y : BitVec 32) : (IntOp.maxsi x y).toInt = max x.toInt y.toInt := by
  unfold IntOp.maxsi
  split
  · have := BitVec.slt_iff_toInt_lt.mp ‹_›
    omega
  · have := mt BitVec.slt_iff_toInt_lt.mpr ‹_›
    omega

theorem min_toInt (x y : BitVec 32) : (IntOp.minsi x y).toInt = min x.toInt y.toInt := by
  unfold IntOp.minsi
  split
  · have := BitVec.slt_iff_toInt_lt.mp ‹_›
    omega
  · have := mt BitVec.slt_iff_toInt_lt.mpr ‹_›
    omega

/-- The logarithmic part of a distance of at least sixteen. -/
theorem steps (n : BitVec 32) (h : 16 ≤ n.toInt) :
    ∃ f : ℤ, (FloatOps.fptosi (F := Ideal) (φ := .f32) 32 (Ideal.div (Ideal.log (Ideal.div (FloatOps.sitofp (F := Ideal) .f32 (IntOp.maxsi n 1#32)) (Ideal.ofBits .f32 0x41800000#32))) (Ideal.ofBits .f32 0x40051592#32) * Ideal.ofBits .f32 0x41800000#32)).toInt = f
      ∧ 0 ≤ f ∧ f ≤ 1000 ∧ (513 ≤ n.toInt → 15 ≤ f) := by
  obtain ⟨c, hc, c1, c2⟩ := base
  have e1 : IntOp.maxsi n 1#32 = n := by
    apply BitVec.eq_of_toInt_eq
    rw [max_toInt]
    have : (1#32).toInt = 1 := by decide
    omega
  have hn : (16 : ℝ) ≤ (n.toInt : ℝ) := by exact_mod_cast h
  have hn' : (n.toInt : ℝ) < 2 ^ 31 := by
    have := n.toInt_lt
    have h2 : n.toInt < 2 ^ 31 := by simpa using this
    exact_mod_cast h2
  have l1 : (1 / 2 : ℝ) ≤ Real.log 2 := by
    have := Real.one_sub_inv_le_log_of_pos (x := 2) (by norm_num)
    linarith
  have l2 : Real.log 2 ≤ 1 := by
    have := Real.log_le_sub_one_of_pos (x := 2) (by norm_num)
    linarith
  set r : ℝ := Real.log ((n.toInt : ℝ) / 16) / c * 16 with hr
  have hlog0 : 0 ≤ Real.log ((n.toInt : ℝ) / 16) := Real.log_nonneg (by linarith)
  have hlog1 : Real.log ((n.toInt : ℝ) / 16) ≤ 27 * Real.log 2 := by
    have : Real.log ((2 : ℝ) ^ 27) = 27 * Real.log 2 := by rw [Real.log_pow]; norm_num
    rw [← this]
    apply Real.log_le_log (by linarith)
    norm_num at hn' ⊢
    linarith
  have r0 : 0 ≤ r := by rw [hr]; positivity
  have r1 : r ≤ 1000 := by
    rw [hr, div_mul_eq_mul_div, div_le_iff₀ (by linarith)]
    nlinarith
  have e2 : Ideal.div (Ideal.log (Ideal.div (FloatOps.sitofp (F := Ideal) .f32 n) (Ideal.ofBits .f32 0x41800000#32))) (Ideal.ofBits .f32 0x40051592#32) * Ideal.ofBits .f32 0x41800000#32 = (r : EReal) := by
    change Ideal.div (Ideal.log (Ideal.div ((n.toInt : ℝ) : EReal) _)) _ * _ = _
    have c0 : c ≠ 0 := by intro h0; rw [h0] at c1; norm_num at c1
    rw [sixteen, hc, Ideal.div_coe c0, Ideal.div_coe (show (16 : ℝ) ≠ 0 by norm_num), ← EReal.coe_mul, Ideal.log_coe, if_neg (by rw [not_le]; linarith), ← EReal.coe_mul, ← EReal.coe_mul]
    congr 1
    rw [hr, mul_one_div, mul_one_div]
  refine ⟨⌊r⌋, ?_, Int.floor_nonneg.mpr r0, ?_, ?_⟩
  · rw [e1, e2]
    change (Ideal.fptosi 32 (r : EReal)).toInt = _
    rw [Ideal.fptosi, Ideal.toIntClamped_coe, if_pos r0]
    have f0 : 0 ≤ ⌊r⌋ := Int.floor_nonneg.mpr r0
    have f1 : ⌊r⌋ ≤ 1000 := by
      have : (⌊r⌋ : ℝ) ≤ 1000 := (Int.floor_le r).trans r1
      exact_mod_cast this
    rw [BitVec.toInt_ofInt]
    norm_num
    rw [min_eq_right (by omega), max_eq_right (by omega), Int.bmod_eq_of_le (by omega) (by omega)]
  · have : (⌊r⌋ : ℝ) ≤ 1000 := (Int.floor_le r).trans r1
    exact_mod_cast this
  · intro hf
    rw [Int.le_floor, hr, div_mul_eq_mul_div, le_div_iff₀ (by linarith)]
    have : Real.log ((2 : ℝ) ^ 5) ≤ Real.log ((n.toInt : ℝ) / 16) := by
      apply Real.log_le_log (by norm_num)
      have : (513 : ℝ) ≤ (n.toInt : ℝ) := by exact_mod_cast hf
      norm_num
      linarith
    rw [Real.log_pow] at this
    push_cast at this ⊢
    nlinarith

theorem bk_facts (d : BitVec 32) : 0 ≤ (bk d).toInt ∧ (bk d).toInt ≤ 31 ∧ (513 ≤ d.toInt → (bk d).toInt = 31) := by
  unfold bk
  have hn := max_toInt d 0#32
  have z : (0#32).toInt = 0 := by decide
  have z16 : (16#32).toInt = 16 := by decide
  have z31 : (31#32).toInt = 31 := by decide
  generalize IntOp.maxsi d 0#32 = n at hn ⊢
  by_cases h : n.toInt < 16
  · have : IntOp.cmpi .slt n 16#32 = 1#1 := by
      show BitVec.ofBool (n.slt 16#32) = _
      rw [(BitVec.slt_iff_toInt_lt).mpr (by omega)]; rfl
    rw [this]
    change 0 ≤ n.toInt ∧ n.toInt ≤ 31 ∧ _
    refine ⟨by omega, by omega, fun _ => by omega⟩
  · have : IntOp.cmpi .slt n 16#32 = 0#1 := by
      show BitVec.ofBool (n.slt 16#32) = _
      have : n.slt 16#32 = false := by
        rw [Bool.eq_false_iff]; intro hh; rw [BitVec.slt_iff_toInt_lt] at hh; omega
      rw [this]; rfl
    rw [this]
    obtain ⟨f, hf, f0, f1, f2⟩ := steps n (by omega)
    change 0 ≤ (IntOp.minsi _ _).toInt ∧ (IntOp.minsi _ _).toInt ≤ 31 ∧ (513 ≤ d.toInt → (IntOp.minsi _ _).toInt = 31)
    rw [min_toInt, z31]
    have e : (IntOp.addi 16#32 (FloatOps.fptosi (F := Ideal) (φ := .f32) 32 (Ideal.div (Ideal.log (Ideal.div (FloatOps.sitofp (F := Ideal) .f32 (IntOp.maxsi n 1#32)) (Ideal.ofBits .f32 0x41800000#32))) (Ideal.ofBits .f32 0x40051592#32) * Ideal.ofBits .f32 0x41800000#32))).toInt = 16 + f := by
      unfold IntOp.addi
      rw [BitVec.toInt_add, hf, z16]
      rw [Int.bmod_eq_of_le (by norm_num; omega) (by norm_num; omega)]
    rw [e]
    refine ⟨by omega, by omega, fun _ => by omega⟩

theorem bk_lt (d : BitVec 32) : (bk d).toNat < 32 := by
  have h := bk_facts d
  have := BitVec.toInt_eq_toNat_cond (bk d)
  split at this <;> omega

theorem bk_far (d : BitVec 32) (h : 513 ≤ d.toInt) : (bk d).toNat = 31 := by
  have h' := bk_facts d
  have := BitVec.toInt_eq_toNat_cond (bk d)
  have := h'.2.2 h
  split at * <;> omega

/-- The distance of two positions, as a word. -/
theorem dist_toInt (q k : Nat) (hq : q < 8192) (hk : k < 8192) : (IntOp.subi (BitVec.ofNat 32 q) (BitVec.ofNat 32 k)).toInt = (q : ℤ) - k := by
  unfold IntOp.subi
  have e (n : Nat) (h : n < 8192) : (BitVec.ofNat 32 n).toInt = n := by
    rw [BitVec.toInt_eq_toNat_bmod, BitVec.toNat_ofNat, Nat.mod_eq_of_lt (by omega), Int.bmod_eq_of_le (by norm_num <;> omega) (by norm_num <;> omega)]
  rw [BitVec.toInt_sub, e q hq, e k hk, Int.bmod_eq_of_le (by norm_num; omega) (by norm_num; omega)]

/-- The order of two positions, read off the word of their distance. -/
theorem sge_dist (q k : Nat) (hq : q < 8192) (hk : k < 8192) : IntOp.cmpi .sge (IntOp.subi (BitVec.ofNat 32 q) (BitVec.ofNat 32 k)) 0#32 = if k ≤ q then 1#1 else 0#1 := by
  have h := dist_toInt q k hq hk
  generalize IntOp.subi (BitVec.ofNat 32 q) (BitVec.ofNat 32 k) = d at h ⊢
  show BitVec.ofBool ((0#32).sle d) = _
  have z : (0#32).toInt = 0 := by decide
  by_cases hh : k ≤ q
  · rw [if_pos hh, BitVec.sle_iff_toInt_le.mpr (by omega)]; rfl
  · rw [if_neg hh]
    have : (0#32).sle d = false := by
      rw [Bool.eq_false_iff]; intro h2; rw [BitVec.sle_iff_toInt_le] at h2; omega
    rw [this]; rfl

end Cert.Proof.Bucket
-- ==== Proof.ValBias.lean ====
module

public import proofs.«01_k».proof.Proof.BiasBody
public import proofs.«01_k».proof.Proof.Bucket
public import Idealize.ShloMosaic.Lib.Pointwise
public import Idealize.ShloMosaic.Lib.Pipeline.ValueKit

@[expose] public section

set_option maxRecDepth 16384
set_option maxHeartbeats 4000000

noncomputable section

namespace Cert.Proof.KernelIdeal.Attn

open Cert.KernelIdeal Cert.KernelIdeal.Gen
open Idealize.ShloMosaic Idealize.ShloMosaic.TcCoe Idealize.ShloMosaic.Tactic
open Cert.Proof.Bucket

variable (RB : Vec Ideal S32x4 .f32)

theorem word0_at (off : Fin S32x4.rank → Nat) (h : ∀ a, off a + S1x1.size a ≤ S32x4.size a) (a : Fin 32) (b : Fin 4) (e : off = ![a.val, b.val]) :
    word0 RB off h = RB (ix2 a b) := by
  subst e
  unfold word0
  show RB _ = _
  congr 1
  funext x
  apply Fin.ext
  match x with
  | ⟨0, _⟩ => show a.val + 1 * 0 = a.val; omega
  | ⟨1, _⟩ => show b.val + 1 * 0 = b.val; omega

theorem word_0 (i : grid0.Coords) : word0 RB (k0_off1 i) (k0_off1_inb i) = RB (ix2 0 ⟨(i 0).val, (i 0).isLt⟩) :=
  word0_at RB _ _ 0 _ (by revert i; decide +kernel)
theorem word_1 (i : grid0.Coords) : word0 RB (k0_off2 i) (k0_off2_inb i) = RB (ix2 1 ⟨(i 0).val, (i 0).isLt⟩) :=
  word0_at RB _ _ 1 _ (by revert i; decide +kernel)
theorem word_2 (i : grid0.Coords) : word0 RB (k0_off3 i) (k0_off3_inb i) = RB (ix2 2 ⟨(i 0).val, (i 0).isLt⟩) :=
  word0_at RB _ _ 2 _ (by revert i; decide +kernel)
theorem word_3 (i : grid0.Coords) : word0 RB (k0_off4 i) (k0_off4_inb i) = RB (ix2 3 ⟨(i 0).val, (i 0).isLt⟩) :=
  word0_at RB _ _ 3 _ (by revert i; decide +kernel)
theorem word_4 (i : grid0.Coords) : word0 RB (k0_off5 i) (k0_off5_inb i) = RB (ix2 4 ⟨(i 0).val, (i 0).isLt⟩) :=
  word0_at RB _ _ 4 _ (by revert i; decide +kernel)
theorem word_5 (i : grid0.Coords) : word0 RB (k0_off6 i) (k0_off6_inb i) = RB (ix2 5 ⟨(i 0).val, (i 0).isLt⟩) :=
  word0_at RB _ _ 5 _ (by revert i; decide +kernel)
theorem word_6 (i : grid0.Coords) : word0 RB (k0_off7 i) (k0_off7_inb i) = RB (ix2 6 ⟨(i 0).val, (i 0).isLt⟩) :=
  word0_at RB _ _ 6 _ (by revert i; decide +kernel)
theorem word_7 (i : grid0.Coords) : word0 RB (k0_off8 i) (k0_off8_inb i) = RB (ix2 7 ⟨(i 0).val, (i 0).isLt⟩) :=
  word0_at RB _ _ 7 _ (by revert i; decide +kernel)
theorem word_8 (i : grid0.Coords) : word0 RB (k0_off9 i) (k0_off9_inb i) = RB (ix2 8 ⟨(i 0).val, (i 0).isLt⟩) :=
  word0_at RB _ _ 8 _ (by revert i; decide +kernel)
theorem word_9 (i : grid0.Coords) : word0 RB (k0_off10 i) (k0_off10_inb i) = RB (ix2 9 ⟨(i 0).val, (i 0).isLt⟩) :=
  word0_at RB _ _ 9 _ (by revert i; decide +kernel)
theorem word_10 (i : grid0.Coords) : word0 RB (k0_off11 i) (k0_off11_inb i) = RB (ix2 10 ⟨(i 0).val, (i 0).isLt⟩) :=
  word0_at RB _ _ 10 _ (by revert i; decide +kernel)
theorem word_11 (i : grid0.Coords) : word0 RB (k0_off12 i) (k0_off12_inb i) = RB (ix2 11 ⟨(i 0).val, (i 0).isLt⟩) :=
  word0_at RB _ _ 11 _ (by revert i; decide +kernel)
theorem word_12 (i : grid0.Coords) : word0 RB (k0_off13 i) (k0_off13_inb i) = RB (ix2 12 ⟨(i 0).val, (i 0).isLt⟩) :=
  word0_at RB _ _ 12 _ (by revert i; decide +kernel)
theorem word_13 (i : grid0.Coords) : word0 RB (k0_off14 i) (k0_off14_inb i) = RB (ix2 13 ⟨(i 0).val, (i 0).isLt⟩) :=
  word0_at RB _ _ 13 _ (by revert i; decide +kernel)
theorem word_14 (i : grid0.Coords) : word0 RB (k0_off15 i) (k0_off15_inb i) = RB (ix2 14 ⟨(i 0).val, (i 0).isLt⟩) :=
  word0_at RB _ _ 14 _ (by revert i; decide +kernel)
theorem word_15 (i : grid0.Coords) : word0 RB (k0_off16 i) (k0_off16_inb i) = RB (ix2 15 ⟨(i 0).val, (i 0).isLt⟩) :=
  word0_at RB _ _ 15 _ (by revert i; decide +kernel)
theorem word_16 (i : grid0.Coords) : word0 RB (k0_off17 i) (k0_off17_inb i) = RB (ix2 16 ⟨(i 0).val, (i 0).isLt⟩) :=
  word0_at RB _ _ 16 _ (by revert i; decide +kernel)
theorem word_17 (i : grid0.Coords) : word0 RB (k0_off18 i) (k0_off18_inb i) = RB (ix2 17 ⟨(i 0).val, (i 0).isLt⟩) :=
  word0_at RB _ _ 17 _ (by revert i; decide +kernel)
theorem word_18 (i : grid0.Coords) : word0 RB (k0_off19 i) (k0_off19_inb i) = RB (ix2 18 ⟨(i 0).val, (i 0).isLt⟩) :=
  word0_at RB _ _ 18 _ (by revert i; decide +kernel)
theorem word_19 (i : grid0.Coords) : word0 RB (k0_off20 i) (k0_off20_inb i) = RB (ix2 19 ⟨(i 0).val, (i 0).isLt⟩) :=
  word0_at RB _ _ 19 _ (by revert i; decide +kernel)
theorem word_20 (i : grid0.Coords) : word0 RB (k0_off21 i) (k0_off21_inb i) = RB (ix2 20 ⟨(i 0).val, (i 0).isLt⟩) :=
  word0_at RB _ _ 20 _ (by revert i; decide +kernel)
theorem word_21 (i : grid0.Coords) : word0 RB (k0_off22 i) (k0_off22_inb i) = RB (ix2 21 ⟨(i 0).val, (i 0).isLt⟩) :=
  word0_at RB _ _ 21 _ (by revert i; decide +kernel)
theorem word_22 (i : grid0.Coords) : word0 RB (k0_off23 i) (k0_off23_inb i) = RB (ix2 22 ⟨(i 0).val, (i 0).isLt⟩) :=
  word0_at RB _ _ 22 _ (by revert i; decide +kernel)
theorem word_23 (i : grid0.Coords) : word0 RB (k0_off24 i) (k0_off24_inb i) = RB (ix2 23 ⟨(i 0).val, (i 0).isLt⟩) :=
  word0_at RB _ _ 23 _ (by revert i; decide +kernel)
theorem word_24 (i : grid0.Coords) : word0 RB (k0_off25 i) (k0_off25_inb i) = RB (ix2 24 ⟨(i 0).val, (i 0).isLt⟩) :=
  word0_at RB _ _ 24 _ (by revert i; decide +kernel)
theorem word_25 (i : grid0.Coords) : word0 RB (k0_off26 i) (k0_off26_inb i) = RB (ix2 25 ⟨(i 0).val, (i 0).isLt⟩) :=
  word0_at RB _ _ 25 _ (by revert i; decide +kernel)
theorem word_26 (i : grid0.Coords) : word0 RB (k0_off27 i) (k0_off27_inb i) = RB (ix2 26 ⟨(i 0).val, (i 0).isLt⟩) :=
  word0_at RB _ _ 26 _ (by revert i; decide +kernel)
theorem word_27 (i : grid0.Coords) : word0 RB (k0_off28 i) (k0_off28_inb i) = RB (ix2 27 ⟨(i 0).val, (i 0).isLt⟩) :=
  word0_at RB _ _ 27 _ (by revert i; decide +kernel)
theorem word_28 (i : grid0.Coords) : word0 RB (k0_off29 i) (k0_off29_inb i) = RB (ix2 28 ⟨(i 0).val, (i 0).isLt⟩) :=
  word0_at RB _ _ 28 _ (by revert i; decide +kernel)
theorem word_29 (i : grid0.Coords) : word0 RB (k0_off30 i) (k0_off30_inb i) = RB (ix2 29 ⟨(i 0).val, (i 0).isLt⟩) :=
  word0_at RB _ _ 29 _ (by revert i; decide +kernel)
theorem word_30 (i : grid0.Coords) : word0 RB (k0_off31 i) (k0_off31_inb i) = RB (ix2 30 ⟨(i 0).val, (i 0).isLt⟩) :=
  word0_at RB _ _ 30 _ (by revert i; decide +kernel)
theorem word_31 (i : grid0.Coords) : word0 RB (k0_off32 i) (k0_off32_inb i) = RB (ix2 31 ⟨(i 0).val, (i 0).isLt⟩) :=
  word0_at RB _ _ 31 _ (by revert i; decide +kernel)

/-- The word of the distance of a query at column `c` and a key at row `k` of a tile. -/
def dw (o : Nat) (k c : Nat) : BitVec 32 := IntOp.subi (IntOp.addi (IntOp.muli (BitVec.ofNat 32 o) 512#32) (BitVec.ofNat 32 c)) (BitVec.ofNat 32 k)

theorem pay2d_at (i : grid0.Coords) (k c : Fin 512) : k0_pay2 i (ix2 k c) = dw (i 1).val k c := by
  unfold dw
  pointwise [k0_pay2]
  try rfl

theorem pay3b_at (i : grid0.Coords) (k c : Fin 512) : k0_pay3 (F := Ideal) i (ix2 k c) = bk (dw (i 1).val k c) := by
  unfold bk dw
  pointwise [k0_pay3, k0_pay2]
  try rfl

/-- A bias chosen by its bucket among the first `n`. -/
def Picked (B : BitVec 32) (f : Fin 32 → EReal) (n : Nat) (y : EReal) : Prop := ∀ h : B.toNat < 32, B.toNat < n → y = f ⟨B.toNat, h⟩

theorem Picked.step {B : BitVec 32} {f : Fin 32 → EReal} (n : Nat) {y : EReal} (h : Picked B f n y) (hn : n < 32) :
    Picked B f (n + 1) (Scalar.select (IntOp.cmpi .eq B (BitVec.ofNat 32 n)) (f ⟨n, hn⟩) y) := by
  intro hb hB
  by_cases e : B.toNat = n
  · have : IntOp.cmpi .eq B (BitVec.ofNat 32 n) = 1#1 := by
      have : B = BitVec.ofNat 32 n := by rw [← e]; simp
      show BitVec.ofBool (B == BitVec.ofNat 32 n) = _
      rw [← this]; simp
    rw [this]
    simp only [e]
    rfl
  · have : IntOp.cmpi .eq B (BitVec.ofNat 32 n) = 0#1 := by
      have : B ≠ BitVec.ofNat 32 n := by
        intro hh; apply e; rw [hh, BitVec.toNat_ofNat]; omega
      show BitVec.ofBool (B == BitVec.ofNat 32 n) = _
      rw [beq_eq_false_iff_ne.mpr this]; rfl
    rw [this]
    exact h hb (by omega)

section
variable {B : BitVec 32} {f : Fin 32 → EReal} {k c : Fin 512} {v25 : IVec S512x512 32} {v : FVec Ideal S512x512 .f32}

theorem p2 (i : grid0.Coords) (hB : k0_pay3 (F := Ideal) i (ix2 k c) = B) : Picked B f 2 (k0_pay4 (F := Ideal) i (f 0) (f 1) (ix2 k c)) := by
  subst hB
  have h : Picked (k0_pay3 (F := Ideal) i (ix2 k c)) f 0 (Ideal.ofBits .f32 0x00000000#32) := fun _ h => absurd h (by omega)
  exact (h.step 0 (by decide)).step 1 (by decide)

theorem p10 {w : IVec S512x512 1} (hB : v25 (ix2 k c) = B) (hw : w (ix2 k c) = IntOp.cmpi .eq B 2#32) (h : Picked B f 2 (v (ix2 k c))) : Picked B f 10 (k0_pay6 v25 v w (f 2) (f 3) (f 4) (f 5) (f 6) (f 7) (f 8) (f 9) (ix2 k c)) := by
  subst hB
  have h3 := h.step 2 (by decide)
  rw [← hw] at h3
  exact (((((((h3).step 3 (by decide)).step 4 (by decide)).step 5 (by decide)).step 6 (by decide)).step 7 (by decide)).step 8 (by decide)).step 9 (by decide)

theorem p17 (hB : v25 (ix2 k c) = B) (h : Picked B f 10 (v (ix2 k c))) : Picked B f 17 (k0_pay7 v25 v 10#32 (f 10) (f 11) (f 12) (f 13) (f 14) (f 15) (f 16) (ix2 k c)) := by
  subst hB
  exact (((((((h).step 10 (by decide)).step 11 (by decide)).step 12 (by decide)).step 13 (by decide)).step 14 (by decide)).step 15 (by decide)).step 16 (by decide)

theorem p25 {w : IVec S512x512 1} (hB : v25 (ix2 k c) = B) (hw : w (ix2 k c) = IntOp.cmpi .eq B 17#32) (h : Picked B f 17 (v (ix2 k c))) : Picked B f 25 (k0_pay9 v25 v w (f 17) (f 18) (f 19) (f 20) (f 21) (f 22) (f 23) (f 24) (ix2 k c)) := by
  subst hB
  have h3 := h.step 17 (by decide)
  rw [← hw] at h3
  exact (((((((h3).step 18 (by decide)).step 19 (by decide)).step 20 (by decide)).step 21 (by decide)).step 22 (by decide)).step 23 (by decide)).step 24 (by decide)

theorem p32 (hB : v25 (ix2 k c) = B) (h : Picked B f 25 (v (ix2 k c))) : Picked B f 32 (k0_pay10 v25 v 25#32 (f 25) (f 26) (f 27) (f 28) (f 29) (f 30) (f 31) (ix2 k c)) := by
  subst hB
  exact (((((((h).step 25 (by decide)).step 26 (by decide)).step 27 (by decide)).step 28 (by decide)).step 29 (by decide)).step 30 (by decide)).step 31 (by decide)
end

theorem pay1b_at (v : FVec Ideal S512x512 .f32) (d : IVec S512x512 32) (k c : Fin 512) : k0_pay1 v (k0_pay11 d) (k0_pay12 (F := Ideal)) (ix4 0 0 k c)
    = Scalar.select (IntOp.cmpi .sge (d (ix2 k c)) 0#32) (v (ix2 k c) * (((Real.log 2)⁻¹ : ℝ) : EReal)) ⊥ := by
  pointwise [k0_pay1, k0_pay11, k0_pay12]
  rw [IdealRules.named_const.ideal_named_scalar κ "mask" _ _ rfl, IdealRules.named_const.ideal_named_scalar κ "log2e" _ _ rfl]

/-- One entry of a tile of biases. -/
theorem biasOut_at (i : grid0.Coords) (k c : Fin 512) : biasOut i RB (ix4 0 0 k c)
    = Scalar.select (IntOp.cmpi .sge (dw (i 1).val k c) 0#32) (RB (ix2 ⟨(bk (dw (i 1).val k c)).toNat, bk_lt _⟩ ⟨(i 0).val, (i 0).isLt⟩) * (((Real.log 2)⁻¹ : ℝ) : EReal)) ⊥ := by
  unfold biasOut
  simp only [word_0, word_1, word_2, word_3, word_4, word_5, word_6, word_7, word_8, word_9, word_10, word_11, word_12, word_13, word_14, word_15, word_16, word_17, word_18, word_19, word_20, word_21, word_22, word_23, word_24, word_25, word_26, word_27, word_28, word_29, word_30, word_31]
  rw [pay1b_at, pay2d_at]
  congr 2
  have hB := pay3b_at i k c
  have hb := bk_lt (dw (i 1).val k c)
  exact p32 (f := fun n => RB (ix2 n ⟨(i 0).val, (i 0).isLt⟩)) hB (p25 hB (congrArg (fun x => IntOp.cmpi .eq x 17#32) hB) (p17 hB (p10 hB (congrArg (fun x => IntOp.cmpi .eq x 2#32) hB) (p2 i hB)))) hb hb

end Cert.Proof.KernelIdeal.Attn
-- ==== Proof.BiasArr.lean ====
module

public import proofs.«01_k».proof.Proof.ValBias
public import proofs.«01_k».proof.Proof.Run

@[expose] public section

set_option maxRecDepth 16384
set_option maxHeartbeats 4000000

noncomputable section

namespace Cert.Proof.KernelIdeal.Attn

open Cert.KernelIdeal Cert.KernelIdeal.Gen
open Idealize.ShloMosaic Idealize.ShloMosaic.TcCoe Idealize.ShloMosaic.Tactic
open Cert.Proof.Bucket

variable (V : Val Ideal) (c : Dev nD)

theorem idx0 : ∀ t : Fin cfg0.N, win0_0.index t = ![0, 0] ∧ win0_1.index t = ![t.val / 3, t.val % 3, 0, 0] ∧ (grid0.coords t 0).val = t.val / 3 ∧ (grid0.coords t 1).val = t.val % 3 := by decide +kernel

/-- An entry of the tiles of biases. -/
def bval (RB : Vec Ideal S32x4 .f32) (h : Fin 4) (o k q : ℕ) : EReal :=
  Scalar.select (IntOp.cmpi .sge (dw o k q) 0#32) (RB (ix2 ⟨(bk (dw o k q)).toNat, bk_lt _⟩ h) * (((Real.log 2)⁻¹ : ℝ) : EReal)) ⊥

theorem emb0_0 (t : Fin cfg0.N) (n : Fin 32) (h : Fin 4) : (win0_0.blk t).view.emb (ix2 n h : S32x4.Idx) = (ix2 n h : S32x4.Idx) := by
  have hi := (idx0 t).1
  funext a
  apply Fin.ext
  fin_cases a <;> blk_simp [hi] <;> rfl

theorem emb0_1 (t : Fin cfg0.N) (ht : t.val < 12) (k q : Fin 512) : (win0_1.blk t).view.emb (ix4 0 0 k q : S1x1x512x512.Idx) = (ix4 ⟨t.val / 3, by omega⟩ ⟨t.val % 3, by omega⟩ k q : S4x3x512x512.Idx) := by
  have hi := (idx0 t).2.1
  funext a
  apply Fin.ext
  fin_cases a <;> blk_simp [hi] <;> rfl

theorem in0_eq (t : Fin cfg0.N) : (in0_0 V c t : Vec Ideal S32x4 .f32) = (V c main_arg1 : Vec Ideal S32x4 .f32) := by
  funext y
  change S32x4.Idx at y
  idx_vars y
  exact congrArg (V c main_arg1 : Vec Ideal S32x4 .f32) (emb0_0 t y0 y1)

theorem arr0 : ((dat0 V c).arrAt 1 cfg0.N : Vec Ideal S4x3x512x512 .f32) = fun y => bval (V c main_arg1) (y 0) (y 1).val (y 2).val (y 3).val := by
  refine (dat0 V c).arrAt_eq_of_covers 1 _ (by decide +kernel) fun t hf y => ?_
  have hN : t.val < 12 := t.isLt
  change biasOut (grid0.coords t) (in0_0 V c t) (y : S1x1x512x512.Idx) = _
  change S1x1x512x512.Idx at y
  idx_vars y
  have h0 : y0 = 0 := Subsingleton.elim _ _
  have h1 : y1 = 0 := Subsingleton.elim _ _
  subst h0 h1
  refine Eq.trans ?_ (congrArg (fun y : S4x3x512x512.Idx => bval (V c main_arg1) (y 0) (y 1).val (y 2).val (y 3).val) (emb0_1 t hN y2 y3)).symm
  rw [biasOut_at, in0_eq]
  obtain ⟨-, -, e0, e1⟩ := idx0 t
  have e0' : (⟨(grid0.coords t 0).val, (grid0.coords t 0).isLt⟩ : Fin 4) = ⟨t.val / 3, by omega⟩ := Fin.ext e0
  rw [e1]
  exact congrArg (fun h => bval (V c main_arg1) h (t.val % 3) y2.val y3.val) e0'

end Cert.Proof.KernelIdeal.Attn
-- ==== Proof.ValPay.lean ====
module

public import proofs.«01_k».proof.Proof.AttnState
public import Idealize.ShloMosaic.Lib.Pointwise
public import Idealize.ShloMosaic.Lib.Pipeline.ValueKit

@[expose] public section

set_option maxRecDepth 16384

noncomputable section

namespace Cert.Proof.KernelIdeal.Attn

open Cert.KernelIdeal Cert.KernelIdeal.Gen
open Idealize.ShloMosaic Idealize.ShloMosaic.TcCoe Idealize.ShloMosaic.Tactic

theorem pay2_at (al : Vec Ideal S1x1x512 .f32) (acc : Vec Ideal S1x144x512 .f32) (vt : Vec Ideal S1x144x512 .bf16) (p : Vec Ideal S1x512x512 .bf16) (R : Fin 144) (c : Fin 512) :
    k2_pay2 al acc vt p (ix3 0 R c) = al (ix3 0 0 c) * acc (ix3 0 R c) + ∑ k : Fin 512, vt (ix3 0 R k) * p (ix3 0 k c) := by
  pointwise [k2_pay2]

theorem pay3_at (kb : Vec Ideal S512x128 .bf16) (qz : Vec Ideal S1x512x128 .bf16) (k c : Fin 512) :
    k2_pay3 kb qz (ix2 k c) = ∑ d : Fin 128, kb (ix2 k d) * qz (ix3 0 c d) := by
  pointwise [k2_pay3]

theorem pay47_at (kb : Vec Ideal S512x128 .bf16) (qz : Vec Ideal S1x512x128 .bf16) (bb : Vec Ideal S1x1x512x512 .f32) (k c : Fin 512) :
    k2_pay47 kb qz bb (ix2 k c) = (∑ d : Fin 128, kb (ix2 k d) * qz (ix3 0 c d)) + bb (ix4 0 0 k c) := by
  pointwise [k2_pay47]

theorem pay10_at (m cm : Vec Ideal S1x1x512 .f32) (c : Fin 512) : k2_pay13 (k2_pay10 m cm) (ix3 0 0 c) = max (m (ix3 0 0 c)) (cm (ix3 0 0 c)) := by
  pointwise [k2_pay13, k2_pay10, k2_pay9]

theorem pay11_at (m cm : Vec Ideal S1x1x512 .f32) (c : Fin 512) : k2_pay11 m cm (ix3 0 0 c) = Ideal.exp2 (m (ix3 0 0 c) - max (m (ix3 0 0 c)) (cm (ix3 0 0 c))) := by
  pointwise [k2_pay11, k2_pay10, k2_pay9]
  rfl

theorem pay12_at (m cm : Vec Ideal S1x1x512 .f32) (st : Vec Ideal S1x512x512 .f32) (sh : Vec Ideal S1x1x512 .f32) (k c : Fin 512) :
    k2_pay12 m cm st sh (ix3 0 k c) = Ideal.exp2 (st (ix3 0 k c) - (max (m (ix3 0 0 c)) (cm (ix3 0 0 c)) - sh (ix3 0 0 c))) := by
  pointwise [k2_pay12, k2_pay10, k2_pay9]
  rfl

theorem pay49_at (a : FVec Ideal S512x512 .f32) (k c : Fin 512) : k2_pay49 a (ix3 0 k c) = a (ix2 k c) := by
  pointwise [k2_pay49]

theorem pay50_at (a : FVec Ideal S512x512 .f32) (w : Ideal .f32) (c : Fin 512) : k2_pay50 a w (ix3 0 0 c) = Finset.fold max (Ideal.ofBits .f32 0xFF800000#32) (fun x => a (ix2 x c)) Finset.univ + w := by
  pointwise [k2_pay50, k2_pay48]

theorem pay51_at (w : Ideal .f32) (c : Fin 512) : k2_pay51 w (ix3 0 0 c) = w := by
  pointwise [k2_pay51, k2_pay48]

theorem qzA_at (Q : Vec Ideal S512x128 .bf16) (c : Fin 512) (d : Fin 128) : qzA Q (ix3 0 c d) = if d.val < 64 then Q (ix2 c d) else 0 := by
  unfold qzA
  pointwise [k2_pay91, k2_pay90]
  fin_cases d <;> rfl
theorem qzB_at (Q : Vec Ideal S512x128 .bf16) (c : Fin 512) (d : Fin 128) : qzB Q (ix3 0 c d) = if 64 ≤ d.val then Q (ix2 c d) else 0 := by
  unfold qzB
  pointwise [k2_pay92, k2_pay90]
  fin_cases d <;> rfl

/-- The factor of the second half of a head. -/
def lamK (LM : Vec Ideal S4x64 .f32) : EReal :=
  Ideal.exp (∑ x, LM (ix2 0 x) * LM (ix2 1 x)) - Ideal.exp (∑ x, LM (ix2 2 x) * LM (ix2 3 x)) + Ideal.ofBits FTy.f32 0x3E4CCCCD#32

/-- The normalised, scaled entry of a row of outputs. -/
def fin128 (x : Fin 128 → EReal) (g : EReal) (d : Fin 128) : EReal :=
  x d * Ideal.rsqrt (Ideal.div (∑ j, x j * x j) (Ideal.ofBits .f32 0x43000000#32) + Ideal.ofBits .f32 0x358637BD#32) * g * Ideal.ofBits .f32 0x3F4CCCCD#32

theorem pay1_at (LM : Vec Ideal S4x64 .f32) (a0 a1 : Vec Ideal S1x144x512 .f32) (GS : Vec Ideal S128x1 .f32) (c : Fin 512) (d : Fin 128) :
    k2_pay1 (k2_pay131 (k2_pay128 LM) (k2_pay129 LM) (k2_pay130 LM) a0 a1 GS) (ix2 c d)
      = fin128 (fun d => Ideal.div (a0 (ix3 0 ⟨d, by omega⟩ c)) (a0 (ix3 0 128 c)) - lamK LM * Ideal.div (a1 (ix3 0 ⟨d, by omega⟩ c)) (a1 (ix3 0 128 c))) (GS (ix2 d 0)) d := by
  unfold fin128 lamK
  pointwise [k2_pay1, k2_pay131, k2_pay128, k2_pay129, k2_pay130, k2_pay127]

end Cert.Proof.KernelIdeal.Attn
-- ==== Proof.Flash.lean ====
module

public import Idealize.ShloMosaic.PureOps.Ideal
public import Mathlib.Analysis.SpecialFunctions.Pow.Real

@[expose] public section

noncomputable section

namespace Cert.Proof.Flash

open Idealize.ShloMosaic

/-- A finite sum of reals, as an extended real. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The unnormalised weight of a key: zero past the query. -/
def wt (r : ℕ → ℝ) (q k : ℕ) : ℝ := if k ≤ q then Real.exp (r k) else 0

theorem wt_nonneg (r q k) : 0 ≤ wt r q k := by
  unfold wt; split
  · exact (Real.exp_pos _).le
  · exact le_rfl

/-- A score `s` of a key before the shift `w`: it is the logit in units of the base-two exponential, or masked. -/
def Sc (r : ℕ → ℝ) (q k : ℕ) (s w : EReal) : Prop :=
  ∃ b : ℝ, w = b ∧ ((k ≤ q ∧ ∃ a : ℝ, s = a ∧ a + b = (Real.log 2)⁻¹ * r k) ∨ (q < k ∧ s = ⊥))

theorem two_rpow (x : ℝ) : Real.rpow 2 ((Real.log 2)⁻¹ * x) = Real.exp x := by
  rw [Real.rpow_eq_pow, Real.rpow_def_of_pos (by norm_num)]
  congr 1
  have : Real.log 2 ≠ 0 := (Real.log_pos (by norm_num)).ne'
  field_simp

/-- The weight the kernel gives a key, with running maximum `μ`. -/
theorem exp2_sc {r : ℕ → ℝ} {q k : ℕ} {s w : EReal} (h : Sc r q k s w) (μ : ℝ) :
    Ideal.exp2 (s - ((μ : EReal) - w)) = ((wt r q k * (2 : ℝ) ^ (-μ) : ℝ) : EReal) := by
  obtain ⟨b, rfl, ⟨hk, a, rfl, e⟩ | ⟨hk, rfl⟩⟩ := h
  · rw [← EReal.coe_sub, ← EReal.coe_sub, Ideal.exp2_coe]
    congr 1
    rw [wt, if_pos hk, ← two_rpow, ← e]
    show (2 : ℝ) ^ (a - (μ - b)) = (2 : ℝ) ^ (a + b) * (2 : ℝ) ^ (-μ)
    rw [← Real.rpow_add (by norm_num)]
    congr 1; ring
  · rw [← EReal.coe_sub, EReal.bot_sub, Ideal.exp2_bot, wt, if_neg (by omega), zero_mul]; rfl

/-- The largest shifted score of a tile is real: some key is not masked. -/
theorem fold_real {n : ℕ} (f : Fin n → EReal) (h : ∀ k, f k ≠ ⊤) (k₀ : Fin n) (h0 : f k₀ ≠ ⊥) :
    ∃ μ : ℝ, Finset.fold max ⊥ f Finset.univ = μ := by
  have e : Finset.fold max ⊥ f Finset.univ = Finset.univ.sup f := rfl
  rw [e]
  have h1 : Finset.univ.sup f ≠ ⊤ := by
    rw [← lt_top_iff_ne_top, Finset.sup_lt_iff (by exact bot_lt_top)]
    exact fun k _ => lt_top_iff_ne_top.mpr (h k)
  have h2 : Finset.univ.sup f ≠ ⊥ := fun hb => h0 (le_bot_iff.mp (hb ▸ Finset.le_sup (Finset.mem_univ k₀)))
  exact ⟨_, (EReal.coe_toReal h1 h2).symm⟩

theorem cm_real {r : ℕ → ℝ} {q : ℕ} {n : ℕ} (κ : Fin n → ℕ) (s : Fin n → EReal) (w : EReal) (h : ∀ k, Sc r q (κ k) (s k) w) (k₀ : Fin n) (h0 : κ k₀ ≤ q) :
    ∃ μ : ℝ, Finset.fold max ⊥ s Finset.univ + w = μ := by
  obtain ⟨μ, e⟩ := fold_real s (fun k => by
    obtain ⟨b, rfl, ⟨hk, a, ha, e⟩ | ⟨hk, hs⟩⟩ := h k
    · rw [ha]; exact EReal.coe_ne_top _
    · rw [hs]; exact bot_ne_top) k₀ (by
    obtain ⟨b, rfl, ⟨hk, a, ha, e⟩ | ⟨hk, hs⟩⟩ := h k₀
    · rw [ha]; exact EReal.coe_ne_bot _
    · omega)
  obtain ⟨b, rfl, -⟩ := h k₀
  exact ⟨μ + b, by rw [e, EReal.coe_add]⟩

/-- A running maximum `m` and a weighted sum `acc` that stand for the unnormalised sum `A`. -/
def Acc (m acc : EReal) (A : ℝ) : Prop :=
  (m = ⊥ ∧ acc = 0 ∧ A = 0) ∨ ∃ μ : ℝ, m = μ ∧ acc = ((A * (2 : ℝ) ^ (-μ) : ℝ) : EReal)

theorem Acc.max_real {m acc : EReal} {A : ℝ} (h : Acc m acc A) {cm : EReal} (hc : ∃ μ : ℝ, cm = μ) : ∃ μ : ℝ, max m cm = μ := by
  obtain ⟨ν, rfl⟩ := hc
  obtain ⟨rfl, -⟩ | ⟨μ, rfl, -⟩ := h
  · exact ⟨ν, max_eq_right bot_le⟩
  · exact ⟨max μ ν, (EReal.coe_strictMono.monotone.map_max).symm⟩

/-- One tile is added to the sum. -/
theorem Acc.step {m acc : EReal} {A : ℝ} (h : Acc m acc A) {n : ℕ} (μ : ℝ) (vt p : Fin n → EReal) (v e : Fin n → ℝ)
    (hv : ∀ k, vt k = v k) (hp : ∀ k, p k = ((e k * (2 : ℝ) ^ (-μ) : ℝ) : EReal)) :
    Ideal.exp2 (m - (μ : EReal)) * acc + ∑ k, vt k * p k = (((A + ∑ k, e k * v k) * (2 : ℝ) ^ (-μ) : ℝ) : EReal) := by
  have e1 : ∑ k, vt k * p k = ((∑ k, e k * v k * (2 : ℝ) ^ (-μ) : ℝ) : EReal) := by
    rw [coe_sum]
    refine Finset.sum_congr rfl fun k _ => ?_
    rw [hv, hp, ← EReal.coe_mul]
    congr 1; ring
  rw [e1, add_mul, Finset.sum_mul, EReal.coe_add]
  congr 1
  obtain ⟨rfl, rfl, rfl⟩ | ⟨ν, rfl, rfl⟩ := h
  · rw [mul_zero, zero_mul]; rfl
  · rw [← EReal.coe_sub, Ideal.exp2_coe, ← EReal.coe_mul]
    congr 1
    show (2 : ℝ) ^ (ν - μ) * (A * (2 : ℝ) ^ (-ν)) = _
    rw [mul_left_comm, ← Real.rpow_add (by norm_num)]
    congr 2; ring

/-- A quotient of two real numbers. -/
theorem div_real (x y : ℝ) (hy : y ≠ 0) : Ideal.div (x : EReal) (y : EReal) = ((x / y : ℝ) : EReal) := by
  rw [Ideal.div_coe hy, ← EReal.coe_mul]
  congr 1; field_simp

theorem div_scaled (x y μ : ℝ) (hy : y ≠ 0) : Ideal.div ((x * (2 : ℝ) ^ (-μ) : ℝ) : EReal) ((y * (2 : ℝ) ^ (-μ) : ℝ) : EReal) = ((x / y : ℝ) : EReal) := by
  have h : (2 : ℝ) ^ (-μ) ≠ 0 := (Real.rpow_pos_of_pos (by norm_num) _).ne'
  rw [div_real _ _ (mul_ne_zero hy h), mul_div_mul_right _ _ h]

/-- The weighted sum of a query over the first `n` keys. -/
def num (r : ℕ → ℝ) (q : ℕ) (v : ℕ → ℝ) (n : ℕ) : ℝ := ∑ k ∈ Finset.range n, wt r q k * v k

theorem num_succ (r : ℕ → ℝ) (q : ℕ) (v : ℕ → ℝ) (j : ℕ) :
    num r q v (512 * (j + 1)) = num r q v (512 * j) + ∑ k : Fin 512, wt r q (512 * j + k) * v (512 * j + k) := by
  unfold num
  rw [Nat.mul_succ, Finset.sum_range_add, Fin.sum_univ_eq_sum_range (fun k => wt r q (512 * j + k) * v (512 * j + k)) 512]

/-- Keys past the query add nothing. -/
theorem num_stop (r : ℕ → ℝ) (q : ℕ) (v : ℕ → ℝ) {n n' : ℕ} (h : q < n) (h' : n ≤ n') : num r q v n' = num r q v n := by
  unfold num
  refine (Finset.sum_subset (Finset.range_mono h') fun k _ hk => ?_).symm
  rw [Finset.mem_range, not_lt] at hk
  rw [wt, if_neg (by omega), zero_mul]

theorem num_one_pos (r : ℕ → ℝ) (q : ℕ) {n : ℕ} (h : 0 < n) : 0 < num r q (fun _ => 1) n := by
  unfold num
  refine Finset.sum_pos' (fun k _ => mul_nonneg (wt_nonneg _ _ _) zero_le_one) ⟨0, Finset.mem_range.mpr h, ?_⟩
  rw [wt, if_pos (by omega), mul_one]
  exact Real.exp_pos _

/-- The softmax of a row of logits, as the reference forms it: the weight of a key over the row's sum. -/
theorem softmax {n : ℕ} (r : ℕ → ℝ) (q : ℕ) (x : Fin n → EReal) (hx : ∀ k, x k = if k.val ≤ q then (r k : EReal) else ⊥) (hn : 0 < n) (k : Fin n) :
    Ideal.div (Ideal.exp (x k - Finset.fold max ⊥ x Finset.univ)) (∑ k, Ideal.exp (x k - Finset.fold max ⊥ x Finset.univ))
      = ((wt r q k / num r q (fun _ => 1) n : ℝ) : EReal) := by
  obtain ⟨μ, hμ⟩ := fold_real x (fun k => by rw [hx]; split; exact EReal.coe_ne_top _; exact bot_ne_top) ⟨0, hn⟩ (by rw [hx, if_pos (Nat.zero_le _)]; exact EReal.coe_ne_bot _)
  rw [hμ]
  have e (k : Fin n) : Ideal.exp (x k - (μ : EReal)) = ((wt r q k * Real.exp (-μ) : ℝ) : EReal) := by
    rw [hx, wt]
    split
    · rw [← EReal.coe_sub, Ideal.exp_coe, ← Real.exp_add, sub_eq_add_neg]
    · rw [EReal.bot_sub, Ideal.exp_bot, zero_mul]; rfl
  simp only [e]
  rw [← coe_sum, ← Finset.sum_mul, div_real, mul_div_mul_right _ _ (Real.exp_pos _).ne']
  · congr 2
    unfold num
    rw [Fin.sum_univ_eq_sum_range (fun k => wt r q k) n]
    simp
  · refine mul_ne_zero ?_ (Real.exp_pos _).ne'
    have := num_one_pos r q hn
    unfold num at this
    rw [Fin.sum_univ_eq_sum_range (fun k => wt r q k) n]
    simpa using this.ne'

/-- The difference of two softmax rows weighs the values as the difference of the two weighings. -/
theorem combine {n : ℕ} (r0 r1 : ℕ → ℝ) (q : ℕ) (v : ℕ → ℝ) (lam : ℝ) (p0 p1 vv : Fin n → EReal)
    (h0 : ∀ k, p0 k = ((wt r0 q k / num r0 q (fun _ => 1) n : ℝ) : EReal)) (h1 : ∀ k, p1 k = ((wt r1 q k / num r1 q (fun _ => 1) n : ℝ) : EReal)) (hv : ∀ k, vv k = v k) :
    ∑ k, vv k * (p0 k - (lam : EReal) * p1 k)
      = ((num r0 q v n / num r0 q (fun _ => 1) n : ℝ) : EReal) - (lam : EReal) * ((num r1 q v n / num r1 q (fun _ => 1) n : ℝ) : EReal) := by
  have e (k : Fin n) : vv k * (p0 k - (lam : EReal) * p1 k) = ((wt r0 q k * v k / num r0 q (fun _ => 1) n - lam * (wt r1 q k * v k / num r1 q (fun _ => 1) n) : ℝ) : EReal) := by
    rw [hv, h0, h1, ← EReal.coe_mul, ← EReal.coe_sub, ← EReal.coe_mul]
    congr 1; ring
  simp only [e]
  rw [← coe_sum, ← EReal.coe_mul, ← EReal.coe_sub, Finset.sum_sub_distrib, ← Finset.mul_sum, ← Finset.sum_div, ← Finset.sum_div,
    Fin.sum_univ_eq_sum_range (fun k => wt r0 q k * v k) n, Fin.sum_univ_eq_sum_range (fun k => wt r1 q k * v k) n]
  rfl

end Cert.Proof.Flash
-- ==== Proof.AttnInv.lean ====
module

public import proofs.«01_k».proof.Proof.ValPay
public import proofs.«01_k».proof.Proof.Flash

@[expose] public section

set_option maxRecDepth 16384

noncomputable section

namespace Cert.Proof.KernelIdeal.Attn

open Cert.KernelIdeal Cert.KernelIdeal.Gen
open Idealize.ShloMosaic Idealize.ShloMosaic.TcCoe Idealize.ShloMosaic.Tactic
open Cert.Proof.Flash

theorem neg_inf : Ideal.ofBits .f32 0xFF800000#32 = ⊥ := by simp [Ideal.ofBits, Ideal.ieee]

/-- The column of the running state that belongs to one query, when tile `j` of the keys is in hand: the sums are over the keys before the tile, and the tile's scores (of the first half: its weights) are there. -/
structure Inv (r0 r1 : ℕ → ℝ) (v : Fin 144 → ℕ → ℝ) (q j : ℕ) (c : Fin 512) (s : St Ideal) : Prop where
  half0 : ∃ (mo : EReal) (μ : ℝ), (∀ R, Acc mo (s.acc0 (ix3 0 R c)) (num r0 q (v R) (512 * j))) ∧ s.m0 (ix3 0 0 c) = (μ : EReal)
    ∧ s.al0 (ix3 0 0 c) = Ideal.exp2 (mo - (μ : EReal)) ∧ ∀ k : Fin 512, s.p0 (ix3 0 k c) = ((wt r0 q (512 * j + k) * (2 : ℝ) ^ (-μ) : ℝ) : EReal)
  half1 : ∀ R, Acc (s.m1 (ix3 0 0 c)) (s.acc1 (ix3 0 R c)) (num r1 q (v R) (512 * j))
  cm1 : ∃ ν : ℝ, s.cm1 (ix3 0 0 c) = (ν : EReal)
  sc1 : ∀ k : Fin 512, Sc r1 q (512 * j + k) (s.st1 (ix3 0 k c)) (s.sh1 (ix3 0 0 c))

variable {r0 r1 : ℕ → ℝ} {v : Fin 144 → ℕ → ℝ} {q j : ℕ} {c : Fin 512}

/-- A tile's column maxima are real when its first key is not masked. -/
theorem cm_col {r : ℕ → ℝ} (a : FVec Ideal S512x512 .f32) (w : Ideal .f32) (h : ∀ k : Fin 512, Sc r q (512 * j + k) (a (ix2 k c)) w) (hq : 512 * j ≤ q) :
    ∃ ν : ℝ, k2_pay50 a w (ix3 0 0 c) = (ν : EReal) := by
  rw [pay50_at, neg_inf]
  exact cm_real (fun k : Fin 512 => 512 * j + k.val) _ w h 0 (by simpa using hq)

/-- The tile in hand is added to the first half's sums, -/
theorem Inv.sum0 {s : St Ideal} (h : Inv r0 r1 v q j c s) (vt : Vec Ideal S1x144x512 .bf16) (hv : ∀ R k, vt (ix3 0 R k) = (v R (512 * j + k.val) : EReal)) :
    ∃ μ : ℝ, s.m0 (ix3 0 0 c) = (μ : EReal) ∧ ∀ R, k2_pay2 s.al0 s.acc0 vt s.p0 (ix3 0 R c) = ((num r0 q (v R) (512 * (j + 1)) * (2 : ℝ) ^ (-μ) : ℝ) : EReal) := by
  obtain ⟨mo, μ, ha, hm, hal, hp⟩ := h.half0
  refine ⟨μ, hm, fun R => ?_⟩
  rw [pay2_at, hal, (ha R).step μ _ _ (fun k : Fin 512 => v R (512 * j + k.val)) (fun k : Fin 512 => wt r0 q (512 * j + k)) (fun k => hv R k) hp, num_succ]

/-- and to the second half's. -/
theorem Inv.sum1 {s : St Ideal} (h : Inv r0 r1 v q j c s) (vt : Vec Ideal S1x144x512 .bf16) (hv : ∀ R k, vt (ix3 0 R k) = (v R (512 * j + k.val) : EReal)) :
    ∃ μ : ℝ, max (s.m1 (ix3 0 0 c)) (s.cm1 (ix3 0 0 c)) = (μ : EReal)
      ∧ ∀ R, k2_pay2 (k2_pay11 s.m1 s.cm1) s.acc1 vt (k2_pay12 s.m1 s.cm1 s.st1 s.sh1) (ix3 0 R c) = ((num r1 q (v R) (512 * (j + 1)) * (2 : ℝ) ^ (-μ) : ℝ) : EReal) := by
  obtain ⟨μ, hm⟩ := (h.half1 0).max_real h.cm1
  refine ⟨μ, hm, fun R => ?_⟩
  rw [pay2_at, pay11_at, hm, (h.half1 R).step μ _ _ (fun k : Fin 512 => v R (512 * j + k.val)) (fun k : Fin 512 => wt r1 q (512 * j + k)) (fun k => hv R k)
    (fun k => by rw [pay12_at, hm]; exact exp2_sc (h.sc1 k) μ), num_succ]

/-- A step of the key loop takes the state from one tile to the next. -/
theorem Inv.core {s : St Ideal} (h : Inv r0 r1 v q j c s) (vt : Vec Ideal S1x144x512 .bf16) (hv : ∀ R k, vt (ix3 0 R k) = (v R (512 * j + k.val) : EReal))
    (a0 a1 : FVec Ideal S512x512 .f32) (w : Ideal .f32) (h0 : ∀ k : Fin 512, Sc r0 q (512 * (j + 1) + k) (a0 (ix2 k c)) w)
    (h1 : ∀ k : Fin 512, Sc r1 q (512 * (j + 1) + k) (a1 (ix2 k c)) w) (hq : 512 * (j + 1) ≤ q) : Inv r0 r1 v q (j + 1) c (core s vt a0 a1 w) := by
  obtain ⟨μ, hm, hs⟩ := h.sum0 vt hv
  obtain ⟨μ', hm', hs'⟩ := h.sum1 vt hv
  obtain ⟨ν, hc⟩ := cm_col a0 w h0 hq
  refine ⟨⟨(μ : EReal), max μ ν, fun R => .inr ⟨μ, rfl, hs R⟩, ?_, ?_, fun k => ?_⟩, fun R => .inr ⟨μ', ?_, hs' R⟩, cm_col a1 w h1 hq, fun k => ?_⟩
  · show k2_pay13 (k2_pay10 s.m0 (k2_pay50 a0 w)) (ix3 0 0 c) = _
    rw [pay10_at, hm, hc]
    exact (EReal.coe_strictMono.monotone.map_max).symm
  · show k2_pay11 s.m0 (k2_pay50 a0 w) (ix3 0 0 c) = _
    rw [pay11_at, hm, hc, ← EReal.coe_strictMono.monotone.map_max]
  · show k2_pay12 s.m0 (k2_pay50 a0 w) (k2_pay49 a0) (k2_pay51 w) (ix3 0 k c) = _
    rw [pay12_at, pay49_at, pay51_at, hm, hc, ← EReal.coe_strictMono.monotone.map_max]
    exact exp2_sc (h0 k) _
  · show k2_pay13 (k2_pay10 s.m1 s.cm1) (ix3 0 0 c) = _
    rw [pay10_at, hm']
  · show Sc r1 q _ (k2_pay49 a1 (ix3 0 k c)) (k2_pay51 w (ix3 0 0 c))
    rw [pay49_at, pay51_at]
    exact h1 k

end Cert.Proof.KernelIdeal.Attn
-- ==== Proof.AttnOff.lean ====
module

public import proofs.«01_k».proof.Proof.AttnState

@[expose] public section

set_option maxRecDepth 65536
set_option maxHeartbeats 4000000

noncomputable section

namespace Cert.Proof.KernelIdeal.Attn

open Cert.KernelIdeal Cert.KernelIdeal.Gen
open Idealize.ShloMosaic Idealize.ShloMosaic.TcCoe Idealize.ShloMosaic.Tactic

/-! Where the loads of the attention kernel start, by grid point and trip. -/

theorem far_trips : ∀ i : grid2.Coords, (k2_t1_loop i).trips = (i 2).val - 2 := by decide +kernel
theorem near_trips : ∀ i : grid2.Coords, (k2_t3_loop i).trips = (i 2).val - ((i 2).val - 2) := by decide +kernel
theorem off1_eq : ∀ i : grid2.Coords, k2_off1 i = ![31, (i 1).val] := by decide +kernel
theorem off2_eq : ∀ i : grid2.Coords, k2_off2 i = ![0, min (i 2).val 2, 0, 0] := by decide +kernel
theorem off13_eq : ∀ i : grid2.Coords, k2_off13 i = ![(i 2).val, 0, 0] := by decide +kernel
theorem off3_eq : ∀ i : grid2.Coords, ∀ k : Fin (k2_t1_loop i).trips, k2_off3 i k = ![k.val, 0, 0] := by decide +kernel
theorem off4_eq : ∀ i : grid2.Coords, ∀ k : Fin (k2_t1_loop i).trips, k2_off4 i k = ![(k.val + 1) * 512, 0] := by decide +kernel
theorem off7_eq : ∀ i : grid2.Coords, ∀ k : Fin (k2_t3_loop i).trips, k2_off7 i k = ![(i 2).val - 2 + k.val, 0, 0] := by decide +kernel
theorem off8_eq : ∀ i : grid2.Coords, ∀ k : Fin (k2_t3_loop i).trips, k2_off8 i k = ![((i 2).val - 2 + k.val + 1) * 512, 0] := by decide +kernel
theorem off9_eq : ∀ i : grid2.Coords, ∀ k : Fin (k2_t3_loop i).trips, k2_off9 i k = ![0, min ((i 2).val - ((i 2).val - 2 + k.val + 1)) 2, 0, 0] := by decide +kernel

end Cert.Proof.KernelIdeal.Attn
-- ==== Proof.Layer.lean ====
module

public import proofs.«01_k».proof.Proof.Bucket
public import proofs.«01_k».proof.Proof.Flash

@[expose] public section

noncomputable section

namespace Cert.Proof.Layer

open Idealize.ShloMosaic
open Cert.Proof.Bucket Cert.Proof.Flash

variable (hR : Fin 8192 → Fin 4608 → ℝ) (rb : Fin 32 → Fin 4 → ℝ)

/-- The logit of half `m` of head `h`, of the query at `q` and the key at `k`, in one sequence of projected rows. -/
def rr (m : Fin 2) (h : Fin 4) (q k : ℕ) : ℝ :=
  if hh : q < 8192 ∧ k < 8192 then (∑ x : Fin 64, hR ⟨q, hh.1⟩ ⟨h.val * 128 + m.val * 64 + x.val, by omega⟩ * hR ⟨k, hh.2⟩ ⟨512 + (h.val * 128 + m.val * 64 + x.val), by omega⟩) * (1 / 8)
    + rb ⟨(bk (IntOp.subi (BitVec.ofNat 32 q) (BitVec.ofNat 32 k))).toNat, bk_lt _⟩ h
  else 0

/-- The entry `d` of head `h`'s value at a position. -/
def vv (h : Fin 4) (d : Fin 128) (k : ℕ) : ℝ := if hh : k < 8192 then hR ⟨k, hh⟩ ⟨1024 + (h.val * 128 + d.val), by omega⟩ else 0

/-- What one half of a head attends to. -/
def half (m : Fin 2) (h : Fin 4) (q : ℕ) (d : Fin 128) : ℝ := num (rr hR rb m h q) q (vv hR h d) 8192 / num (rr hR rb m h q) q (fun _ => 1) 8192

/-- What a head attends to: the difference of its halves. -/
def att (lam : ℝ) (h : Fin 4) (q : ℕ) (d : Fin 128) : EReal := (half hR rb 0 h q d : EReal) - (lam : EReal) * (half hR rb 1 h q d : EReal)

theorem eighth : Ideal.ofBits .f32 0x3E000000#32 = ((1 / 8 : ℝ) : EReal) := by
  simp [Ideal.ofBits, Ideal.ieee, -EReal.coe_mul]; norm_num

theorem bot32 : Ideal.ofBits .f32 0xFF800000#32 = ⊥ := by simp [Ideal.ofBits, Ideal.ieee]

/-- A bucket is a row of the table of biases as it is. -/
theorem row_eq (d : BitVec 32) : min (Scalar.select (IntOp.cmpi .slt (bk d) 0#32) (IntOp.addi (bk d) 32#32) (bk d)).toInt.toNat 31 = (bk d).toNat := by
  have h := bk_facts d
  have h2 := BitVec.toInt_eq_toNat_cond (bk d)
  have h3 := bk_lt d
  have : IntOp.cmpi .slt (bk d) 0#32 = 0#1 := by
    show BitVec.ofBool ((bk d).slt 0#32) = _
    have : (bk d).slt 0#32 = false := by
      rw [Bool.eq_false_iff]; intro hh; rw [BitVec.slt_iff_toInt_lt] at hh
      have z : (0#32).toInt = 0 := by decide
      omega
    rw [this]; rfl
  rw [this]
  change min (bk d).toInt.toNat 31 = _
  split at h2 <;> omega

/-- The normalised, scaled entry of a row of outputs. -/
def fin128 (x : Fin 128 → EReal) (g : EReal) (d : Fin 128) : EReal :=
  x d * Ideal.rsqrt (Ideal.div (∑ j, x j * x j) (Ideal.ofBits .f32 0x43000000#32) + Ideal.ofBits .f32 0x358637BD#32) * g * Ideal.ofBits .f32 0x3F4CCCCD#32

end Cert.Proof.Layer
-- ==== Proof.AttnScore.lean ====
module

public import proofs.«01_k».proof.Proof.ValPay
public import proofs.«01_k».proof.Proof.ValBias
public import proofs.«01_k».proof.Proof.Layer

@[expose] public section

set_option maxRecDepth 16384

noncomputable section

namespace Cert.Proof.KernelIdeal.Attn

open Cert.KernelIdeal Cert.KernelIdeal.Gen
open Idealize.ShloMosaic Idealize.ShloMosaic.TcCoe Idealize.ShloMosaic.Tactic
open Cert.Proof.Flash Cert.Proof.Bucket Cert.Proof.Layer

/-- The distance of a key and a query in a tile of biases, as the difference of two positions. -/
theorem dw_eq (o k c : ℕ) (ho : o ≤ 2) (hc : c < 512) : dw o k c = IntOp.subi (BitVec.ofNat 32 (512 * o + c)) (BitVec.ofNat 32 k) := by
  unfold dw
  congr 1
  apply BitVec.eq_of_toNat_eq
  simp only [IntOp.addi, IntOp.muli, BitVec.toNat_add, BitVec.toNat_mul, BitVec.toNat_ofNat]
  omega

/-- The bias of a tile is that of the true distance: the tile's offset is the distance of the two blocks, or both are far. -/
theorem tile_bk (i j k c : ℕ) (hj : j ≤ i) (hi : i < 16) (hk : k < 512) (hc : c < 512) :
    (k ≤ 512 * min (i - j) 2 + c ↔ 512 * j + k ≤ 512 * i + c)
      ∧ (bk (dw (min (i - j) 2) k c)).toNat = (bk (IntOp.subi (BitVec.ofNat 32 (512 * i + c)) (BitVec.ofNat 32 (512 * j + k)))).toNat := by
  have h1 := dist_toInt (512 * min (i - j) 2 + c) k (by omega) (by omega)
  have h2 := dist_toInt (512 * i + c) (512 * j + k) (by omega) (by omega)
  refine ⟨by omega, ?_⟩
  rw [dw_eq _ _ _ (by omega) hc]
  by_cases h : i - j ≤ 2
  · congr 2
    apply BitVec.eq_of_toInt_eq
    rw [h1, h2]
    push_cast
    omega
  · rw [bk_far _ (by rw [h1]; omega), bk_far _ (by rw [h2]; omega)]

/-- One entry of a tile of biases, of real biases. -/
def tb (rb : Fin 32 → Fin 4 → ℝ) (h : Fin 4) (o k c : ℕ) : EReal :=
  if k ≤ 512 * o + c then ((rb ⟨(bk (dw o k c)).toNat, bk_lt _⟩ h * (Real.log 2)⁻¹ : ℝ) : EReal) else ⊥

/-- What the bias kernel writes is that entry. -/
theorem tb_eq (rb : Fin 32 → Fin 4 → ℝ) (h : Fin 4) (o : ℕ) (ho : o ≤ 2) (k c : Fin 512) (x : EReal) (hx : x = (rb ⟨(bk (dw o k c)).toNat, bk_lt _⟩ h : EReal)) :
    Scalar.select (IntOp.cmpi .sge (dw o k c) 0#32) (x * (((Real.log 2)⁻¹ : ℝ) : EReal)) ⊥ = tb rb h o k c := by
  subst hx
  have e : IntOp.cmpi .sge (dw o k c) 0#32 = if k.val ≤ 512 * o + c.val then 1#1 else 0#1 := by
    rw [dw_eq _ _ _ ho c.isLt]
    exact sge_dist _ _ (by omega) (by omega)
  rw [e, tb]
  split
  · rw [EReal.coe_mul]; rfl
  · rfl

/-- A product over the lanes of one half of a head. -/
theorem lanes (m : Fin 2) (P : Fin 128 → Prop) [DecidablePred P] (hP : ∀ d, P d ↔ d.val / 64 = m.val) (f g : Fin 128 → EReal) (f' g' : Fin 128 → ℝ) (hf : ∀ d, f d = f' d) (hg : ∀ d, g d = g' d) :
    ∑ d, f d * (if P d then g d else 0) = ((∑ x : Fin 64, f' ⟨m.val * 64 + x.val, by omega⟩ * g' ⟨m.val * 64 + x.val, by omega⟩ : ℝ) : EReal) := by
  have e (d : Fin 128) : f d * (if P d then g d else 0) = ((if d.val / 64 = m.val then f' d * g' d else 0 : ℝ) : EReal) := by
    by_cases h : P d
    · rw [if_pos h, if_pos ((hP d).mp h), hf, hg, EReal.coe_mul]
    · rw [if_neg h, if_neg (mt (hP d).mpr h), mul_zero]; rfl
  simp only [e]
  rw [← coe_sum]
  congr 1
  rw [show (∑ d : Fin 128, if d.val / 64 = m.val then f' d * g' d else 0) = ∑ d : Fin (64 + 64), if d.val / 64 = m.val then f' d * g' d else 0 from rfl, Fin.sum_univ_add]
  match m with
  | ⟨0, _⟩ =>
    have e1 (x : Fin 64) : (Fin.castAdd 64 x).val / 64 = 0 := by simp
    have e2 (x : Fin 64) : ¬ (Fin.natAdd 64 x).val / 64 = 0 := by simp
    simp only [e1, e2, if_true, if_false, Finset.sum_const_zero, add_zero]
    refine Finset.sum_congr rfl fun x _ => ?_
    have : (Fin.castAdd 64 x : Fin (64 + 64)) = (⟨0 * 64 + x.val, by omega⟩ : Fin 128) := Fin.ext (by simp)
    rw [this]
  | ⟨1, _⟩ =>
    have e1 (x : Fin 64) : ¬ (Fin.castAdd 64 x).val / 64 = 1 := by rw [Fin.val_castAdd]; omega
    have e2 (x : Fin 64) : (Fin.natAdd 64 x).val / 64 = 1 := by simp
    simp only [e1, e2, if_true, if_false, Finset.sum_const_zero, zero_add]
    refine Finset.sum_congr rfl fun x _ => ?_
    have : (Fin.natAdd 64 x : Fin (64 + 64)) = (⟨1 * 64 + x.val, by omega⟩ : Fin 128) := Fin.ext (by simp; omega)
    rw [this]

variable (hR : Fin 8192 → Fin 4608 → ℝ) (rb : Fin 32 → Fin 4 → ℝ)

/-- A logit from the scaled product of a query and a key, in units of the base-two exponential. -/
theorem logit (m : Fin 2) (h : Fin 4) (q k : Fin 8192) (f' g' : Fin 128 → ℝ) (hf : ∀ d : Fin 128, f' d = hR k ⟨512 + (h.val * 128 + d.val), by omega⟩)
    (hg : ∀ d : Fin 128, g' d = hR q ⟨h.val * 128 + d.val, by omega⟩ * (8 * Real.log 2)⁻¹) :
    (∑ x : Fin 64, f' ⟨m.val * 64 + x.val, by omega⟩ * g' ⟨m.val * 64 + x.val, by omega⟩)
        + rb ⟨(bk (IntOp.subi (BitVec.ofNat 32 q.val) (BitVec.ofNat 32 k.val))).toNat, bk_lt _⟩ h * (Real.log 2)⁻¹ = (Real.log 2)⁻¹ * rr hR rb m h q k := by
  rw [rr, dif_pos ⟨q.isLt, k.isLt⟩, mul_add, mul_comm (rb _ _)]
  congr 1
  rw [Finset.sum_mul, Finset.mul_sum]
  refine Finset.sum_congr rfl fun x _ => ?_
  have e1 : (⟨512 + (h.val * 128 + (m.val * 64 + x.val)), by omega⟩ : Fin 4608) = ⟨512 + (h.val * 128 + m.val * 64 + x.val), by omega⟩ := Fin.ext (by simp; omega)
  have e2 : (⟨h.val * 128 + (m.val * 64 + x.val), by omega⟩ : Fin 4608) = ⟨h.val * 128 + m.val * 64 + x.val, by omega⟩ := Fin.ext (by simp; omega)
  rw [hf, hg, e1, e2]
  have : Real.log 2 ≠ 0 := (Real.log_pos (by norm_num)).ne'
  field_simp

/-- The score of a tile with a tile of biases. -/
theorem near_sc (m : Fin 2) (h : Fin 4) (i j : ℕ) (hj : j ≤ i) (hi : i < 16) (k c : Fin 512) (P : Fin 128 → Prop) [DecidablePred P] (hP : ∀ d, P d ↔ d.val / 64 = m.val)
    (f g : Fin 128 → EReal) (hf : ∀ d : Fin 128, f d = (hR ⟨512 * j + k.val, by omega⟩ ⟨512 + (h.val * 128 + d.val), by omega⟩ : EReal))
    (hg : ∀ d : Fin 128, g d = ((hR ⟨512 * i + c.val, by omega⟩ ⟨h.val * 128 + d.val, by omega⟩ * (8 * Real.log 2)⁻¹ : ℝ) : EReal)) (b : EReal) (hb : b = tb rb h (min (i - j) 2) k c) :
    Sc (rr hR rb m h (512 * i + c.val)) (512 * i + c.val) (512 * j + k.val) ((∑ d, f d * (if P d then g d else 0)) + b) 0 := by
  obtain ⟨t1, t2⟩ := tile_bk i j k c hj hi k.isLt c.isLt
  refine ⟨0, rfl, ?_⟩
  rw [lanes m P hP f g _ _ hf hg, hb, tb]
  by_cases hh : k.val ≤ 512 * min (i - j) 2 + c.val
  · rw [if_pos hh]
    refine .inl ⟨t1.mp hh, _, (EReal.coe_add _ _).symm, ?_⟩
    rw [add_zero, ← logit hR rb m h ⟨512 * i + c.val, by omega⟩ ⟨512 * j + k.val, by omega⟩ _ _ (fun d => rfl) (fun d => rfl)]
    congr 3
    exact Fin.ext t2
  · rw [if_neg hh]
    exact .inr ⟨by have := mt t1.mpr hh; omega, EReal.add_bot _⟩

/-- The score of a far tile, whose bias is the shift. -/
theorem far_sc (m : Fin 2) (h : Fin 4) (i j : ℕ) (hj : j + 2 ≤ i) (hi : i < 16) (k c : Fin 512) (P : Fin 128 → Prop) [DecidablePred P] (hP : ∀ d, P d ↔ d.val / 64 = m.val)
    (f g : Fin 128 → EReal) (hf : ∀ d : Fin 128, f d = (hR ⟨512 * j + k.val, by omega⟩ ⟨512 + (h.val * 128 + d.val), by omega⟩ : EReal))
    (hg : ∀ d : Fin 128, g d = ((hR ⟨512 * i + c.val, by omega⟩ ⟨h.val * 128 + d.val, by omega⟩ * (8 * Real.log 2)⁻¹ : ℝ) : EReal)) (w : EReal) (hw : w = ((rb 31 h * (Real.log 2)⁻¹ : ℝ) : EReal)) :
    Sc (rr hR rb m h (512 * i + c.val)) (512 * i + c.val) (512 * j + k.val) (∑ d, f d * (if P d then g d else 0)) w := by
  refine ⟨_, hw, .inl ⟨by omega, _, lanes m P hP f g _ _ hf hg, ?_⟩⟩
  rw [← logit hR rb m h ⟨512 * i + c.val, by omega⟩ ⟨512 * j + k.val, by omega⟩ _ _ (fun d => rfl) (fun d => rfl)]
  congr 3
  exact Fin.ext (bk_far _ (by rw [dist_toInt _ _ (by simp only []; omega) (by simp only []; omega)]; dsimp only; omega)).symm

end Cert.Proof.KernelIdeal.Attn
-- ==== Proof.ValAttn.lean ====
module

public import proofs.«01_k».proof.Proof.AttnInv
public import proofs.«01_k».proof.Proof.AttnOff
public import proofs.«01_k».proof.Proof.AttnScore

@[expose] public section

set_option maxRecDepth 16384

noncomputable section

namespace Cert.Proof.KernelIdeal.Attn

open Cert.KernelIdeal Cert.KernelIdeal.Gen
open Idealize.ShloMosaic Idealize.ShloMosaic.TcCoe Idealize.ShloMosaic.Tactic
open Cert.Proof.Flash Cert.Proof.Bucket Cert.Proof.Layer

theorem pay93_at (y : S2x1x512.Idx) : (k2_pay93 (F := Ideal)) y = ⊥ := by
  unfold k2_pay93
  first
    | exact IdealRules.named_const.ideal_named_scalar κ "mask" _ _ rfl
    | exact neg_inf

theorem pay94_at (y : S2x144x512.Idx) : (k2_pay94 (F := Ideal)) y = 0 := by
  unfold k2_pay94
  show Ideal.ofBits .f32 0x00000000#32 = 0
  simp [Ideal.ofBits, Ideal.ieee]

theorem pay95_at (x : Ideal .f32) : k2_pay95 x = x * (((Real.log 2)⁻¹ : ℝ) : EReal) := by
  unfold k2_pay95
  show x * _ = _
  exact congrArg (x * ·) <| IdealRules.named_const.ideal_named_scalar κ "log2e" _ _ rfl

theorem zero_word : (Scalar.ofBits (F := Ideal) .f32 0x00000000#32 : Ideal .f32) = (0 : EReal) := by
  show Ideal.ofBits .f32 0x00000000#32 = 0
  simp [Ideal.ofBits, Ideal.ieee]

theorem after_zero {T : Nat} (step : St Ideal → Fin T → St Ideal) (s : St Ideal) : after step s 0 = s := rfl

/-! The first tile, whose running maximum is none. -/

theorem first_m (M cm : Vec Ideal S1x1x512 .f32) (c : Fin 512) (μ : ℝ) (hM : M (ix3 0 0 c) = (⊥ : EReal)) (hm : cm (ix3 0 0 c) = (μ : EReal)) : k2_pay13 (k2_pay10 M cm) (ix3 0 0 c) = (μ : EReal) := by
  rw [pay10_at, hM, hm, max_eq_right bot_le]
theorem first_al (M cm : Vec Ideal S1x1x512 .f32) (c : Fin 512) (μ : ℝ) (hM : M (ix3 0 0 c) = (⊥ : EReal)) (hm : cm (ix3 0 0 c) = (μ : EReal)) : k2_pay11 M cm (ix3 0 0 c) = Ideal.exp2 (⊥ - (μ : EReal)) := by
  rw [pay11_at, hM, hm, max_eq_right bot_le]
theorem first_p {r : ℕ → ℝ} {q κ : ℕ} (M cm : Vec Ideal S1x1x512 .f32) (st : Vec Ideal S1x512x512 .f32) (sh : Vec Ideal S1x1x512 .f32) (k c : Fin 512) (μ : ℝ) (hM : M (ix3 0 0 c) = (⊥ : EReal)) (hm : cm (ix3 0 0 c) = (μ : EReal))
    (hs : Sc r q κ (st (ix3 0 k c)) (sh (ix3 0 0 c))) : k2_pay12 M cm st sh (ix3 0 k c) = ((wt r q κ * (2 : ℝ) ^ (-μ) : ℝ) : EReal) := by
  rw [pay12_at, hM, hm, max_eq_right bot_le]
  exact exp2_sc hs μ

theorem scored {r : ℕ → ℝ} {q κ : ℕ} (a : FVec Ideal S512x512 .f32) (w : Ideal .f32) (k c : Fin 512) (h : Sc r q κ (a (ix2 k c)) w) : Sc r q κ (k2_pay49 a (ix3 0 k c)) (k2_pay51 w (ix3 0 0 c)) := by
  rw [pay49_at, pay51_at]
  exact h

/-! Loads, read at an index. -/

theorem ldK (K : Vec Ideal S8192x128 .bf16) (off : Fin S8192x128.rank → Nat) (h : ∀ a, off a + S512x128.size a ≤ S8192x128.size a) (a : ℕ) (e : off = ![a, 0]) (k : Fin 512) (d : Fin 128) (ha : a + k.val < 8192) :
    View.ld K (Rect.unit (s := S8192x128) off S512x128.size h) (ix2 k d) = K (ix2 ⟨a + k.val, ha⟩ d) := by
  subst e
  show K _ = _
  congr 1
  funext x
  apply Fin.ext
  match x with
  | ⟨0, _⟩ => show a + 1 * k.val = a + k.val; omega
  | ⟨1, _⟩ => show 0 + 1 * d.val = d.val; omega

theorem ldV (VT : Vec Ideal S16x144x512 .bf16) (off : Fin S16x144x512.rank → Nat) (h : ∀ a, off a + S1x144x512.size a ≤ S16x144x512.size a) (a : Fin 16) (e : off = ![a.val, 0, 0]) (R : Fin 144) (k : Fin 512) :
    View.ld VT (Rect.unit (s := S16x144x512) off S1x144x512.size h) (ix3 0 R k) = VT (ix3 a R k) := by
  subst e
  show VT _ = _
  congr 1
  funext x
  apply Fin.ext
  match x with
  | ⟨0, _⟩ => show a.val + 1 * 0 = a.val; omega
  | ⟨1, _⟩ => show 0 + 1 * R.val = R.val; omega
  | ⟨2, _⟩ => show 0 + 1 * k.val = k.val; omega

theorem ldB (B : Vec Ideal S1x3x512x512 .f32) (off : Fin S1x3x512x512.rank → Nat) (h : ∀ a, off a + S1x1x512x512.size a ≤ S1x3x512x512.size a) (o : Fin 3) (e : off = ![0, o.val, 0, 0]) (k c : Fin 512) :
    View.ld B (Rect.unit (s := S1x3x512x512) off S1x1x512x512.size h) (ix4 0 0 k c) = B (ix4 0 o k c) := by
  subst e
  show B _ = _
  congr 1
  funext x
  apply Fin.ext
  match x with
  | ⟨0, _⟩ => rfl
  | ⟨1, _⟩ => show o.val + 1 * 0 = o.val; omega
  | ⟨2, _⟩ => show 0 + 1 * k.val = k.val; omega
  | ⟨3, _⟩ => show 0 + 1 * c.val = c.val; omega

theorem ldR (RB : Vec Ideal S32x4 .f32) (off : Fin S32x4.rank → Nat) (h : ∀ a, off a + S1x1.size a ≤ S32x4.size a) (b : Fin 4) (e : off = ![31, b.val]) (y : S1x1.Idx) :
    View.ld RB (Rect.unit (s := S32x4) off S1x1.size h) y = RB (ix2 31 b) := by
  subst e
  show RB _ = _
  congr 1
  funext x
  apply Fin.ext
  match x with
  | ⟨0, _⟩ =>
    have : (y (0 : Fin 2)).val < 1 := (y (0 : Fin 2)).isLt
    show 31 + 1 * (y (0 : Fin 2)).val = 31; omega
  | ⟨1, _⟩ =>
    have : (y (1 : Fin 2)).val < 1 := (y (1 : Fin 2)).isLt
    show b.val + 1 * (y (1 : Fin 2)).val = b.val; omega

theorem ld_full2 {a b : ℕ} {e : EltTy} (X : Vec Ideal (⟨2, ![a, b]⟩ : Shape) e) (h : ∀ x, (![0, 0] : Fin 2 → ℕ) x + (![a, b] : Fin 2 → ℕ) x ≤ (![a, b] : Fin 2 → ℕ) x) :
    View.ld X (Rect.unit (s := (⟨2, ![a, b]⟩ : Shape)) ![0, 0] ![a, b] h) = X := by
  funext y
  show X _ = X y
  congr 1
  funext x
  apply Fin.ext
  match x with
  | ⟨0, _⟩ => show 0 + 1 * (y 0).val = (y 0).val; omega
  | ⟨1, _⟩ => show 0 + 1 * (y 1).val = (y 1).val; omega

/-- The rows of a block of values: the values, a row of ones, and rows of zeros. -/
def vrow (hR : Fin 8192 → Fin 4608 → ℝ) (h : Fin 4) (R : Fin 144) : ℕ → ℝ :=
  if hh : R.val < 128 then vv hR h ⟨R.val, hh⟩ else if R.val = 128 then fun _ => 1 else fun _ => 0

/-- What the attention kernel loads at a grid point, in terms of real projected rows and biases. -/
structure Loads (hR : Fin 8192 → Fin 4608 → ℝ) (rb : Fin 32 → Fin 4 → ℝ) (h : Fin 4) (i : grid2.Coords) (Q : Vec Ideal S512x128 .bf16) (K : Vec Ideal S8192x128 .bf16)
    (VT : Vec Ideal S16x144x512 .bf16) (B : Vec Ideal S1x3x512x512 .f32) (RB : Vec Ideal S32x4 .f32) : Prop where
  hh : h.val = (i 1).val
  hi : (i 2).val < 16
  hQ : ∀ (c : Fin 512) (d : Fin 128), Q (ix2 c d) = ((hR ⟨512 * (i 2).val + c.val, by omega⟩ ⟨h.val * 128 + d.val, by omega⟩ * (8 * Real.log 2)⁻¹ : ℝ) : EReal)
  hK : ∀ (k : Fin 8192) (d : Fin 128), K (ix2 k d) = (hR k ⟨512 + (h.val * 128 + d.val), by omega⟩ : EReal)
  hV : ∀ (j : Fin 16) (R : Fin 144) (k : Fin 512), VT (ix3 j R k) = (vrow hR h R (512 * j.val + k.val) : EReal)
  hB : ∀ (o : Fin 3) (k c : Fin 512), B (ix4 0 o k c) = tb rb h o.val k.val c.val
  hRB : ∀ n m, RB (ix2 n m) = (rb n m : EReal)

section
variable {hR : Fin 8192 → Fin 4608 → ℝ} {rb : Fin 32 → Fin 4 → ℝ} {h : Fin 4} {i : grid2.Coords} {Q : Vec Ideal S512x128 .bf16} {K : Vec Ideal S8192x128 .bf16}
  {VT : Vec Ideal S16x144x512 .bf16} {B : Vec Ideal S1x3x512x512 .f32} {RB : Vec Ideal S32x4 .f32} (H : Loads hR rb h i Q K VT B RB)
include H

/-- The scores of tile `j`, with a tile of biases, -/
theorem Loads.near (c : Fin 512) (j : ℕ) (hj : j ≤ (i 2).val) (off1 : Fin S8192x128.rank → Nat) (h1 : ∀ a, off1 a + S512x128.size a ≤ S8192x128.size a) (e1 : off1 = ![j * 512, 0])
    (off2 : Fin S1x3x512x512.rank → Nat) (h2 : ∀ a, off2 a + S1x1x512x512.size a ≤ S1x3x512x512.size a) (e2 : off2 = ![0, min ((i 2).val - j) 2, 0, 0]) (k : Fin 512) :
    Sc (rr hR rb 0 h (512 * (i 2).val + c.val)) (512 * (i 2).val + c.val) (512 * j + k.val)
        (k2_pay47 (View.ld K (Rect.unit (s := S8192x128) off1 S512x128.size h1)) (qzA Q) (View.ld B (Rect.unit (s := S1x3x512x512) off2 S1x1x512x512.size h2)) (ix2 k c)) (Scalar.ofBits (F := Ideal) .f32 0x00000000#32)
      ∧ Sc (rr hR rb 1 h (512 * (i 2).val + c.val)) (512 * (i 2).val + c.val) (512 * j + k.val)
        (k2_pay47 (View.ld K (Rect.unit (s := S8192x128) off1 S512x128.size h1)) (qzB Q) (View.ld B (Rect.unit (s := S1x3x512x512) off2 S1x1x512x512.size h2)) (ix2 k c)) (Scalar.ofBits (F := Ideal) .f32 0x00000000#32) := by
  have hi := H.hi
  have eB := (ldB B off2 h2 ⟨min ((i 2).val - j) 2, by omega⟩ e2 k c).trans (H.hB _ k c)
  have eK (d : Fin 128) := (ldK K off1 h1 (j * 512) e1 k d (by omega)).trans (H.hK _ d)
  have e : (⟨j * 512 + k.val, by omega⟩ : Fin 8192) = ⟨512 * j + k.val, by omega⟩ := Fin.ext (by simp; omega)
  rw [zero_word, pay47_at, pay47_at]
  simp only [qzA_at, qzB_at]
  exact ⟨near_sc hR rb 0 h _ j hj hi k c (fun d => d.val < 64) (fun d => by show _ ↔ d.val / 64 = 0; omega) _ (fun d => Q (ix2 c d)) (fun d => (eK d).trans (by rw [e])) (fun d => H.hQ c d) _ eB,
    near_sc hR rb 1 h _ j hj hi k c (fun d => 64 ≤ d.val) (fun d => by show _ ↔ d.val / 64 = 1; omega) _ (fun d => Q (ix2 c d)) (fun d => (eK d).trans (by rw [e])) (fun d => H.hQ c d) _ eB⟩

/-- and of a far one. -/
theorem Loads.far (c : Fin 512) (j : ℕ) (hj : j + 2 ≤ (i 2).val) (off1 : Fin S8192x128.rank → Nat) (h1 : ∀ a, off1 a + S512x128.size a ≤ S8192x128.size a) (e1 : off1 = ![j * 512, 0]) (k : Fin 512) :
    Sc (rr hR rb 0 h (512 * (i 2).val + c.val)) (512 * (i 2).val + c.val) (512 * j + k.val)
        (k2_pay3 (View.ld K (Rect.unit (s := S8192x128) off1 S512x128.size h1)) (qzA Q) (ix2 k c)) (farBias i RB)
      ∧ Sc (rr hR rb 1 h (512 * (i 2).val + c.val)) (512 * (i 2).val + c.val) (512 * j + k.val)
        (k2_pay3 (View.ld K (Rect.unit (s := S8192x128) off1 S512x128.size h1)) (qzB Q) (ix2 k c)) (farBias i RB) := by
  have hi := H.hi
  have eK (d : Fin 128) := (ldK K off1 h1 (j * 512) e1 k d (by omega)).trans (H.hK _ d)
  have e : (⟨j * 512 + k.val, by omega⟩ : Fin 8192) = ⟨512 * j + k.val, by omega⟩ := Fin.ext (by simp; omega)
  have eW : farBias i RB = ((rb 31 h * (Real.log 2)⁻¹ : ℝ) : EReal) := by
    unfold farBias
    rw [pay95_at, ldR RB _ _ h (by rw [off1_eq, H.hh]), H.hRB, EReal.coe_mul]
  rw [pay3_at, pay3_at]
  simp only [qzA_at, qzB_at]
  exact ⟨far_sc hR rb 0 h _ j hj hi k c (fun d => d.val < 64) (fun d => by show _ ↔ d.val / 64 = 0; omega) _ (fun d => Q (ix2 c d)) (fun d => (eK d).trans (by rw [e])) (fun d => H.hQ c d) _ eW,
    far_sc hR rb 1 h _ j hj hi k c (fun d => 64 ≤ d.val) (fun d => by show _ ↔ d.val / 64 = 1; omega) _ (fun d => Q (ix2 c d)) (fun d => (eK d).trans (by rw [e])) (fun d => H.hQ c d) _ eW⟩

/-- The state before the key loop. -/
theorem Loads.init (c : Fin 512) : Inv (rr hR rb 0 h (512 * (i 2).val + c.val)) (rr hR rb 1 h (512 * (i 2).val + c.val)) (vrow hR h) (512 * (i 2).val + c.val) 0 c (initSt i Q K B) := by
  have hs (k : Fin 512) := H.near c 0 (Nat.zero_le _) ![0, 0] inb_S8192x128_S512x128_0_0 (by simp) (k2_off2 i) (k2_off2_inb i) (off2_eq i) k
  obtain ⟨μ, hm⟩ := cm_col (j := 0) (c := c) _ _ (fun k => (hs k).1) (by omega)
  have z (r : ℕ → ℝ) (q : ℕ) (v : ℕ → ℝ) : num r q v (512 * 0) = 0 := by simp [num]
  have eM := pay93_at ((Rect.unit (s := S2x1x512) ![0, 0, 0] S1x1x512.size inb_S2x1x512_S1x1x512_0_0_0).emb (ix3 0 0 c))
  refine ⟨⟨⊥, μ, fun R => .inl ⟨rfl, pay94_at ((Rect.unit (s := S2x144x512) ![0, 0, 0] S1x144x512.size inb_S2x144x512_S1x144x512_0_0_0).emb (ix3 0 R c)), z _ _ _⟩, first_m _ _ c μ eM hm, first_al _ _ c μ eM hm, fun k => first_p _ _ _ _ k c μ eM hm (scored _ _ k c (hs k).1)⟩,
    fun R => .inl ⟨pay93_at ((Rect.unit (s := S2x1x512) ![1, 0, 0] S1x1x512.size inb_S2x1x512_S1x1x512_1_0_0).emb (ix3 0 0 c)), pay94_at ((Rect.unit (s := S2x144x512) ![1, 0, 0] S1x144x512.size inb_S2x144x512_S1x144x512_1_0_0).emb (ix3 0 R c)), z _ _ _⟩, cm_col (j := 0) (c := c) _ _ (fun k => (hs k).2) (by omega), fun k => scored _ _ k c (hs k).2⟩

/-- The state at a far tile, -/
theorem Loads.farInv (c : Fin 512) (n : ℕ) (hn : n ≤ (k2_t1_loop i).trips) :
    Inv (rr hR rb 0 h (512 * (i 2).val + c.val)) (rr hR rb 1 h (512 * (i 2).val + c.val)) (vrow hR h) (512 * (i 2).val + c.val) n c (farSt i Q K VT B RB n) := by
  induction n with
  | zero => exact H.init c
  | succ n ih =>
    have ih := ih (by omega)
    have hi := H.hi
    have ht := far_trips i
    have e : farSt i Q K VT B RB (n + 1) = farStep i K VT (qzA Q) (qzB Q) (farBias i RB) (farSt i Q K VT B RB n) ⟨n, hn⟩ := after_succ _ _ (⟨n, hn⟩ : Fin (k2_t1_loop i).trips)
    rw [e]
    have hs (k : Fin 512) := H.far c (n + 1) (by omega) _ (k2_off4_inb i ⟨n, hn⟩) (off4_eq i ⟨n, hn⟩) k
    exact ih.core _ (fun R k => (ldV VT _ _ ⟨n, by omega⟩ (off3_eq i ⟨n, hn⟩) R k).trans (H.hV _ R k)) _ _ _ (fun k => (hs k).1) (fun k => (hs k).2) (by omega)

/-- and at a near one. -/
theorem Loads.nearInv (c : Fin 512) (n : ℕ) (hn : n ≤ (k2_t3_loop i).trips) :
    Inv (rr hR rb 0 h (512 * (i 2).val + c.val)) (rr hR rb 1 h (512 * (i 2).val + c.val)) (vrow hR h) (512 * (i 2).val + c.val) ((i 2).val - 2 + n) c (nearSt i Q K VT B RB n) := by
  induction n with
  | zero =>
    have e0 : nearSt i Q K VT B RB 0 = farSt i Q K VT B RB (k2_t1_loop i).trips := after_zero (nearStep i K VT B (qzA Q) (qzB Q)) _
    rw [e0, Nat.add_zero]
    have t : ∀ n, n = (k2_t1_loop i).trips → Inv (rr hR rb 0 h (512 * (i 2).val + c.val)) (rr hR rb 1 h (512 * (i 2).val + c.val)) (vrow hR h) (512 * (i 2).val + c.val) n c (farSt i Q K VT B RB (k2_t1_loop i).trips) := by
      rintro n rfl
      exact H.farInv c _ le_rfl
    exact t _ (far_trips i).symm
  | succ n ih =>
    have ih := ih (by omega)
    have hi := H.hi
    have ht := near_trips i
    have e : nearSt i Q K VT B RB (n + 1) = nearStep i K VT B (qzA Q) (qzB Q) (nearSt i Q K VT B RB n) ⟨n, hn⟩ := after_succ _ _ (⟨n, hn⟩ : Fin (k2_t3_loop i).trips)
    rw [e]
    have hs (k : Fin 512) := H.near c ((i 2).val - 2 + n + 1) (by omega) _ (k2_off8_inb i ⟨n, hn⟩) (off8_eq i ⟨n, hn⟩) _ (k2_off9_inb i ⟨n, hn⟩) (off9_eq i ⟨n, hn⟩) k
    exact ih.core _ (fun R k => (ldV VT _ _ ⟨(i 2).val - 2 + n, by omega⟩ (off7_eq i ⟨n, hn⟩) R k).trans (H.hV _ R k)) _ _ _ (fun k => (hs k).1) (fun k => (hs k).2) (by omega)

omit H in
theorem vrow_lt (d : Fin 128) : vrow hR h ⟨d.val, by omega⟩ = vv hR h d := by
  unfold vrow
  rw [dif_pos d.isLt]
omit H in
theorem vrow_one : vrow hR h 128 = fun _ => 1 := rfl

/-- An entry of a block of outputs. -/
theorem Loads.out (LM : Vec Ideal S4x64 .f32) (GS : Vec Ideal S128x1 .f32) (L : ℝ) (hL : lamK LM = (L : EReal)) (c : Fin 512) (d : Fin 128) :
    attnOut i Q K VT B RB LM GS (ix2 c d) = Layer.fin128 (fun d => att hR rb L h (512 * (i 2).val + c.val) d) (GS (ix2 d 0)) d := by
  have hi := H.hi
  have inv := H.nearInv c _ le_rfl
  rw [show (i 2).val - 2 + (k2_t3_loop i).trips = (i 2).val by rw [near_trips]; omega] at inv
  have hv (R : Fin 144) (k : Fin 512) := (ldV VT _ (k2_off13_inb i) ⟨(i 2).val, hi⟩ (off13_eq i) R k).trans (H.hV _ R k)
  obtain ⟨μ, -, s0⟩ := inv.sum0 _ hv
  obtain ⟨ν, -, s1⟩ := inv.sum1 _ hv
  unfold attnOut outOf
  rw [pay1_at, ld_full2 (a := 4) (b := 64) LM, ld_full2 (a := 128) (b := 1) GS, hL]
  simp only [s0, s1]
  have st (r : ℕ → ℝ) (v : ℕ → ℝ) : num r (512 * (i 2).val + c.val) v (512 * ((i 2).val + 1)) = num r (512 * (i 2).val + c.val) v 8192 := (num_stop _ _ _ (by omega) (by omega)).symm
  simp only [st, vrow_one, vrow_lt]
  simp only [div_scaled _ _ _ (num_one_pos _ _ (show 0 < 8192 by norm_num)).ne']
  rfl

end

end Cert.Proof.KernelIdeal.Attn
-- ==== Proof.AttnArr.lean ====
module

public import proofs.«01_k».proof.Proof.ValAttn
public import proofs.«01_k».proof.Proof.Run

@[expose] public section

set_option maxRecDepth 16384
set_option maxHeartbeats 4000000

noncomputable section

namespace Cert.Proof.KernelIdeal.Attn

open Cert.KernelIdeal Cert.KernelIdeal.Gen
open Idealize.ShloMosaic Idealize.ShloMosaic.TcCoe Idealize.ShloMosaic.Tactic
open Cert.Proof.Flash Cert.Proof.Bucket Cert.Proof.Layer

variable (V : Val Ideal) (c : Dev nD)

theorem idx2 : ∀ t : Fin cfg2.N, win2_0.index t = ![t.val / 64 * 16 + t.val % 16, t.val / 16 % 4] ∧ win2_1.index t = ![t.val / 64, 4 + t.val / 16 % 4]
    ∧ win2_2.index t = ![t.val / 64, t.val / 16 % 4, 0] ∧ win2_3.index t = ![t.val / 16 % 4, 0, 0, 0] ∧ win2_4.index t = ![0, 0] ∧ win2_5.index t = ![0, 0] ∧ win2_6.index t = ![0, 0]
    ∧ win2_7.index t = ![t.val / 64 * 16 + t.val % 16, t.val / 16 % 4] ∧ (grid2.coords t 0).val = t.val / 64 ∧ (grid2.coords t 1).val = t.val / 16 % 4 ∧ (grid2.coords t 2).val = t.val % 16 := by decide +kernel

section
variable (t : Fin cfg2.N) (ht : t.val < 128)

theorem emb2_0 (r : Fin 512) (d : Fin 128) : (win2_0.blk t).view.emb (ix2 r d : S512x128.Idx) = (ix2 ⟨8192 * (t.val / 64) + (512 * (t.val % 16) + r.val), by omega⟩ ⟨t.val / 16 % 4 * 128 + d.val, by omega⟩ : S16384x1024.Idx) := by
  have hi : win2_0.index t = _ := (idx2 t).1
  funext a
  apply Fin.ext
  match a with
  | ⟨0, _⟩ => blk_simp [hi] <;> (try dsimp only) <;> (try omega) <;> rfl
  | ⟨1, _⟩ => blk_simp [hi] <;> (try dsimp only) <;> (try omega) <;> rfl

theorem emb2_1 (k : Fin 8192) (d : Fin 128) : (win2_1.blk t).view.emb (ix2 k d : S8192x128.Idx) = (ix2 ⟨8192 * (t.val / 64) + k.val, by omega⟩ ⟨512 + (t.val / 16 % 4 * 128 + d.val), by omega⟩ : S16384x1024.Idx) := by
  have hi : win2_1.index t = _ := (idx2 t).2.1
  funext a
  apply Fin.ext
  match a with
  | ⟨0, _⟩ => blk_simp [hi] <;> (try dsimp only) <;> (try omega) <;> rfl
  | ⟨1, _⟩ => blk_simp [hi] <;> (try dsimp only) <;> (try omega) <;> rfl

theorem emb2_2 (j : Fin 16) (R : Fin 144) (k : Fin 512) : (win2_2.blk t).view.emb (ix3 j R k : S16x144x512.Idx) = (ix3 ⟨16 * (t.val / 64) + j.val, by omega⟩ ⟨144 * (t.val / 16 % 4) + R.val, by omega⟩ k : S32x576x512.Idx) := by
  have hi : win2_2.index t = _ := (idx2 t).2.2.1
  funext a
  apply Fin.ext
  match a with
  | ⟨0, _⟩ => blk_simp [hi] <;> (try dsimp only) <;> (try omega) <;> rfl
  | ⟨1, _⟩ => blk_simp [hi] <;> (try dsimp only) <;> (try omega) <;> rfl
  | ⟨2, _⟩ => blk_simp [hi] <;> (try dsimp only) <;> (try omega) <;> rfl

theorem emb2_3 (o : Fin 3) (k q : Fin 512) : (win2_3.blk t).view.emb (ix4 0 o k q : S1x3x512x512.Idx) = (ix4 ⟨t.val / 16 % 4, by omega⟩ o k q : S4x3x512x512.Idx) := by
  have hi : win2_3.index t = _ := (idx2 t).2.2.2.1
  funext a
  apply Fin.ext
  match a with
  | ⟨0, _⟩ => blk_simp [hi] <;> (try dsimp only) <;> (try omega) <;> rfl
  | ⟨1, _⟩ => blk_simp [hi] <;> (try dsimp only) <;> (try omega) <;> rfl
  | ⟨2, _⟩ => blk_simp [hi] <;> (try dsimp only) <;> (try omega) <;> rfl
  | ⟨3, _⟩ => blk_simp [hi] <;> (try dsimp only) <;> (try omega) <;> rfl

theorem emb2_4 (n : Fin 32) (h : Fin 4) : (win2_4.blk t).view.emb (ix2 n h : S32x4.Idx) = (ix2 n h : S32x4.Idx) := by
  have hi : win2_4.index t = _ := (idx2 t).2.2.2.2.1
  funext a
  apply Fin.ext
  match a with
  | ⟨0, _⟩ => blk_simp [hi] <;> (try dsimp only) <;> (try omega) <;> rfl
  | ⟨1, _⟩ => blk_simp [hi] <;> (try dsimp only) <;> (try omega) <;> rfl

theorem emb2_5 (n : Fin 4) (h : Fin 64) : (win2_5.blk t).view.emb (ix2 n h : S4x64.Idx) = (ix2 n h : S4x64.Idx) := by
  have hi : win2_5.index t = _ := (idx2 t).2.2.2.2.2.1
  funext a
  apply Fin.ext
  match a with
  | ⟨0, _⟩ => blk_simp [hi] <;> (try dsimp only) <;> (try omega) <;> rfl
  | ⟨1, _⟩ => blk_simp [hi] <;> (try dsimp only) <;> (try omega) <;> rfl

theorem emb2_6 (n : Fin 128) (h : Fin 1) : (win2_6.blk t).view.emb (ix2 n h : S128x1.Idx) = (ix2 n h : S128x1.Idx) := by
  have hi : win2_6.index t = _ := (idx2 t).2.2.2.2.2.2.1
  funext a
  apply Fin.ext
  match a with
  | ⟨0, _⟩ => blk_simp [hi] <;> (try dsimp only) <;> (try omega) <;> rfl
  | ⟨1, _⟩ => blk_simp [hi] <;> (try dsimp only) <;> (try omega) <;> rfl

theorem emb2_7 (r : Fin 512) (d : Fin 128) : (win2_7.blk t).view.emb (ix2 r d : S512x128.Idx) = (ix2 ⟨8192 * (t.val / 64) + (512 * (t.val % 16) + r.val), by omega⟩ ⟨t.val / 16 % 4 * 128 + d.val, by omega⟩ : S16384x512.Idx) := by
  have hi : win2_7.index t = _ := (idx2 t).2.2.2.2.2.2.2.1
  funext a
  apply Fin.ext
  match a with
  | ⟨0, _⟩ => blk_simp [hi] <;> (try dsimp only) <;> (try omega) <;> rfl
  | ⟨1, _⟩ => blk_simp [hi] <;> (try dsimp only) <;> (try omega) <;> rfl

end

/-- What the buffers the attention reads hold, in terms of real projected rows and biases. -/
structure Given (hR : Fin 2 → Fin 8192 → Fin 4608 → ℝ) (rb : Fin 32 → Fin 4 → ℝ) (L : ℝ) : Prop where
  hQ : ∀ (b : Fin 2) (s : Fin 8192) (k : Fin 512), (V c main_v11_0 : Vec Ideal S16384x1024 .bf16) (ix2 ⟨8192 * b.val + s.val, by omega⟩ ⟨k.val, by omega⟩) = ((hR b s ⟨k.val, by omega⟩ * (8 * Real.log 2)⁻¹ : ℝ) : EReal)
  hK : ∀ (b : Fin 2) (s : Fin 8192) (k : Fin 512), (V c main_v11_0 : Vec Ideal S16384x1024 .bf16) (ix2 ⟨8192 * b.val + s.val, by omega⟩ ⟨512 + k.val, by omega⟩) = (hR b s ⟨512 + k.val, by omega⟩ : EReal)
  hV : ∀ (b : Fin 2) (h : Fin 4) (j : Fin 16) (R : Fin 144) (k : Fin 512), (V c main_v11_1 : Vec Ideal S32x576x512 .bf16) (ix3 ⟨16 * b.val + j.val, by omega⟩ ⟨144 * h.val + R.val, by omega⟩ k) = (vrow (hR b) h R (512 * j.val + k.val) : EReal)
  hB : ∀ (h : Fin 4) (o : Fin 3) (k q : Fin 512), (V c main_v0 : Vec Ideal S4x3x512x512 .f32) (ix4 h o k q) = tb rb h o.val k.val q.val
  hRB : ∀ n m, (V c main_arg1 : Vec Ideal S32x4 .f32) (ix2 n m) = (rb n m : EReal)
  hL : lamK (V c main_v6 : Vec Ideal S4x64 .f32) = (L : EReal)

variable {V c} {hR : Fin 2 → Fin 8192 → Fin 4608 → ℝ} {rb : Fin 32 → Fin 4 → ℝ} {L : ℝ} (H : Given V c hR rb L)
include H

theorem Given.loads (t : Fin cfg2.N) (ht : t.val < 128) : Loads (hR ⟨t.val / 64, by omega⟩) rb ⟨t.val / 16 % 4, by omega⟩ (grid2.coords t) (in2_0 V c t) (in2_1 V c t) (in2_2 V c t) (in2_3 V c t) (in2_4 V c t) := by
  obtain ⟨-, -, -, -, -, -, -, -, e0, e1, e2⟩ := idx2 t
  have hi : (grid2.coords t 2).val < 16 := by rw [e2]; omega
  refine ⟨e1.symm, hi, fun r d => ?_, fun k d => ?_, fun j R k => ?_, fun o k q => ?_, fun n m => ?_⟩
  · refine (congrArg (V c main_v11_0 : Vec Ideal S16384x1024 .bf16) (emb2_0 t ht r d)).trans ((H.hQ ⟨t.val / 64, by omega⟩ ⟨512 * (t.val % 16) + r.val, by omega⟩ ⟨t.val / 16 % 4 * 128 + d.val, by omega⟩).trans ?_)
    simp only [e2]
  · exact (congrArg (V c main_v11_0 : Vec Ideal S16384x1024 .bf16) (emb2_1 t ht k d)).trans (H.hK ⟨t.val / 64, by omega⟩ k ⟨t.val / 16 % 4 * 128 + d.val, by omega⟩)
  · exact (congrArg (V c main_v11_1 : Vec Ideal S32x576x512 .bf16) (emb2_2 t ht j R k)).trans (H.hV ⟨t.val / 64, by omega⟩ ⟨t.val / 16 % 4, by omega⟩ j R k)
  · exact (congrArg (V c main_v0 : Vec Ideal S4x3x512x512 .f32) (emb2_3 t o k q)).trans (H.hB _ o k q)
  · exact (congrArg (V c main_arg1 : Vec Ideal S32x4 .f32) (emb2_4 t n m)).trans (H.hRB n m)

/-- The attention's result. -/
theorem Given.arr : ((dat2 V c).arrAt 7 cfg2.N : Vec Ideal S16384x512 .bf16) = fun y : S16384x512.Idx =>
    Layer.fin128 (fun d => att (hR ⟨(y 0).val / 8192, by have := (y 0).isLt; change (y 0).val < 16384 at this; omega⟩) rb L ⟨(y 1).val / 128, by have := (y 1).isLt; change (y 1).val < 512 at this; omega⟩ ((y 0).val % 8192) d)
      ((V c main_v12 : Vec Ideal S128x1 .f32) (ix2 ⟨(y 1).val % 128, by omega⟩ 0)) ⟨(y 1).val % 128, by omega⟩ := by
  refine (dat2 V c).arrAt_eq_of_covers 7 _ (by decide +kernel) fun t hf y => ?_
  have hN : t.val < 128 := t.isLt
  change attnOut (grid2.coords t) (in2_0 V c t) (in2_1 V c t) (in2_2 V c t) (in2_3 V c t) (in2_4 V c t) (in2_5 V c t) (in2_6 V c t) (y : S512x128.Idx) = _
  change S512x128.Idx at y
  idx_vars y
  refine Eq.trans ?_ (congrArg (fun y : S16384x512.Idx =>
    Layer.fin128 (fun d => att (hR ⟨(y 0).val / 8192, by have := (y 0).isLt; change (y 0).val < 16384 at this; omega⟩) rb L ⟨(y 1).val / 128, by have := (y 1).isLt; change (y 1).val < 512 at this; omega⟩ ((y 0).val % 8192) d)
      ((V c main_v12 : Vec Ideal S128x1 .f32) (ix2 ⟨(y 1).val % 128, by omega⟩ 0)) ⟨(y 1).val % 128, by omega⟩) (emb2_7 t hN y0 y1)).symm
  have e5 : (in2_5 V c t : Vec Ideal S4x64 .f32) = (V c main_v6 : Vec Ideal S4x64 .f32) := by
    funext y
    change S4x64.Idx at y
    idx_vars y
    exact congrArg (V c main_v6 : Vec Ideal S4x64 .f32) (emb2_5 t _ _)
  have e6 : (in2_6 V c t : Vec Ideal S128x1 .f32) = (V c main_v12 : Vec Ideal S128x1 .f32) := by
    funext y
    change S128x1.Idx at y
    idx_vars y
    exact congrArg (V c main_v12 : Vec Ideal S128x1 .f32) (emb2_6 t _ _)
  rw [(H.loads t hN).out _ _ L (by rw [e5]; exact H.hL), e6]
  obtain ⟨-, -, -, -, -, -, -, -, -, -, e2⟩ := idx2 t
  have a1 : (⟨(8192 * (t.val / 64) + (512 * (t.val % 16) + y0.val)) / 8192, by omega⟩ : Fin 2) = ⟨t.val / 64, by omega⟩ := Fin.ext (by simp only []; omega)
  have a2 : (8192 * (t.val / 64) + (512 * (t.val % 16) + y0.val)) % 8192 = 512 * (t.val % 16) + y0.val := by omega
  have a3 : (⟨(t.val / 16 % 4 * 128 + y1.val) / 128, by omega⟩ : Fin 4) = ⟨t.val / 16 % 4, by omega⟩ := Fin.ext (by simp only []; omega)
  have a4 : (⟨(t.val / 16 % 4 * 128 + y1.val) % 128, by omega⟩ : Fin 128) = y1 := Fin.ext (by simp only []; omega)
  show _ = Layer.fin128 (fun d => att (hR ⟨(8192 * (t.val / 64) + (512 * (t.val % 16) + y0.val)) / 8192, _⟩) rb L ⟨(t.val / 16 % 4 * 128 + y1.val) / 128, _⟩ ((8192 * (t.val / 64) + (512 * (t.val % 16) + y0.val)) % 8192) d)
    ((V c main_v12 : Vec Ideal S128x1 .f32) (ix2 ⟨(t.val / 16 % 4 * 128 + y1.val) % 128, _⟩ 0)) ⟨(t.val / 16 % 4 * 128 + y1.val) % 128, _⟩
  rw [a1, a2, a3, a4, e2]

end Cert.Proof.KernelIdeal.Attn
-- ==== Proof.KernelVals.lean ====
module

public import proofs.«01_k».proof.Proof.HostVals
public import proofs.«01_k».proof.Proof.ProjArr
public import proofs.«01_k».proof.Proof.ProjArr5
public import proofs.«01_k».proof.Proof.BiasArr
public import proofs.«01_k».proof.Proof.AttnArr

@[expose] public section

/-! The seven results of the kernel at an index, in terms of its arguments. -/

set_option maxRecDepth 16384
set_option maxHeartbeats 1000000

noncomputable section

namespace Cert.Proof.KernelIdeal.Attn

open Cert.KernelIdeal Cert.KernelIdeal.Gen
open Idealize.ShloMosaic Idealize.ShloMosaic.TcCoe Idealize.ShloMosaic.Tactic
open Cert.Proof.Flash Cert.Proof.Bucket Cert.Proof.Layer

variable (m : (ℓ : Loc nD τ sig) → Buf (Elt Ideal) ℓ) (c : Dev nD)

/-! The arguments, at their plain types. -/

def K0 : FVec Ideal S2x8192x1024 .f32 := V0 m c main_arg0
def K1 : FVec Ideal S32x4 .f32 := V0 m c main_arg1
def K2 : FVec Ideal S1024 .f32 := V0 m c main_arg2
def K3 : FVec Ideal S1024x4608 .f32 := V0 m c main_arg3
def K4 : FVec Ideal S64 .f32 := V0 m c main_arg4
def K5 : FVec Ideal S64 .f32 := V0 m c main_arg5
def K6 : FVec Ideal S64 .f32 := V0 m c main_arg6
def K7 : FVec Ideal S64 .f32 := V0 m c main_arg7
def K8 : FVec Ideal S128 .f32 := V0 m c main_arg8
def K9 : FVec Ideal S512 .f32 := V0 m c main_arg9

/-- The projection's entry at position `s` of sequence `b`, column `k`. -/
def hk (b : Fin 2) (s : Fin 8192) (k : Fin 4608) : EReal :=
  prow (fun i => K0 m c (ix3 b s i)) (fun i => K2 m c (ix1 i)) (fun j k => K3 m c (ix2 j k)) k

theorem v1_at (R : Fin 16384) (i : Fin 1024) : (W2 m c main_v1 : Vec Ideal S16384x1024 .f32) (ix2 R i) = K0 m c (ix3 ⟨R.val / 8192, by omega⟩ ⟨R.val % 8192, by omega⟩ i) :=
  (congrFun (W2_v1 m c) _).trans ((rows_at _ R i).trans (congrFun (W1_of m c main_arg0 (by decide)) _))

theorem v9_at (i : Fin 1024) : (W2 m c main_v9 : Vec Ideal S1x1024 .f32) (ix2 0 i) = K2 m c (ix1 i) :=
  (congrFun (W2_v9 m c) _).trans ((row1024_at _ i).trans (congrFun (W1_of m c main_arg2 (by decide)) _))

theorem v10_at (i : Fin 512) : (W2 m c main_v10 : Vec Ideal S1x512 .f32) (ix2 0 i) = K9 m c (ix1 i) :=
  (congrFun (W2_v10 m c) _).trans ((row512_at _ i).trans (congrFun (W1_of m c main_arg9 (by decide)) _))

theorem v7_at (j : Fin 1024) (k : Fin 4608) : (W2 m c main_v7 : Vec Ideal S1024x4608 .bf16) (ix2 j k) = K3 m c (ix2 j k) :=
  (congrFun (W2_v7 m c) _).trans (congrFun (W1_of m c main_arg3 (by decide)) _)

theorem v12_at (i : Fin 128) : (W4 m c main_v12 : Vec Ideal S128x1 .f32) (ix2 i 0) = K8 m c (ix1 i) := by
  have e : (W3 m c main_v8 : Vec Ideal S1x128 .f32) = shapeCast S1x128 (K8 m c) shapeCasts_S128_S1x128 :=
    (W3_of m c main_v8 (by decide)).trans ((W2_v8 m c).trans (congrArg (fun A : FVec Ideal S128 .f32 => (shapeCast S1x128 A shapeCasts_S128_S1x128 : FVec Ideal S1x128 .f32)) (W1_of m c main_arg8 (by decide))))
  refine (congrFun (W4_v12 m c) _).trans ?_
  refine (congrArg (fun A : FVec Ideal S1x128 .f32 => (shapeCast S128x1 A shapeCasts_S1x128_S128x1 : FVec Ideal S128x1 .f32) (ix2 i 0)) e).trans ?_
  exact col128_at _ i

theorem v6_at : lamK (W4 m c main_v6 : Vec Ideal S4x64 .f32)
    = Ideal.exp (∑ x, K4 m c (ix1 x) * K5 m c (ix1 x)) - Ideal.exp (∑ x, K6 m c (ix1 x) * K7 m c (ix1 x)) + Ideal.ofBits .f32 0x3E4CCCCD#32 := by
  have e : (W4 m c main_v6 : Vec Ideal S4x64 .f32) = _ :=
    (W4_of m c main_v6 (by decide)).trans ((W3_of m c main_v6 (by decide)).trans (W2_v6 m c))
  rw [e]
  have f := four_at (W1 m c main_arg4) (W1 m c main_arg5) (W1 m c main_arg6) (W1 m c main_arg7)
  unfold lamK
  simp only [(f _).1, (f _).2.1, (f _).2.2.1, (f _).2.2.2]
  rw [W1_of m c main_arg4 (by decide), W1_of m c main_arg5 (by decide), W1_of m c main_arg6 (by decide), W1_of m c main_arg7 (by decide)]
  rfl

theorem pr_eq (R : Fin 16384) (k : Fin 4608) : pr (asVal (W2 m)) c R k = hk m c ⟨R.val / 8192, by omega⟩ ⟨R.val % 8192, by omega⟩ k := by
  unfold pr hk
  congr 1
  · funext i; exact v1_at m c R i
  · funext i; exact v9_at m c i

theorem pr_at (b : Fin 2) (s : Fin 8192) (R : Fin 16384) (h : R.val = 8192 * b.val + s.val) (k : Fin 4608) : pr (asVal (W2 m)) c R k = hk m c b s k := by
  rw [pr_eq]
  congr 1 <;> apply Fin.ext <;> dsimp only <;> omega

/-- What the attention call is given. -/
theorem given (hR : Fin 2 → Fin 8192 → Fin 4608 → ℝ) (rb : Fin 32 → Fin 4 → ℝ) (L : ℝ) (hh : ∀ b s k, hk m c b s k = (hR b s k : EReal))
    (hb : ∀ n h, K1 m c (ix2 n h) = (rb n h : EReal))
    (hL : Ideal.exp (∑ x, K4 m c (ix1 x) * K5 m c (ix1 x)) - Ideal.exp (∑ x, K6 m c (ix1 x) * K7 m c (ix1 x)) + Ideal.ofBits .f32 0x3E4CCCCD#32 = (L : EReal)) :
    Given (asVal (W4 m)) c hR rb L where
  hQ b s k := by
    refine (congrFun ((W4_of m c main_v11_0 (by decide)).trans ((W3_v11_0 m c).trans (arr4 (asVal (W2 m)) c))) _).trans ?_
    refine (if_pos k.isLt).trans ?_
    rw [EReal.coe_mul, ← hh b s]
    exact congrArg (· * _) (pr_at m c b s _ rfl _)
  hK b s k := by
    refine (congrFun ((W4_of m c main_v11_0 (by decide)).trans ((W3_v11_0 m c).trans (arr4 (asVal (W2 m)) c))) _).trans ?_
    refine (if_neg (show ¬ 512 + k.val < 512 by omega)).trans ?_
    exact (pr_at m c b s _ rfl _).trans (hh b s _)
  hV b h j R k := by
    refine (congrFun ((W4_of m c main_v11_1 (by decide)).trans ((W3_v11_1 m c).trans (arr5 (asVal (W2 m)) c))) _).trans ?_
    have e1 : (144 * h.val + R.val) % 144 = R.val := by omega
    have e2 : (144 * h.val + R.val) / 144 = h.val := by omega
    change vtv (asVal (W2 m)) c ⟨16 * b.val + j.val, _⟩ ⟨144 * h.val + R.val, _⟩ k = _
    unfold vtv vrow
    by_cases hr : R.val < 128
    · rw [dif_pos (show (144 * h.val + R.val) % 144 < 128 by omega), dif_pos hr]
      rw [vv, dif_pos (show 512 * j.val + k.val < 8192 by omega), ← hh b]
      refine (pr_at m c b ⟨512 * j.val + k.val, by omega⟩ _ (by dsimp only; omega) _).trans ?_
      congr 1
      apply Fin.ext
      dsimp only
      omega
    · rw [dif_neg (show ¬ (144 * h.val + R.val) % 144 < 128 by omega), dif_neg hr]
      by_cases hr2 : R.val = 128
      · rw [if_pos (show (144 * h.val + R.val) % 144 = 128 by omega), if_pos hr2]; rfl
      · rw [if_neg (show ¬ (144 * h.val + R.val) % 144 = 128 by omega), if_neg hr2]; rfl
  hB h o k q := by
    refine (congrFun ((W4_of m c main_v0 (by decide)).trans ((W3_of m c main_v0 (by decide)).trans ((W2_of m c main_v0 (by decide)).trans ((W1_v0 m c).trans (arr0 (asVal (V0 m)) c))))) _).trans ?_
    exact tb_eq rb h o.val (by omega) k q _ (hb _ _)
  hRB n k := (congrFun ((W4_of m c main_arg1 (by decide)).trans ((W3_of m c main_arg1 (by decide)).trans ((W2_of m c main_arg1 (by decide)).trans (W1_of m c main_arg1 (by decide))))) _).trans (hb n k)
  hL := (v6_at m c).trans hL

/-! The results. -/

theorem r13_at (hR : Fin 2 → Fin 8192 → Fin 4608 → ℝ) (rb : Fin 32 → Fin 4 → ℝ) (L : ℝ) (H : Given (asVal (W4 m)) c hR rb L) (r : Fin 16384) (j : Fin 512) :
    (W5 m c main_v13 : Vec Ideal S16384x512 .bf16) (ix2 r j)
      = Layer.fin128 (fun d => att (hR ⟨r.val / 8192, by omega⟩) rb L ⟨j.val / 128, by omega⟩ (r.val % 8192) d) (K8 m c (ix1 ⟨j.val % 128, by omega⟩)) ⟨j.val % 128, by omega⟩ := by
  refine (congrFun ((W5_v13 m c).trans H.arr) _).trans ?_
  exact congrArg (fun g => Layer.fin128 (fun d => att (hR ⟨r.val / 8192, by omega⟩) rb L ⟨j.val / 128, by omega⟩ (r.val % 8192) d) g ⟨j.val % 128, by omega⟩) (v12_at m c ⟨j.val % 128, by omega⟩)

theorem r11_2_at (r : Fin 65536) (d : Fin 128) : (W5 m c main_v11_2 : Vec Ideal S1x65536x128 .f32) (ix3 0 r d)
    = hk m c ⟨r.val / 32768, by omega⟩ ⟨r.val / 4 % 8192, by omega⟩ ⟨512 + (128 * (r.val % 4) + d.val), by omega⟩ :=
  (congrFun ((W5_of m c main_v11_2 (by decide)).trans ((W4_of m c main_v11_2 (by decide)).trans ((W3_v11_2 m c).trans (arr6 (asVal (W2 m)) c)))) _).trans
    (pr_at m c _ _ _ (show r.val / 4 = 8192 * (r.val / 32768) + r.val / 4 % 8192 by omega) _)

theorem r11_3_at (r : Fin 65536) (d : Fin 128) : (W5 m c main_v11_3 : Vec Ideal S1x65536x128 .f32) (ix3 0 r d)
    = hk m c ⟨r.val / 32768, by omega⟩ ⟨r.val / 4 % 8192, by omega⟩ ⟨1024 + (128 * (r.val % 4) + d.val), by omega⟩ :=
  (congrFun ((W5_of m c main_v11_3 (by decide)).trans ((W4_of m c main_v11_3 (by decide)).trans ((W3_v11_3 m c).trans (arr7 (asVal (W2 m)) c)))) _).trans
    (pr_at m c _ _ _ (show r.val / 4 = 8192 * (r.val / 32768) + r.val / 4 % 8192 by omega) _)

theorem r11_4_at (r : Fin 16384) (j : Fin 512) : (W5 m c main_v11_4 : Vec Ideal S16384x512 .f32) (ix2 r j)
    = hk m c ⟨r.val / 8192, by omega⟩ ⟨r.val % 8192, by omega⟩ ⟨1536 + j.val, by omega⟩ :=
  (congrFun ((W5_of m c main_v11_4 (by decide)).trans ((W4_of m c main_v11_4 (by decide)).trans ((W3_v11_4 m c).trans (arr8 (asVal (W2 m)) c)))) _).trans
    (pr_eq m c _ _)

theorem r11_5_at (r : Fin 16384) (j : Fin 512) : (W5 m c main_v11_5 : Vec Ideal S16384x512 .f32) (ix2 r j)
    = nrm (Ideal.ofBits .f32 0x44000000#32) (fun k : Fin 512 => hk m c ⟨r.val / 8192, by omega⟩ ⟨r.val % 8192, by omega⟩ ⟨2048 + k.val, by omega⟩) (fun k => K9 m c (ix1 k)) j := by
  refine (congrFun ((W5_of m c main_v11_5 (by decide)).trans ((W4_of m c main_v11_5 (by decide)).trans ((W3_v11_5 m c).trans (arr9 (asVal (W2 m)) c)))) _).trans ?_
  have h1 : (fun k : Fin 512 => pr (asVal (W2 m)) c r ⟨2048 + k.val, by omega⟩) = fun k : Fin 512 => hk m c ⟨r.val / 8192, by omega⟩ ⟨r.val % 8192, by omega⟩ ⟨2048 + k.val, by omega⟩ :=
    funext fun k => pr_eq m c _ _
  have h2 : (fun k : Fin 512 => (W2 m c main_v10 : Vec Ideal S1x512 .f32) (ix2 0 k)) = fun k => K9 m c (ix1 k) := funext fun k => v10_at m c k
  exact congrArg₂ (fun x g => nrm (Ideal.ofBits .f32 0x44000000#32) x g j) h1 h2

theorem r11_6_at (r : Fin 16384) (j : Fin 1024) : (W5 m c main_v11_6 : Vec Ideal S16384x1024 .f32) (ix2 r j)
    = hk m c ⟨r.val / 8192, by omega⟩ ⟨r.val % 8192, by omega⟩ ⟨2560 + j.val, by omega⟩ :=
  (congrFun ((W5_of m c main_v11_6 (by decide)).trans ((W4_of m c main_v11_6 (by decide)).trans ((W3_v11_6 m c).trans (arr10 (asVal (W2 m)) c)))) _).trans
    (pr_eq m c _ _)

theorem r11_7_at (r : Fin 16384) (j : Fin 1024) : (W5 m c main_v11_7 : Vec Ideal S16384x1024 .f32) (ix2 r j)
    = hk m c ⟨r.val / 8192, by omega⟩ ⟨r.val % 8192, by omega⟩ ⟨3584 + j.val, by omega⟩ :=
  (congrFun ((W5_of m c main_v11_7 (by decide)).trans ((W4_of m c main_v11_7 (by decide)).trans ((W3_v11_7 m c).trans (arr11 (asVal (W2 m)) c)))) _).trans
    (pr_eq m c _ _)

end Cert.Proof.KernelIdeal.Attn

end
-- ==== Proof.RefScore.lean ====
module

public import proofs.«01_k».proof.Proof.ValProj
public import proofs.«01_k».proof.Proof.Bucket
public import proofs.«01_k».proof.Proof.Gen.ReferenceIdeal.Run
public import Idealize.ShloMosaic.Lib.Pointwise
public import Idealize.ShloMosaic.Lib.ValueIdx

@[expose] public section

set_option maxRecDepth 16384

noncomputable section

namespace Cert.Proof.Ref

open Cert.ReferenceIdeal Cert.ReferenceIdeal.Gen Cert.ReferenceIdeal.Value
open Idealize.ShloMosaic Idealize.ShloMosaic.TcCoe Idealize.ShloMosaic.Tactic
open Cert.Proof.Bucket

/-- A row of the table of biases, looked up at a word. -/
theorem gather_at (x : Vec Ideal S32x4 .f32) (idx : IVec S8192x8192x1 32) (q k : Fin 8192) (h : Fin 4) :
    Host.gather gather_S32x4_S8192x8192x1_S8192x8192x4_2_0_n_n_0_2_14 x idx (ix3 q k h) = x (ix2 ⟨min (idx (ix3 q k 0)).toInt.toNat 31, by omega⟩ h) := by
  unfold Host.gather
  congr 1
  funext a
  refine Fin.ext ?_
  have h01 : a = 0 ∨ a = 1 := by
    match a with
    | ⟨0, _⟩ => exact Or.inl rfl
    | ⟨1, _⟩ => exact Or.inr rfl
  rcases h01 with rfl | rfl
  · show gather_S32x4_S8192x8192x1_S8192x8192x4_2_0_n_n_0_2_14.start (ix3 q k h) idx 0 + gather_S32x4_S8192x8192x1_S8192x8192x4_2_0_n_n_0_2_14.batchCoord (ix3 q k h) 0 + gather_S32x4_S8192x8192x1_S8192x8192x4_2_0_n_n_0_2_14.offCoord (ix3 q k h) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S32x4_S8192x8192x1_S8192x8192x4_2_0_n_n_0_2_14.startIndexMap from List.mem_singleton.mpr rfl)]
    have hsi : gather_S32x4_S8192x8192x1_S8192x8192x4_2_0_n_n_0_2_14.siIdx (ix3 q k h) ⟨List.idxOf (0 : Fin 2) gather_S32x4_S8192x8192x1_S8192x8192x4_2_0_n_n_0_2_14.startIndexMap,
        List.idxOf_lt_length_iff.2 (List.mem_singleton.mpr rfl)⟩ = ix3 q k 0 := by
      funext b; refine Fin.ext ?_
      match b with
      | ⟨0, _⟩ => rfl
      | ⟨1, _⟩ => rfl
      | ⟨2, _⟩ => rfl
    rw [hsi]
    rfl
  · show gather_S32x4_S8192x8192x1_S8192x8192x4_2_0_n_n_0_2_14.start (ix3 q k h) idx 1 + gather_S32x4_S8192x8192x1_S8192x8192x4_2_0_n_n_0_2_14.batchCoord (ix3 q k h) 1 + gather_S32x4_S8192x8192x1_S8192x8192x4_2_0_n_n_0_2_14.offCoord (ix3 q k h) 1 = _
    rw [GatherDims.batchCoord_eq_zero _ _ _ List.not_mem_nil]
    unfold GatherDims.start
    rw [dif_neg (by decide)]
    simp only [Nat.zero_add, Nat.add_zero]
    rfl

end Cert.Proof.Ref
-- ==== Proof.Ref75.lean ====
module

public import proofs.«01_k».proof.Proof.RefScore

@[expose] public section

set_option maxRecDepth 16384
set_option maxHeartbeats 2000000

noncomputable section

namespace Cert.Proof.Ref

open Cert.ReferenceIdeal Cert.ReferenceIdeal.Gen Cert.ReferenceIdeal.Value
open Idealize.ShloMosaic Idealize.ShloMosaic.TcCoe Idealize.ShloMosaic.Tactic
open Cert.Proof.Bucket

theorem bot32 : Ideal.ofBits .f32 0xFF800000#32 = ⊥ := by simp [Ideal.ofBits, Ideal.ieee]

theorem v75g (X : FVec Ideal S2x8192x4608 .f32) (Y : FVec Ideal S2x8192x512 .f32) (D B : IVec S8192x8192 32) (T : FVec Ideal S32x4 .f32) (b m : Fin 2) (h : Fin 4) (q k : Fin 8192) :
    (select (broadcastInDim S2x2x4x8192x8192 ![0, 1, 2, 3, 4] bcast_S1x1x1x8192x8192_S2x2x4x8192x8192_0_1_2_3_4 (broadcastInDim S1x1x1x8192x8192 ![3, 4] bcast_S8192x8192_S1x1x1x8192x8192_3_4 (cmpi .sge D (broadcastInDim S8192x8192 ![] bcast_S_S8192x8192 (constantI S_ 32 0#32))))) (addf (mulf (Host.dotGeneral dot_S2x8192x4x2x64_S2x8192x4x2x64_S2x2x4x8192x8192_4_4_1_1_032_032 none (shapeCast _ (extractStridedSlice S2x8192x512 ![0, 0, 0] X slices_S2x8192x4608_S2x8192x512_0_0_0) shapeCasts_S2x8192x512_S2x8192x4x2x64) (shapeCast _ Y shapeCasts_S2x8192x512_S2x8192x4x2x64)) (broadcastInDim S2x2x4x8192x8192 ![] bcast_S_S2x2x4x8192x8192 (constant (F := Ideal) S_ .f32 0x3E000000#32))) (broadcastInDim S2x2x4x8192x8192 ![0, 1, 2, 3, 4] bcast_S1x1x4x8192x8192_S2x2x4x8192x8192_0_1_2_3_4 (broadcastInDim S1x1x4x8192x8192 ![2, 3, 4] bcast_S4x8192x8192_S1x1x4x8192x8192_2_3_4 (transpose S4x8192x8192 [2, 0, 1] (Host.gather gather_S32x4_S8192x8192x1_S8192x8192x4_2_0_n_n_0_2_14 T (broadcastInDim S8192x8192x1 ![0, 1] bcast_S8192x8192_S8192x8192x1_0_1 (select (cmpi .slt B (broadcastInDim S8192x8192 ![] bcast_S_S8192x8192 (constantI S_ 32 0#32))) (addi B (broadcastInDim S8192x8192 ![] bcast_S_S8192x8192 (constantI S_ 32 32#32))) B))) transposes_S8192x8192x4_S4x8192x8192_2_0_1)))) (broadcastInDim S2x2x4x8192x8192 ![] bcast_S_S2x2x4x8192x8192 (id (constant (F := Ideal) S_ .f32 0xFF800000#32))) : FVec Ideal S2x2x4x8192x8192 .f32) (ix5 b m h q k)
      = Scalar.select (IntOp.cmpi .sge (D (ix2 q k)) 0#32) ((∑ x : Fin 64, X (ix3 b q ⟨h.val * 128 + m.val * 64 + x.val, by omega⟩) * Y (ix3 b k ⟨h.val * 128 + m.val * 64 + x.val, by omega⟩)) * Ideal.ofBits .f32 0x3E000000#32
          + T (ix2 ⟨min (Scalar.select (IntOp.cmpi .slt (B (ix2 q k)) 0#32) (IntOp.addi (B (ix2 q k)) 32#32) (B (ix2 q k))).toInt.toNat 31, by omega⟩ h)) ⊥ := by
  pointwise
  rw [gather_at]
  rw [show (id (constant (F := Ideal) S_ .f32 0xFF800000#32) ix0 : EReal) = ⊥ from bot32]
  pointwise

end Cert.Proof.Ref
-- ==== Proof.Ref82.lean ====
module

public import proofs.«01_k».proof.Proof.RefScore

@[expose] public section

set_option maxRecDepth 16384
set_option maxHeartbeats 2000000

noncomputable section

namespace Cert.Proof.Ref

open Cert.ReferenceIdeal Cert.ReferenceIdeal.Gen Cert.ReferenceIdeal.Value
open Idealize.ShloMosaic Idealize.ShloMosaic.TcCoe Idealize.ShloMosaic.Tactic
open Cert.Proof.Bucket

theorem red_at (X : FVec Ideal S2x2x4x8192x8192 .f32) (b m : Fin 2) (h : Fin 4) (q : Fin 8192) :
    (Host.reduce FloatOps.maximumf X (constant (F := Ideal) S_ .f32 0xFF800000#32) reducesTo_S2x2x4x8192x8192_S2x2x4x8192_d4 h_S_ : FVec Ideal S2x2x4x8192 .f32) (ix4 b m h q)
      = Finset.fold max (Ideal.ofBits .f32 0xFF800000#32) (fun x => X (ix5 b m h q x)) Finset.univ := by
  pointwise

theorem v82m (X : FVec Ideal S2x2x4x8192x8192 .f32) (M : FVec Ideal S2x2x4x8192 .f32) (b m : Fin 2) (h : Fin 4) (q k : Fin 8192) :
    (Host.exp (subf X (broadcastInDim S2x2x4x8192x8192 ![0, 1, 2, 3, 4] bcast_S2x2x4x8192x1_S2x2x4x8192x8192_0_1_2_3_4 (broadcastInDim S2x2x4x8192x1 ![0, 1, 2, 3] bcast_S2x2x4x8192_S2x2x4x8192x1_0_1_2_3 (maximumf (broadcastInDim S2x2x4x8192 ![] bcast_S_S2x2x4x8192 (constant (F := Ideal) S_ .f32 0xFF800000#32)) M)))) : FVec Ideal S2x2x4x8192x8192 .f32) (ix5 b m h q k)
      = Ideal.exp (X (ix5 b m h q k) - max (Ideal.ofBits .f32 0xFF800000#32) (M (ix4 b m h q))) := by
  pointwise

end Cert.Proof.Ref
-- ==== Proof.Ref86.lean ====
module

public import proofs.«01_k».proof.Proof.RefScore

@[expose] public section

set_option maxRecDepth 16384
set_option maxHeartbeats 2000000

noncomputable section

namespace Cert.Proof.Ref

open Cert.ReferenceIdeal Cert.ReferenceIdeal.Gen Cert.ReferenceIdeal.Value
open Idealize.ShloMosaic Idealize.ShloMosaic.TcCoe Idealize.ShloMosaic.Tactic
open Cert.Proof.Bucket

theorem v86g (X : FVec Ideal S2x2x4x8192x8192 .f32) (b m : Fin 2) (h : Fin 4) (q k : Fin 8192) :
    (Host.divf X (broadcastInDim S2x2x4x8192x8192 ![0, 1, 2, 3, 4] bcast_S2x2x4x8192x1_S2x2x4x8192x8192_0_1_2_3_4 (broadcastInDim S2x2x4x8192x1 ![0, 1, 2, 3] bcast_S2x2x4x8192_S2x2x4x8192x1_0_1_2_3 (Host.reduceAdd X (constant (F := Ideal) S_ .f32 0x00000000#32) reducesTo_S2x2x4x8192x8192_S2x2x4x8192_d4 h_S_))) : FVec Ideal S2x2x4x8192x8192 .f32) (ix5 b m h q k)
      = Ideal.div (X (ix5 b m h q k)) (∑ x, X (ix5 b m h q x)) := by
  pointwise

end Cert.Proof.Ref
-- ==== Proof.Ref95.lean ====
module

public import proofs.«01_k».proof.Proof.RefScore

@[expose] public section

set_option maxRecDepth 16384
set_option maxHeartbeats 2000000

noncomputable section

namespace Cert.Proof.Ref

open Cert.ReferenceIdeal Cert.ReferenceIdeal.Gen Cert.ReferenceIdeal.Value
open Idealize.ShloMosaic Idealize.ShloMosaic.TcCoe Idealize.ShloMosaic.Tactic
open Cert.Proof.Bucket

theorem v95g (X : FVec Ideal S2x8192x512 .f32) (P : FVec Ideal S2x2x4x8192x8192 .f32) (l4 l5 l6 l7 : FVec Ideal S64 .f32) (b : Fin 2) (q : Fin 8192) (h : Fin 4) (d : Fin 128) :
    (transpose S2x8192x4x128 [0, 3, 1, 2] (Host.dotGeneral dot_S2x8192x4x128_S2x4x8192x8192_S2x4x128x8192_1_3_3_2_02_01 none (shapeCast _ X shapeCasts_S2x8192x512_S2x8192x4x128) (subf (shapeCast _ (extractStridedSlice S2x1x4x8192x8192 ![0, 0, 0, 0, 0] P slices_S2x2x4x8192x8192_S2x1x4x8192x8192_0_0_0_0_0) shapeCasts_S2x1x4x8192x8192_S2x4x8192x8192) (mulf (broadcastInDim S2x4x8192x8192 ![] bcast_S_S2x4x8192x8192 (addf (subf (Host.exp (Host.reduceAdd (mulf l4 l5) (constant (F := Ideal) S_ .f32 0x00000000#32) reducesTo_S64_S_d0 h_S_)) (Host.exp (Host.reduceAdd (mulf l6 l7) (constant (F := Ideal) S_ .f32 0x00000000#32) reducesTo_S64_S_d0 h_S_))) (constant (F := Ideal) S_ .f32 0x3E4CCCCD#32))) (shapeCast _ (extractStridedSlice S2x1x4x8192x8192 ![0, 1, 0, 0, 0] P slices_S2x2x4x8192x8192_S2x1x4x8192x8192_0_1_0_0_0) shapeCasts_S2x1x4x8192x8192_S2x4x8192x8192)))) transposes_S2x4x128x8192_S2x8192x4x128_0_3_1_2 : FVec Ideal S2x8192x4x128 .f32) (ix4 b q h d)
      = ∑ x : Fin 8192, X (ix3 b x ⟨h.val * 128 + d.val, by omega⟩) * (P (ix5 b 0 h q x) - (Ideal.exp (∑ x, l4 (ix1 x) * l5 (ix1 x)) - Ideal.exp (∑ x, l6 (ix1 x) * l7 (ix1 x)) + Ideal.ofBits .f32 0x3E4CCCCD#32) * P (ix5 b 1 h q x)) := by
  pointwise

end Cert.Proof.Ref
-- ==== Proof.RefParts.lean ====
module

public import proofs.«01_k».proof.Proof.Ref75
public import proofs.«01_k».proof.Proof.Ref82
public import proofs.«01_k».proof.Proof.Ref86
public import proofs.«01_k».proof.Proof.Ref95
public import proofs.«01_k».proof.Proof.Layer

@[expose] public section

set_option maxRecDepth 16384
set_option maxHeartbeats 2000000

noncomputable section

namespace Cert.Proof.Ref

open Cert.ReferenceIdeal Cert.ReferenceIdeal.Gen Cert.ReferenceIdeal.Value
open Idealize.ShloMosaic Idealize.ShloMosaic.TcCoe Idealize.ShloMosaic.Tactic
open Cert.Proof.Bucket Cert.Proof.Layer
open Cert.Proof.KernelIdeal.Attn (prow nrm)

theorem v60g (N : IVec S8192x8192 32) (q k : Fin 8192) : (select (cmpi .slt N (broadcastInDim S8192x8192 ![] bcast_S_S8192x8192 (constantI S_ 32 16#32))) N (minsi (addi (broadcastInDim S8192x8192 ![] bcast_S_S8192x8192 (constantI S_ 32 16#32)) (fptosi 32 (mulf (Host.divf (Host.log (Host.divf (sitofp .f32 (maxsi N (broadcastInDim S8192x8192 ![] bcast_S_S8192x8192 (constantI S_ 32 1#32)))) (broadcastInDim S8192x8192 ![] bcast_S_S8192x8192 (constant (F := Ideal) S_ .f32 0x41800000#32)))) (broadcastInDim S8192x8192 ![] bcast_S_S8192x8192 (constant (F := Ideal) S_ .f32 0x40051592#32))) (broadcastInDim S8192x8192 ![] bcast_S_S8192x8192 (constant (F := Ideal) S_ .f32 0x41800000#32)) : (⟨S8192x8192, .f32⟩ : BufTy).Contents (Elt Ideal)))) (broadcastInDim S8192x8192 ![] bcast_S_S8192x8192 (constantI S_ 32 31#32))) : IVec S8192x8192 32) (ix2 q k)
    = Scalar.select (IntOp.cmpi .slt (N (ix2 q k)) 16#32) (N (ix2 q k)) (IntOp.minsi (IntOp.addi 16#32 (FloatOps.fptosi (F := Ideal) (φ := .f32) 32 (Ideal.div (Ideal.log (Ideal.div (FloatOps.sitofp (F := Ideal) .f32 (IntOp.maxsi (N (ix2 q k)) 1#32)) (Ideal.ofBits .f32 0x41800000#32))) (Ideal.ofBits .f32 0x40051592#32) * Ideal.ofBits .f32 0x41800000#32))) 31#32) := by
  pointwise

theorem v37g (q k : Fin 8192) : (subi (broadcastInDim S8192x8192 ![0, 1] bcast_S8192x1_S8192x8192_0_1 (broadcastInDim S8192x1 ![0] bcast_S8192_S8192x1_0 (iotaInDim S8192 32 0))) (broadcastInDim S8192x8192 ![0, 1] bcast_S1x8192_S8192x8192_0_1 (broadcastInDim S1x8192 ![1] bcast_S8192_S1x8192_1 (iotaInDim S8192 32 0))) : IVec S8192x8192 32) (ix2 q k) = IntOp.subi (BitVec.ofNat 32 q.val) (BitVec.ofNat 32 k.val) := by
  pointwise

theorem v42g (D : IVec S8192x8192 32) (q k : Fin 8192) : (maxsi D (broadcastInDim S8192x8192 ![] bcast_S_S8192x8192 (constantI S_ 32 0#32)) : IVec S8192x8192 32) (ix2 q k) = IntOp.maxsi (D (ix2 q k)) 0#32 := by
  pointwise

theorem v112g (A : FVec Ideal S2x8192x4x128 .f32) (G : FVec Ideal S128 .f32) (r : Fin 16384) (j : Fin 512) : (truncf .bf16 (shapeCast _ (mulf (mulf (mulf A (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf A A) (constant (F := Ideal) S_ .f32 0x00000000#32) reducesTo_S2x8192x4x128_S2x8192x4_d3 h_S_)) (broadcastInDim S2x8192x4x1 ![] bcast_S_S2x8192x4x1 (constant (F := Ideal) S_ .f32 0x43000000#32))) (broadcastInDim S2x8192x4x1 ![] bcast_S_S2x8192x4x1 (constant (F := Ideal) S_ .f32 0x358637BD#32)))))) (broadcastInDim S2x8192x4x128 ![0, 1, 2, 3] bcast_S1x1x1x128_S2x8192x4x128_0_1_2_3 (broadcastInDim S1x1x1x128 ![3] bcast_S128_S1x1x1x128_3 G))) (broadcastInDim S2x8192x4x128 ![] bcast_S_S2x8192x4x128 (constant (F := Ideal) S_ .f32 0x3F4CCCCD#32))) shapeCasts_S2x8192x4x128_S16384x512) bitsLt_bf16_f32 : FVec Ideal S16384x512 .bf16) (ix2 r j)
    = fin128 (fun d => A (ix4 ⟨r.val / 8192, by omega⟩ ⟨r.val % 8192, by omega⟩ ⟨j.val / 128, by omega⟩ d)) (G (ix1 ⟨j.val % 128, by omega⟩)) ⟨j.val % 128, by omega⟩ := by
  unfold fin128
  pointwise

theorem v113g (Y : FVec Ideal S2x8192x512 .f32) (r : Fin 65536) (d : Fin 128) : (shapeCast S1x65536x128 Y shapeCasts_S2x8192x512_S1x65536x128 : FVec Ideal S1x65536x128 .f32) (ix3 0 r d)
    = Y (ix3 ⟨r.val / 32768, by omega⟩ ⟨r.val / 4 % 8192, by omega⟩ ⟨128 * (r.val % 4) + d.val, by omega⟩) := by
  pointwise
  try (congr 1; funext a; apply Fin.ext; fin_cases a <;> (try dsimp) <;> omega)

theorem v115g (X : FVec Ideal S2x8192x4608 .f32) (r : Fin 16384) (j : Fin 512) : (shapeCast _ (extractStridedSlice S2x8192x512 ![0, 0, 1536] X slices_S2x8192x4608_S2x8192x512_0_0_1536) shapeCasts_S2x8192x512_S16384x512 : FVec Ideal S16384x512 .f32) (ix2 r j)
    = X (ix3 ⟨r.val / 8192, by omega⟩ ⟨r.val % 8192, by omega⟩ ⟨1536 + j.val, by omega⟩) := by
  pointwise

theorem v130g (X : FVec Ideal S2x8192x4608 .f32) (r : Fin 16384) (j : Fin 1024) : (shapeCast _ (extractStridedSlice S2x8192x1024 ![0, 0, 2560] X slices_S2x8192x4608_S2x8192x1024_0_0_2560) shapeCasts_S2x8192x1024_S16384x1024 : FVec Ideal S16384x1024 .f32) (ix2 r j)
    = X (ix3 ⟨r.val / 8192, by omega⟩ ⟨r.val % 8192, by omega⟩ ⟨2560 + j.val, by omega⟩) := by
  pointwise

theorem v131g (X : FVec Ideal S2x8192x4608 .f32) (r : Fin 16384) (j : Fin 1024) : (shapeCast _ (extractStridedSlice S2x8192x1024 ![0, 0, 3584] X slices_S2x8192x4608_S2x8192x1024_0_0_3584) shapeCasts_S2x8192x1024_S16384x1024 : FVec Ideal S16384x1024 .f32) (ix2 r j)
    = X (ix3 ⟨r.val / 8192, by omega⟩ ⟨r.val % 8192, by omega⟩ ⟨3584 + j.val, by omega⟩) := by
  pointwise

theorem v129g (Y : FVec Ideal S2x8192x512 .f32) (G : FVec Ideal S512 .f32) (r : Fin 16384) (j : Fin 512) : (shapeCast _ (mulf (mulf Y (broadcastInDim S2x8192x512 ![0, 1, 2] bcast_S2x8192x1_S2x8192x512_0_1_2 (Host.rsqrt (addf (Host.divf (broadcastInDim S2x8192x1 ![0, 1] bcast_S2x8192_S2x8192x1_0_1 (Host.reduceAdd (mulf Y Y) (constant (F := Ideal) S_ .f32 0x00000000#32) reducesTo_S2x8192x512_S2x8192_d2 h_S_)) (broadcastInDim S2x8192x1 ![] bcast_S_S2x8192x1 (constant (F := Ideal) S_ .f32 0x44000000#32))) (broadcastInDim S2x8192x1 ![] bcast_S_S2x8192x1 (constant (F := Ideal) S_ .f32 0x358637BD#32)))))) (broadcastInDim S2x8192x512 ![0, 1, 2] bcast_S1x1x512_S2x8192x512_0_1_2 (broadcastInDim S1x1x512 ![2] bcast_S512_S1x1x512_2 G))) shapeCasts_S2x8192x512_S16384x512 : FVec Ideal S16384x512 .f32) (ix2 r j)
    = nrm (Ideal.ofBits .f32 0x44000000#32) (fun k => Y (ix3 ⟨r.val / 8192, by omega⟩ ⟨r.val % 8192, by omega⟩ k)) (fun k => G (ix1 k)) j := by
  unfold nrm
  pointwise

theorem slice_at (X : FVec Ideal S2x8192x4608 .f32) (b : Fin 2) (s : Fin 8192) (j : Fin 512) :
    (extractStridedSlice S2x8192x512 ![0, 0, 512] X slices_S2x8192x4608_S2x8192x512_0_0_512 : FVec Ideal S2x8192x512 .f32) (ix3 b s j) = X (ix3 b s ⟨512 + j.val, by omega⟩)
    ∧ (extractStridedSlice S2x8192x512 ![0, 0, 1024] X slices_S2x8192x4608_S2x8192x512_0_0_1024 : FVec Ideal S2x8192x512 .f32) (ix3 b s j) = X (ix3 b s ⟨1024 + j.val, by omega⟩)
    ∧ (extractStridedSlice S2x8192x512 ![0, 0, 2048] X slices_S2x8192x4608_S2x8192x512_0_0_2048 : FVec Ideal S2x8192x512 .f32) (ix3 b s j) = X (ix3 b s ⟨2048 + j.val, by omega⟩) := by
  refine ⟨?_, ?_, ?_⟩ <;> pointwise

end Cert.Proof.Ref
-- ==== Proof.RefTerms.lean ====
module

public import proofs.«01_k».proof.Proof.RefParts
public import Idealize.ShloMosaic.Lib.Tactic.CleanTypes

@[expose] public section

set_option maxRecDepth 16384
set_option maxHeartbeats 2000000

noncomputable section

namespace Cert.Proof.Ref

open Cert.ReferenceIdeal Cert.ReferenceIdeal.Gen Cert.ReferenceIdeal.Value
open Idealize.ShloMosaic Idealize.ShloMosaic.TcCoe Idealize.ShloMosaic.Tactic
open Cert.Proof.Bucket Cert.Proof.Layer Cert.Proof.Flash
open Cert.Proof.KernelIdeal.Attn (prow nrm)

variable (V0 : Valuation τ sig (Elt Ideal))

/-! The arguments and the named terms of the run, at their plain types. -/

def A0 : FVec Ideal S2x8192x1024 .f32 := V0 (Proc.devRef .tc main_arg0)
def A1 : FVec Ideal S32x4 .f32 := V0 (Proc.devRef .tc main_arg1)
def A2 : FVec Ideal S1024 .f32 := V0 (Proc.devRef .tc main_arg2)
def A3 : FVec Ideal S1024x4608 .f32 := V0 (Proc.devRef .tc main_arg3)
def A4 : FVec Ideal S64 .f32 := V0 (Proc.devRef .tc main_arg4)
def A5 : FVec Ideal S64 .f32 := V0 (Proc.devRef .tc main_arg5)
def A6 : FVec Ideal S64 .f32 := V0 (Proc.devRef .tc main_arg6)
def A7 : FVec Ideal S64 .f32 := V0 (Proc.devRef .tc main_arg7)
def A8 : FVec Ideal S128 .f32 := V0 (Proc.devRef .tc main_arg8)
def A9 : FVec Ideal S512 .f32 := V0 (Proc.devRef .tc main_arg9)
def X13 : FVec Ideal S2x8192x4608 .f32 := res_main_v13 V0
def X15 : FVec Ideal S2x8192x512 .f32 := res_main_v15 V0
def X16 : FVec Ideal S2x8192x512 .f32 := res_main_v16 V0
def X18 : FVec Ideal S2x8192x512 .f32 := res_main_v18 V0
def X37 : IVec S8192x8192 32 := res_main_v37 V0
def X42 : IVec S8192x8192 32 := res_main_v42 V0
def X60 : IVec S8192x8192 32 := res_main_v60 V0
def X75 : FVec Ideal S2x2x4x8192x8192 .f32 := res_main_v75 V0
def X82 : FVec Ideal S2x2x4x8192x8192 .f32 := res_main_v82 V0
def X86 : FVec Ideal S2x2x4x8192x8192 .f32 := res_main_v86 V0
def X95 : FVec Ideal S2x8192x4x128 .f32 := res_main_v95 V0

/-- The projection's entry at position `s` of sequence `b`, column `k`. -/
def hr (b : Fin 2) (s : Fin 8192) (k : Fin 4608) : EReal :=
  prow (fun i => A0 V0 (ix3 b s i)) (fun i => A2 V0 (ix1 i)) (fun j k => A3 V0 (ix2 j k)) k

theorem X13_at (b : Fin 2) (s : Fin 8192) (k : Fin 4608) : X13 V0 (ix3 b s k) = hr V0 b s k := by
  unfold X13 res_main_v13 hr prow nrm A0 A2 A3
  clean_types
  pointwise

theorem X15_eq : X15 V0 = (extractStridedSlice S2x8192x512 ![0, 0, 512] (X13 V0) slices_S2x8192x4608_S2x8192x512_0_0_512 : FVec Ideal S2x8192x512 .f32) := rfl
theorem X16_eq : X16 V0 = (extractStridedSlice S2x8192x512 ![0, 0, 1024] (X13 V0) slices_S2x8192x4608_S2x8192x512_0_0_1024 : FVec Ideal S2x8192x512 .f32) := rfl
theorem X18_eq : X18 V0 = (extractStridedSlice S2x8192x512 ![0, 0, 2048] (X13 V0) slices_S2x8192x4608_S2x8192x512_0_0_2048 : FVec Ideal S2x8192x512 .f32) := rfl
theorem X42_eq : X42 V0 = (maxsi (X37 V0) (broadcastInDim S8192x8192 ![] bcast_S_S8192x8192 (constantI S_ 32 0#32)) : IVec S8192x8192 32) := rfl
theorem X60_eq : X60 V0 = (select (cmpi .slt (X42 V0) (broadcastInDim S8192x8192 ![] bcast_S_S8192x8192 (constantI S_ 32 16#32))) (X42 V0) (minsi (addi (broadcastInDim S8192x8192 ![] bcast_S_S8192x8192 (constantI S_ 32 16#32)) (fptosi 32 (mulf (Host.divf (Host.log (Host.divf (sitofp .f32 (maxsi (X42 V0) (broadcastInDim S8192x8192 ![] bcast_S_S8192x8192 (constantI S_ 32 1#32)))) (broadcastInDim S8192x8192 ![] bcast_S_S8192x8192 (constant (F := Ideal) S_ .f32 0x41800000#32)))) (broadcastInDim S8192x8192 ![] bcast_S_S8192x8192 (constant (F := Ideal) S_ .f32 0x40051592#32))) (broadcastInDim S8192x8192 ![] bcast_S_S8192x8192 (constant (F := Ideal) S_ .f32 0x41800000#32)) : (⟨S8192x8192, .f32⟩ : BufTy).Contents (Elt Ideal)))) (broadcastInDim S8192x8192 ![] bcast_S_S8192x8192 (constantI S_ 32 31#32))) : IVec S8192x8192 32) := rfl
theorem X75_eq : X75 V0 = (select (broadcastInDim S2x2x4x8192x8192 ![0, 1, 2, 3, 4] bcast_S1x1x1x8192x8192_S2x2x4x8192x8192_0_1_2_3_4 (broadcastInDim S1x1x1x8192x8192 ![3, 4] bcast_S8192x8192_S1x1x1x8192x8192_3_4 (cmpi .sge (X37 V0) (broadcastInDim S8192x8192 ![] bcast_S_S8192x8192 (constantI S_ 32 0#32))))) (addf (mulf (Host.dotGeneral dot_S2x8192x4x2x64_S2x8192x4x2x64_S2x2x4x8192x8192_4_4_1_1_032_032 none (shapeCast _ (extractStridedSlice S2x8192x512 ![0, 0, 0] (X13 V0) slices_S2x8192x4608_S2x8192x512_0_0_0) shapeCasts_S2x8192x512_S2x8192x4x2x64) (shapeCast _ (X15 V0) shapeCasts_S2x8192x512_S2x8192x4x2x64)) (broadcastInDim S2x2x4x8192x8192 ![] bcast_S_S2x2x4x8192x8192 (constant (F := Ideal) S_ .f32 0x3E000000#32))) (broadcastInDim S2x2x4x8192x8192 ![0, 1, 2, 3, 4] bcast_S1x1x4x8192x8192_S2x2x4x8192x8192_0_1_2_3_4 (broadcastInDim S1x1x4x8192x8192 ![2, 3, 4] bcast_S4x8192x8192_S1x1x4x8192x8192_2_3_4 (transpose S4x8192x8192 [2, 0, 1] (Host.gather gather_S32x4_S8192x8192x1_S8192x8192x4_2_0_n_n_0_2_14 (A1 V0) (broadcastInDim S8192x8192x1 ![0, 1] bcast_S8192x8192_S8192x8192x1_0_1 (select (cmpi .slt (X60 V0) (broadcastInDim S8192x8192 ![] bcast_S_S8192x8192 (constantI S_ 32 0#32))) (addi (X60 V0) (broadcastInDim S8192x8192 ![] bcast_S_S8192x8192 (constantI S_ 32 32#32))) (X60 V0)))) transposes_S8192x8192x4_S4x8192x8192_2_0_1)))) (broadcastInDim S2x2x4x8192x8192 ![] bcast_S_S2x2x4x8192x8192 (id (constant (F := Ideal) S_ .f32 0xFF800000#32))) : FVec Ideal S2x2x4x8192x8192 .f32) := rfl
theorem X82_eq : X82 V0 = (Host.exp (subf (X75 V0) (broadcastInDim S2x2x4x8192x8192 ![0, 1, 2, 3, 4] bcast_S2x2x4x8192x1_S2x2x4x8192x8192_0_1_2_3_4 (broadcastInDim S2x2x4x8192x1 ![0, 1, 2, 3] bcast_S2x2x4x8192_S2x2x4x8192x1_0_1_2_3 (maximumf (broadcastInDim S2x2x4x8192 ![] bcast_S_S2x2x4x8192 (constant (F := Ideal) S_ .f32 0xFF800000#32)) (Host.reduce FloatOps.maximumf (X75 V0) (constant (F := Ideal) S_ .f32 0xFF800000#32) reducesTo_S2x2x4x8192x8192_S2x2x4x8192_d4 h_S_))))) : FVec Ideal S2x2x4x8192x8192 .f32) := rfl
theorem X86_eq : X86 V0 = (Host.divf (X82 V0) (broadcastInDim S2x2x4x8192x8192 ![0, 1, 2, 3, 4] bcast_S2x2x4x8192x1_S2x2x4x8192x8192_0_1_2_3_4 (broadcastInDim S2x2x4x8192x1 ![0, 1, 2, 3] bcast_S2x2x4x8192_S2x2x4x8192x1_0_1_2_3 (Host.reduceAdd (X82 V0) (constant (F := Ideal) S_ .f32 0x00000000#32) reducesTo_S2x2x4x8192x8192_S2x2x4x8192_d4 h_S_))) : FVec Ideal S2x2x4x8192x8192 .f32) := rfl
theorem X95_eq : X95 V0 = (transpose S2x8192x4x128 [0, 3, 1, 2] (Host.dotGeneral dot_S2x8192x4x128_S2x4x8192x8192_S2x4x128x8192_1_3_3_2_02_01 none (shapeCast _ (X16 V0) shapeCasts_S2x8192x512_S2x8192x4x128) (subf (shapeCast _ (extractStridedSlice S2x1x4x8192x8192 ![0, 0, 0, 0, 0] (X86 V0) slices_S2x2x4x8192x8192_S2x1x4x8192x8192_0_0_0_0_0) shapeCasts_S2x1x4x8192x8192_S2x4x8192x8192) (mulf (broadcastInDim S2x4x8192x8192 ![] bcast_S_S2x4x8192x8192 (addf (subf (Host.exp (Host.reduceAdd (mulf (A4 V0) (A5 V0)) (constant (F := Ideal) S_ .f32 0x00000000#32) reducesTo_S64_S_d0 h_S_)) (Host.exp (Host.reduceAdd (mulf (A6 V0) (A7 V0)) (constant (F := Ideal) S_ .f32 0x00000000#32) reducesTo_S64_S_d0 h_S_))) (constant (F := Ideal) S_ .f32 0x3E4CCCCD#32))) (shapeCast _ (extractStridedSlice S2x1x4x8192x8192 ![0, 1, 0, 0, 0] (X86 V0) slices_S2x2x4x8192x8192_S2x1x4x8192x8192_0_1_0_0_0) shapeCasts_S2x1x4x8192x8192_S2x4x8192x8192)))) transposes_S2x4x128x8192_S2x8192x4x128_0_3_1_2 : FVec Ideal S2x8192x4x128 .f32) := rfl

theorem X37_at (q k : Fin 8192) : X37 V0 (ix2 q k) = IntOp.subi (BitVec.ofNat 32 q.val) (BitVec.ofNat 32 k.val) := v37g q k

end Cert.Proof.Ref
-- ==== Proof.RefVal.lean ====
module

public import proofs.«01_k».proof.Proof.RefTerms

@[expose] public section

set_option maxRecDepth 16384
set_option maxHeartbeats 2000000

noncomputable section

namespace Cert.Proof.Ref

open Cert.ReferenceIdeal Cert.ReferenceIdeal.Gen Cert.ReferenceIdeal.Value
open Idealize.ShloMosaic Idealize.ShloMosaic.TcCoe Idealize.ShloMosaic.Tactic
open Cert.Proof.Bucket Cert.Proof.Layer Cert.Proof.Flash
open Cert.Proof.KernelIdeal.Attn (prow nrm)

variable (V0 : Valuation τ sig (Elt Ideal))

/-- The factor of a head's second half. -/
def lam (l4 l5 l6 l7 : Fin 64 → EReal) : EReal :=
  Ideal.exp (∑ x, l4 x * l5 x) - Ideal.exp (∑ x, l6 x * l7 x) + Ideal.ofBits .f32 0x3E4CCCCD#32

theorem X15_at (b : Fin 2) (s : Fin 8192) (k : Fin 512) : X15 V0 (ix3 b s k) = hr V0 b s ⟨512 + k.val, by omega⟩ :=
  (congrFun (X15_eq V0) _).trans ((slice_at (X13 V0) b s k).1.trans (X13_at V0 b s _))

theorem X16_at (b : Fin 2) (s : Fin 8192) (k : Fin 512) : X16 V0 (ix3 b s k) = hr V0 b s ⟨1024 + k.val, by omega⟩ :=
  (congrFun (X16_eq V0) _).trans ((slice_at (X13 V0) b s k).2.1.trans (X13_at V0 b s _))

theorem X18_at (b : Fin 2) (s : Fin 8192) (k : Fin 512) : X18 V0 (ix3 b s k) = hr V0 b s ⟨2048 + k.val, by omega⟩ :=
  (congrFun (X18_eq V0) _).trans ((slice_at (X13 V0) b s k).2.2.trans (X13_at V0 b s _))

theorem X60_at (q k : Fin 8192) : X60 V0 (ix2 q k) = bk (IntOp.subi (BitVec.ofNat 32 q.val) (BitVec.ofNat 32 k.val)) := by
  have h : X42 V0 (ix2 q k) = IntOp.maxsi (IntOp.subi (BitVec.ofNat 32 q.val) (BitVec.ofNat 32 k.val)) 0#32 := by
    rw [X42_eq, v42g, X37_at]
  rw [X60_eq, v60g, h]
  rfl

/-- A masked logit, from the words of a distance and of its bucket. -/
theorem v75h (X : FVec Ideal S2x8192x4608 .f32) (Y : FVec Ideal S2x8192x512 .f32) (D B : IVec S8192x8192 32) (T : FVec Ideal S32x4 .f32) (b m : Fin 2) (h : Fin 4) (q k : Fin 8192) (d : BitVec 32) (hd : D (ix2 q k) = d) (hB : B (ix2 q k) = bk d) :
    (select (broadcastInDim S2x2x4x8192x8192 ![0, 1, 2, 3, 4] bcast_S1x1x1x8192x8192_S2x2x4x8192x8192_0_1_2_3_4 (broadcastInDim S1x1x1x8192x8192 ![3, 4] bcast_S8192x8192_S1x1x1x8192x8192_3_4 (cmpi .sge D (broadcastInDim S8192x8192 ![] bcast_S_S8192x8192 (constantI S_ 32 0#32))))) (addf (mulf (Host.dotGeneral dot_S2x8192x4x2x64_S2x8192x4x2x64_S2x2x4x8192x8192_4_4_1_1_032_032 none (shapeCast _ (extractStridedSlice S2x8192x512 ![0, 0, 0] X slices_S2x8192x4608_S2x8192x512_0_0_0) shapeCasts_S2x8192x512_S2x8192x4x2x64) (shapeCast _ Y shapeCasts_S2x8192x512_S2x8192x4x2x64)) (broadcastInDim S2x2x4x8192x8192 ![] bcast_S_S2x2x4x8192x8192 (constant (F := Ideal) S_ .f32 0x3E000000#32))) (broadcastInDim S2x2x4x8192x8192 ![0, 1, 2, 3, 4] bcast_S1x1x4x8192x8192_S2x2x4x8192x8192_0_1_2_3_4 (broadcastInDim S1x1x4x8192x8192 ![2, 3, 4] bcast_S4x8192x8192_S1x1x4x8192x8192_2_3_4 (transpose S4x8192x8192 [2, 0, 1] (Host.gather gather_S32x4_S8192x8192x1_S8192x8192x4_2_0_n_n_0_2_14 T (broadcastInDim S8192x8192x1 ![0, 1] bcast_S8192x8192_S8192x8192x1_0_1 (select (cmpi .slt B (broadcastInDim S8192x8192 ![] bcast_S_S8192x8192 (constantI S_ 32 0#32))) (addi B (broadcastInDim S8192x8192 ![] bcast_S_S8192x8192 (constantI S_ 32 32#32))) B))) transposes_S8192x8192x4_S4x8192x8192_2_0_1)))) (broadcastInDim S2x2x4x8192x8192 ![] bcast_S_S2x2x4x8192x8192 (id (constant (F := Ideal) S_ .f32 0xFF800000#32))) : FVec Ideal S2x2x4x8192x8192 .f32) (ix5 b m h q k)
      = Scalar.select (IntOp.cmpi .sge d 0#32) ((∑ x : Fin 64, X (ix3 b q ⟨h.val * 128 + m.val * 64 + x.val, by omega⟩) * Y (ix3 b k ⟨h.val * 128 + m.val * 64 + x.val, by omega⟩)) * Ideal.ofBits .f32 0x3E000000#32
          + T (ix2 ⟨(bk d).toNat, bk_lt _⟩ h)) ⊥ := by
  subst hd
  rw [v75g]
  congr 3
  refine congrArg (fun n => ix2 n h) (Fin.ext ?_)
  show min (Scalar.select (IntOp.cmpi .slt (B (ix2 q k)) 0#32) (IntOp.addi (B (ix2 q k)) 32#32) (B (ix2 q k))).toInt.toNat 31 = _
  rw [hB]
  exact row_eq _

section
variable (b : Fin 2) (hR : Fin 8192 → Fin 4608 → ℝ) (rb : Fin 32 → Fin 4 → ℝ)
  (hh : ∀ s k, hr V0 b s k = (hR s k : EReal)) (hb : ∀ n h, A1 V0 (ix2 n h) = (rb n h : EReal))
include hh hb

/-- A masked logit. -/
theorem X75_at (m : Fin 2) (h : Fin 4) (q k : Fin 8192) : X75 V0 (ix5 b m h q k) = if k.val ≤ q.val then ((rr hR rb m h q k : ℝ) : EReal) else ⊥ := by
  rw [X75_eq, v75h _ _ _ _ _ b m h q k _ (X37_at V0 q k) (X60_at V0 q k), sge_dist q k q.isLt k.isLt]
  split
  · change _ * _ + _ = _
    simp only [X13_at, X15_at, hh, hb, eighth, ← EReal.coe_mul, ← coe_sum]
    rw [← EReal.coe_add, rr, dif_pos ⟨q.isLt, k.isLt⟩]
  · rfl

omit hh hb in
theorem X82_at (m : Fin 2) (h : Fin 4) (q k : Fin 8192) : X82 V0 (ix5 b m h q k)
    = Ideal.exp (X75 V0 (ix5 b m h q k) - Finset.fold max ⊥ (fun x => X75 V0 (ix5 b m h q x)) Finset.univ) := by
  rw [X82_eq, v82m, red_at, Layer.bot32, max_eq_right bot_le]

/-- A weight: the softmax of a row of logits. -/
theorem X86_at (m : Fin 2) (h : Fin 4) (q k : Fin 8192) : X86 V0 (ix5 b m h q k)
    = ((wt (rr hR rb m h q) q k / num (rr hR rb m h q) q (fun _ => 1) 8192 : ℝ) : EReal) := by
  rw [X86_eq, v86g]
  simp only [X82_at V0 b]
  exact softmax (rr hR rb m h q) q (fun x => X75 V0 (ix5 b m h q x)) (fun x => X75_at V0 b hR rb hh hb m h q x) (by omega) k

/-- What the reference attends to. -/
theorem X95_at (L : ℝ) (hL : lam (fun x => A4 V0 (ix1 x)) (fun x => A5 V0 (ix1 x)) (fun x => A6 V0 (ix1 x)) (fun x => A7 V0 (ix1 x)) = (L : EReal))
    (q : Fin 8192) (h : Fin 4) (d : Fin 128) : X95 V0 (ix4 b q h d) = att hR rb L h q d := by
  rw [X95_eq, v95g]
  unfold lam at hL
  rw [hL]
  exact combine (rr hR rb 0 h q) (rr hR rb 1 h q) q (vv hR h d) L (fun k => X86 V0 (ix5 b 0 h q k)) (fun k => X86 V0 (ix5 b 1 h q k)) _
    (fun k => X86_at V0 b hR rb hh hb 0 h q k) (fun k => X86_at V0 b hR rb hh hb 1 h q k) (fun k => by rw [X16_at, hh, vv, dif_pos k.isLt])

end

end Cert.Proof.Ref
-- ==== Proof.Finite.lean ====
module

public import proofs.«01_k».proof.Pre_finite
public import proofs.«01_k».proof.Proof.ValProj
public import proofs.«01_k».proof.Proof.Flash
public import Idealize.ShloMosaic.Lib.ReduceAll
public import Idealize.ShloMosaic.Lib.Pointwise

@[expose] public section

/-! Finite inputs give real projected rows and a real factor. -/

set_option maxRecDepth 16384
set_option maxHeartbeats 1000000

noncomputable section

namespace Cert.Proof.Finite

open Idealize.ShloMosaic Idealize.ShloMosaic.Tactic
open Cert.Proof.Flash
open Cert.Proof.KernelIdeal.Attn (prow nrm)

/-- The side conditions the precondition states. -/
theorem facts : Cert.Pre_finite.Facts := by constructor <;> decide

/-- An extended real that is a real number. -/
abbrev IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.sum {n : Nat} {f : Fin n → EReal} (h : ∀ i, IsR (f i)) : IsR (∑ i, f i) := by
  choose g hg using h
  exact ⟨∑ i, g i, by rw [coe_sum]; exact Finset.sum_congr rfl fun i _ => hg i⟩

theorem eps : ∃ e : ℝ, 0 < e ∧ Ideal.ofBits .f32 0x358637BD#32 = (e : EReal) :=
  ⟨8796093 / 8796093022208, by norm_num, by simp [Ideal.ofBits, Ideal.ieee, -EReal.coe_mul]; norm_num⟩

theorem n1024 : Ideal.ofBits .f32 0x44800000#32 = ((1024 : ℝ) : EReal) := by
  simp [Ideal.ofBits, Ideal.ieee, -EReal.coe_mul]; norm_num

theorem fifth : IsR (Ideal.ofBits .f32 0x3E4CCCCD#32) :=
  ⟨13421773 / 67108864, by simp [Ideal.ofBits, Ideal.ieee, -EReal.coe_mul]; norm_num⟩

/-- A normalised entry of finite rows is a real number: the root is of a positive number. -/
theorem nrm_real (x g : Fin 1024 → EReal) (hx : ∀ i, IsR (x i)) (hg : ∀ i, IsR (g i)) (i : Fin 1024) :
    IsR (nrm (Ideal.ofBits .f32 0x44800000#32) x g i) := by
  choose a ha using hx
  obtain ⟨e, he, hE⟩ := eps
  have hs : Ideal.div (∑ j, x j * x j) (Ideal.ofBits .f32 0x44800000#32) + Ideal.ofBits .f32 0x358637BD#32
      = (((∑ j, a j * a j) * (1 / 1024) + e : ℝ) : EReal) := by
    rw [n1024, Ideal.div_coe (by norm_num), hE, EReal.coe_add, EReal.coe_mul, coe_sum]
    congr 2
    exact Finset.sum_congr rfl fun j _ => by rw [ha j, EReal.coe_mul]
  have hp : 0 < (∑ j, a j * a j) * (1 / 1024) + e := by
    have : 0 ≤ ∑ j, a j * a j := Finset.sum_nonneg fun j _ => mul_self_nonneg _
    positivity
  have hr : IsR (Ideal.rsqrt (Ideal.div (∑ j, x j * x j) (Ideal.ofBits .f32 0x44800000#32) + Ideal.ofBits .f32 0x358637BD#32)) := by
    rw [hs, Ideal.rsqrt_coe, if_neg (not_lt.2 hp.le), if_neg hp.ne']
    exact ⟨_, rfl⟩
  exact (IsR.mul ⟨a i, ha i⟩ hr).mul (hg i)

theorem prow_real (x g : Fin 1024 → EReal) (w : Fin 1024 → Fin 4608 → EReal) (hx : ∀ i, IsR (x i)) (hg : ∀ i, IsR (g i))
    (hw : ∀ j k, IsR (w j k)) (k : Fin 4608) : IsR (prow x g w k) :=
  IsR.sum fun j => (nrm_real x g hx hg j).mul (hw j k)

theorem factor_real (a b d e : Fin 64 → EReal) (ha : ∀ i, IsR (a i)) (hb : ∀ i, IsR (b i)) (hd : ∀ i, IsR (d i)) (he : ∀ i, IsR (e i)) :
    IsR (Ideal.exp (∑ x, a x * b x) - Ideal.exp (∑ x, d x * e x) + Ideal.ofBits .f32 0x3E4CCCCD#32) := by
  obtain ⟨s, hs⟩ := IsR.sum fun i => (ha i).mul (hb i)
  obtain ⟨t, ht⟩ := IsR.sum fun i => (hd i).mul (he i)
  obtain ⟨f, hf⟩ := fifth
  rw [hs, ht, hf, Ideal.exp_coe, Ideal.exp_coe, ← EReal.coe_sub, ← EReal.coe_add]
  exact ⟨_, rfl⟩

theorem inf32 : Ideal.ofBits .f32 0x7F800000#32 = ⊤ := by simp [Ideal.ofBits, Ideal.ieee]

/-- A value whose absolute value compares below infinity is a real number. -/
theorem real_of_lt (x : EReal) (h : Ideal.cmp .olt (max x (-x)) (Ideal.ofBits .f32 0x7F800000#32) = 1#1) : IsR x := by
  rw [inf32] at h
  induction x with
  | bot => simp [Ideal.cmp] at h
  | top => simp [Ideal.cmp] at h
  | coe r => exact ⟨r, rfl⟩

theorem and_one {a b : BitVec 1} (h : IntOp.andi a b = 1#1) : a = 1#1 ∧ b = 1#1 := by
  revert a b; decide

open Cert.Pre_finite in
/-- What the precondition says: every entry of the arrays it names is a real number. -/
theorem of_fn [Facts] (a0 : FVec Ideal S2x8192x1024 .f32) (a1 : FVec Ideal S32x4 .f32) (a2 : FVec Ideal S1024 .f32) (a3 : FVec Ideal S1024x4608 .f32)
    (a4 a5 a6 a7 : FVec Ideal S64 .f32) (a8 : FVec Ideal S128 .f32) (a9 : FVec Ideal S512 .f32) (i : S_.Idx)
    (h : fn (F := Ideal) a0 a1 a2 a3 a4 a5 a6 a7 a8 a9 i = 1#1) :
    (∀ j, IsR (a0 j)) ∧ (∀ j, IsR (a1 j)) ∧ (∀ j, IsR (a2 j)) ∧ (∀ j, IsR (a3 j)) ∧ (∀ j, IsR (a4 j)) ∧ (∀ j, IsR (a5 j)) ∧ (∀ j, IsR (a6 j)) ∧ (∀ j, IsR (a7 j)) := by
  have : Subsingleton S_.Idx := ⟨fun _ _ => funext fun a => a.elim0⟩
  dsimp only [fn, fn_part1, fn_part2] at h
  obtain ⟨h, h7⟩ := and_one h
  obtain ⟨h, h6⟩ := and_one h
  obtain ⟨h, h5⟩ := and_one h
  obtain ⟨h, h4⟩ := and_one h
  obtain ⟨h, h3⟩ := and_one h
  obtain ⟨h, h2⟩ := and_one h
  obtain ⟨h0, h1⟩ := and_one h
  exact ⟨fun j => real_of_lt _ (Host.reduce_andi_all _ _ _ _ _ h0 j), fun j => real_of_lt _ (Host.reduce_andi_all _ _ _ _ _ h1 j),
    fun j => real_of_lt _ (Host.reduce_andi_all _ _ _ _ _ h2 j), fun j => real_of_lt _ (Host.reduce_andi_all _ _ _ _ _ h3 j),
    fun j => real_of_lt _ (Host.reduce_andi_all _ _ _ _ _ h4 j), fun j => real_of_lt _ (Host.reduce_andi_all _ _ _ _ _ h5 j),
    fun j => real_of_lt _ (Host.reduce_andi_all _ _ _ _ _ h6 j), fun j => real_of_lt _ (Host.reduce_andi_all _ _ _ _ _ h7 j)⟩

end Cert.Proof.Finite

end
-- ==== Proof.Equal.lean ====
module

public import proofs.«01_k».proof.Proof.KernelVals
public import proofs.«01_k».proof.Proof.RefVal
public import proofs.«01_k».proof.Proof.Finite

@[expose] public section

/-! The seven results of the kernel and of the reference are the same arrays. -/

set_option maxRecDepth 16384
set_option maxHeartbeats 1000000

noncomputable section

namespace Cert.Proof.Equal

open Idealize.ShloMosaic Idealize.ShloMosaic.TcCoe Idealize.ShloMosaic.Tactic
open Cert.KernelIdeal
open Cert.Proof.Ref Cert.Proof.Layer Cert.Proof.Finite
open Cert.Proof.KernelIdeal.Attn

variable (m : (ℓ : Loc nD τ sig) → Buf (Elt Ideal) ℓ) (c : Dev nD) (Vr : Valuation Cert.ReferenceIdeal.τ Cert.ReferenceIdeal.sig (Elt Ideal))

/-- The reference starts from the kernel's arguments. -/
structure Same : Prop where
  h0 : A0 Vr = K0 m c
  h1 : A1 Vr = K1 m c
  h2 : A2 Vr = K2 m c
  h3 : A3 Vr = K3 m c
  h4 : A4 Vr = K4 m c
  h5 : A5 Vr = K5 m c
  h6 : A6 Vr = K6 m c
  h7 : A7 Vr = K7 m c
  h8 : A8 Vr = K8 m c
  h9 : A9 Vr = K9 m c

/-- The arguments the precondition names are real numbers. -/
structure Reals : Prop where
  h0 : ∀ j, IsR (K0 m c j)
  h1 : ∀ j, IsR (K1 m c j)
  h2 : ∀ j, IsR (K2 m c j)
  h3 : ∀ j, IsR (K3 m c j)
  h4 : ∀ j, IsR (K4 m c j)
  h5 : ∀ j, IsR (K5 m c j)
  h6 : ∀ j, IsR (K6 m c j)
  h7 : ∀ j, IsR (K7 m c j)

variable {m c Vr} (S : Same m c Vr)
include S

theorem hr_eq (b : Fin 2) (s : Fin 8192) (k : Fin 4608) : hr Vr b s k = hk m c b s k := by
  unfold hr hk
  rw [S.h0, S.h2, S.h3]

theorem e112 (R : Reals m c) (r : Fin 16384) (j : Fin 512) :
    Layer.fin128 (fun d => X95 Vr (ix4 ⟨r.val / 8192, by omega⟩ ⟨r.val % 8192, by omega⟩ ⟨j.val / 128, by omega⟩ d)) (A8 Vr (ix1 ⟨j.val % 128, by omega⟩)) ⟨j.val % 128, by omega⟩
      = (W5 m c main_v13 : Vec Ideal S16384x512 .bf16) (ix2 r j) := by
  have hR : ∀ b s k, ∃ x : ℝ, hk m c b s k = (x : EReal) := fun b s k =>
    prow_real _ _ _ (fun i => R.h0 _) (fun i => R.h2 _) (fun j k => R.h3 _) k
  have hB : ∀ n h, ∃ x : ℝ, K1 m c (ix2 n h) = (x : EReal) := fun n h => R.h1 _
  choose f hf using hR
  choose rb hb using hB
  obtain ⟨L, hL⟩ := factor_real (fun x => K4 m c (ix1 x)) (fun x => K5 m c (ix1 x)) (fun x => K6 m c (ix1 x)) (fun x => K7 m c (ix1 x))
    (fun _ => R.h4 _) (fun _ => R.h5 _) (fun _ => R.h6 _) (fun _ => R.h7 _)
  rw [r13_at m c f rb L (given m c f rb L hf hb hL) r j, S.h8]
  congr 1
  funext d
  refine X95_at Vr _ (f _) rb (fun s k => (hr_eq S _ s k).trans (hf _ s k)) (fun n h => (congrFun S.h1 _).trans (hb n h)) L ?_ _ _ d
  unfold lam
  rw [S.h4, S.h5, S.h6, S.h7]
  exact hL

theorem e113 (r : Fin 65536) (d : Fin 128) :
    X15 Vr (ix3 ⟨r.val / 32768, by omega⟩ ⟨r.val / 4 % 8192, by omega⟩ ⟨128 * (r.val % 4) + d.val, by omega⟩) = (W5 m c main_v11_2 : Vec Ideal S1x65536x128 .f32) (ix3 0 r d) :=
  (X15_at Vr _ _ _).trans ((hr_eq S _ _ _).trans (r11_2_at m c r d).symm)

theorem e114 (r : Fin 65536) (d : Fin 128) :
    X16 Vr (ix3 ⟨r.val / 32768, by omega⟩ ⟨r.val / 4 % 8192, by omega⟩ ⟨128 * (r.val % 4) + d.val, by omega⟩) = (W5 m c main_v11_3 : Vec Ideal S1x65536x128 .f32) (ix3 0 r d) :=
  (X16_at Vr _ _ _).trans ((hr_eq S _ _ _).trans (r11_3_at m c r d).symm)

theorem e115 (r : Fin 16384) (j : Fin 512) :
    X13 Vr (ix3 ⟨r.val / 8192, by omega⟩ ⟨r.val % 8192, by omega⟩ ⟨1536 + j.val, by omega⟩) = (W5 m c main_v11_4 : Vec Ideal S16384x512 .f32) (ix2 r j) :=
  (X13_at Vr _ _ _).trans ((hr_eq S _ _ _).trans (r11_4_at m c r j).symm)

theorem e129 (r : Fin 16384) (j : Fin 512) :
    nrm (Ideal.ofBits .f32 0x44000000#32) (fun k => X18 Vr (ix3 ⟨r.val / 8192, by omega⟩ ⟨r.val % 8192, by omega⟩ k)) (fun k => A9 Vr (ix1 k)) j = (W5 m c main_v11_5 : Vec Ideal S16384x512 .f32) (ix2 r j) := by
  rw [r11_5_at, S.h9]
  congr 1
  funext k
  exact (X18_at Vr _ _ k).trans (hr_eq S _ _ _)

theorem e130 (r : Fin 16384) (j : Fin 1024) :
    X13 Vr (ix3 ⟨r.val / 8192, by omega⟩ ⟨r.val % 8192, by omega⟩ ⟨2560 + j.val, by omega⟩) = (W5 m c main_v11_6 : Vec Ideal S16384x1024 .f32) (ix2 r j) :=
  (X13_at Vr _ _ _).trans ((hr_eq S _ _ _).trans (r11_6_at m c r j).symm)

theorem e131 (r : Fin 16384) (j : Fin 1024) :
    X13 Vr (ix3 ⟨r.val / 8192, by omega⟩ ⟨r.val % 8192, by omega⟩ ⟨3584 + j.val, by omega⟩) = (W5 m c main_v11_7 : Vec Ideal S16384x1024 .f32) (ix2 r j) :=
  (X13_at Vr _ _ _).trans ((hr_eq S _ _ _).trans (r11_7_at m c r j).symm)

end Cert.Proof.Equal

end
-- ==== Proof.EqualArr.lean ====
module

public import proofs.«01_k».proof.Proof.Equal

@[expose] public section

/-! The reference's seven results, as its run leaves them, are the kernel's. -/

set_option maxRecDepth 16384
set_option maxHeartbeats 1000000

noncomputable section

namespace Cert.Proof.Equal

open Idealize.ShloMosaic Idealize.ShloMosaic.TcCoe Idealize.ShloMosaic.Tactic
open Cert.ReferenceIdeal Cert.ReferenceIdeal.Gen Cert.ReferenceIdeal.Value
open Cert.Proof.Ref
open Cert.Proof.KernelIdeal.Attn (W5)

variable {m : (ℓ : Loc Cert.KernelIdeal.nD Cert.KernelIdeal.τ Cert.KernelIdeal.sig) → Buf (Elt Ideal) ℓ} {c : Dev Cert.KernelIdeal.nD} {Vr : Valuation τ sig (Elt Ideal)} (S : Same m c Vr)
include S

theorem a112 (R : Reals m c) : (truncf .bf16 (shapeCast S16384x512 (mulf (mulf (mulf (res_main_v95 Vr) (broadcastInDim S2x8192x4x128 ![0, 1, 2, 3] bcast_S2x8192x4x1_S2x8192x4x128_0_1_2_3 (Host.rsqrt (addf (Host.divf (broadcastInDim S2x8192x4x1 ![0, 1, 2] bcast_S2x8192x4_S2x8192x4x1_0_1_2 (Host.reduceAdd (mulf (res_main_v95 Vr) (res_main_v95 Vr)) (constant (F := Ideal) S_ .f32 0x00000000#32) reducesTo_S2x8192x4x128_S2x8192x4_d3 h_S_)) (broadcastInDim S2x8192x4x1 ![] bcast_S_S2x8192x4x1 (constant (F := Ideal) S_ .f32 0x43000000#32))) (broadcastInDim S2x8192x4x1 ![] bcast_S_S2x8192x4x1 (constant (F := Ideal) S_ .f32 0x358637BD#32)))))) (broadcastInDim S2x8192x4x128 ![0, 1, 2, 3] bcast_S1x1x1x128_S2x8192x4x128_0_1_2_3 (broadcastInDim S1x1x1x128 ![3] bcast_S128_S1x1x1x128_3 (Vr (Proc.devRef .tc main_arg8))))) (broadcastInDim S2x8192x4x128 ![] bcast_S_S2x8192x4x128 (constant (F := Ideal) S_ .f32 0x3F4CCCCD#32))) shapeCasts_S2x8192x4x128_S16384x512) bitsLt_bf16_f32 : FVec Ideal S16384x512 .bf16) = (W5 m c (Proc.devRef .tc Cert.KernelIdeal.main_v13) : FVec Ideal S16384x512 .bf16) := by
  funext y
  idx_vars y
  exact (v112g (X95 Vr) (A8 Vr) y0 y1).trans (e112 S R y0 y1)

theorem a113 : (shapeCast S1x65536x128 (res_main_v15 Vr) shapeCasts_S2x8192x512_S1x65536x128 : FVec Ideal S1x65536x128 .f32) = (W5 m c (Proc.devRef .tc Cert.KernelIdeal.main_v11_2) : FVec Ideal S1x65536x128 .f32) := by
  funext y
  idx_vars y
  obtain rfl : y0 = 0 := Subsingleton.elim _ _
  exact (v113g (X15 Vr) y1 y2).trans (e113 S y1 y2)

theorem a114 : (shapeCast S1x65536x128 (res_main_v16 Vr) shapeCasts_S2x8192x512_S1x65536x128 : FVec Ideal S1x65536x128 .f32) = (W5 m c (Proc.devRef .tc Cert.KernelIdeal.main_v11_3) : FVec Ideal S1x65536x128 .f32) := by
  funext y
  idx_vars y
  obtain rfl : y0 = 0 := Subsingleton.elim _ _
  exact (v113g (X16 Vr) y1 y2).trans (e114 S y1 y2)

theorem a115 : (shapeCast S16384x512 (extractStridedSlice S2x8192x512 ![0, 0, 1536] (res_main_v13 Vr) slices_S2x8192x4608_S2x8192x512_0_0_1536) shapeCasts_S2x8192x512_S16384x512 : FVec Ideal S16384x512 .f32) = (W5 m c (Proc.devRef .tc Cert.KernelIdeal.main_v11_4) : FVec Ideal S16384x512 .f32) := by
  funext y
  idx_vars y
  exact (v115g (X13 Vr) y0 y1).trans (e115 S y0 y1)

theorem a129 : (shapeCast S16384x512 (mulf (mulf (res_main_v18 Vr) (broadcastInDim S2x8192x512 ![0, 1, 2] bcast_S2x8192x1_S2x8192x512_0_1_2 (Host.rsqrt (addf (Host.divf (broadcastInDim S2x8192x1 ![0, 1] bcast_S2x8192_S2x8192x1_0_1 (Host.reduceAdd (mulf (res_main_v18 Vr) (res_main_v18 Vr)) (constant (F := Ideal) S_ .f32 0x00000000#32) reducesTo_S2x8192x512_S2x8192_d2 h_S_)) (broadcastInDim S2x8192x1 ![] bcast_S_S2x8192x1 (constant (F := Ideal) S_ .f32 0x44000000#32))) (broadcastInDim S2x8192x1 ![] bcast_S_S2x8192x1 (constant (F := Ideal) S_ .f32 0x358637BD#32)))))) (broadcastInDim S2x8192x512 ![0, 1, 2] bcast_S1x1x512_S2x8192x512_0_1_2 (broadcastInDim S1x1x512 ![2] bcast_S512_S1x1x512_2 (Vr (Proc.devRef .tc main_arg9))))) shapeCasts_S2x8192x512_S16384x512 : FVec Ideal S16384x512 .f32) = (W5 m c (Proc.devRef .tc Cert.KernelIdeal.main_v11_5) : FVec Ideal S16384x512 .f32) := by
  funext y
  idx_vars y
  exact (v129g (X18 Vr) (A9 Vr) y0 y1).trans (e129 S y0 y1)

theorem a130 : (shapeCast S16384x1024 (extractStridedSlice S2x8192x1024 ![0, 0, 2560] (res_main_v13 Vr) slices_S2x8192x4608_S2x8192x1024_0_0_2560) shapeCasts_S2x8192x1024_S16384x1024 : FVec Ideal S16384x1024 .f32) = (W5 m c (Proc.devRef .tc Cert.KernelIdeal.main_v11_6) : FVec Ideal S16384x1024 .f32) := by
  funext y
  idx_vars y
  exact (v130g (X13 Vr) y0 y1).trans (e130 S y0 y1)

theorem a131 : (shapeCast S16384x1024 (extractStridedSlice S2x8192x1024 ![0, 0, 3584] (res_main_v13 Vr) slices_S2x8192x4608_S2x8192x1024_0_0_3584) shapeCasts_S2x8192x1024_S16384x1024 : FVec Ideal S16384x1024 .f32) = (W5 m c (Proc.devRef .tc Cert.KernelIdeal.main_v11_7) : FVec Ideal S16384x1024 .f32) := by
  funext y
  idx_vars y
  exact (v131g (X13 Vr) y0 y1).trans (e131 S y0 y1)

end Cert.Proof.Equal

end
-- ==== Proof.FfnSpec.lean ====
module

public import Idealize.ShloMosaic.Lib.Pointwise

@[expose] public section

/-! One row of the feed-forward part: the row normalised, its hidden entries, their product with the second matrix,
    normalised again and added to the row. -/

noncomputable section

namespace Cert.Proof.Ffn

open Idealize.ShloMosaic

/-- One entry of a row after root-mean-square normalisation. -/
def rms (x g : Fin 1024 → EReal) (i : Fin 1024) : EReal :=
  x i * Ideal.rsqrt (Ideal.div (∑ j, x j * x j) (Ideal.ofBits .f32 0x44800000#32) + Ideal.ofBits .f32 0x358637BD#32) * g i

/-- A row times a column of a matrix. -/
def col (h w : Fin 1024 → EReal) : EReal := ∑ i, h i * w i

/-- A hidden entry: the gate, weighted by its logistic, times the other half. -/
def act (h wg wu : Fin 1024 → EReal) : EReal := col h wg * Ideal.logistic (col h wg) * col h wu

/-- The row's product with the second matrix, hidden entry by hidden entry. -/
def down (h : Fin 1024 → EReal) (w1 : Fin 1024 → Fin 5632 → EReal) (w2 : Fin 2816 → Fin 1024 → EReal) (j : Fin 1024) : EReal :=
  ∑ k : Fin 2816, act h (fun i => w1 i ⟨k, by omega⟩) (fun i => w1 i ⟨2816 + k, by omega⟩) * w2 k j

/-- The row after the feed-forward part. -/
def ffn (x g : Fin 1024 → EReal) (w1 : Fin 1024 → Fin 5632 → EReal) (w2 : Fin 2816 → Fin 1024 → EReal) (gp : Fin 1024 → EReal) (j : Fin 1024) : EReal :=
  x j + rms (fun j => down (rms x g) w1 w2 j) gp j

/-- A sum over 2816 entries, in eleven blocks of 256. -/
theorem sum_blocks (f : Fin 2816 → EReal) : ∑ k, f k
    = (∑ k : Fin 256, f ⟨k, by omega⟩) + (∑ k : Fin 256, f ⟨256 + k, by omega⟩) + (∑ k : Fin 256, f ⟨512 + k, by omega⟩)
      + (∑ k : Fin 256, f ⟨768 + k, by omega⟩) + (∑ k : Fin 256, f ⟨1024 + k, by omega⟩) + (∑ k : Fin 256, f ⟨1280 + k, by omega⟩)
      + (∑ k : Fin 256, f ⟨1536 + k, by omega⟩) + (∑ k : Fin 256, f ⟨1792 + k, by omega⟩) + (∑ k : Fin 256, f ⟨2048 + k, by omega⟩)
      + (∑ k : Fin 256, f ⟨2304 + k, by omega⟩) + (∑ k : Fin 256, f ⟨2560 + k, by omega⟩) := by
  have e : ∑ k, f k = ∑ p : Fin 11 × Fin 256, f (finProdFinEquiv p) := (Equiv.sum_comp (finProdFinEquiv (m := 11) (n := 256)) f).symm
  rw [e, Fintype.sum_prod_type]
  simp only [Fin.sum_univ_succ (n := 10), Fin.sum_univ_succ (n := 9), Fin.sum_univ_succ (n := 8), Fin.sum_univ_succ (n := 7), Fin.sum_univ_succ (n := 6), Fin.sum_univ_succ (n := 5), Fin.sum_univ_succ (n := 4), Fin.sum_univ_succ (n := 3), Fin.sum_univ_succ (n := 2), Fin.sum_univ_succ (n := 1), Fin.sum_univ_succ (n := 0), Fin.sum_univ_zero, add_zero, ← add_assoc]
  refine congrArg₂ _ (congrArg₂ _ (congrArg₂ _ (congrArg₂ _ (congrArg₂ _ (congrArg₂ _ (congrArg₂ _ (congrArg₂ _ (congrArg₂ _ (congrArg₂ _ ?_ ?_) ?_) ?_) ?_) ?_) ?_) ?_) ?_) ?_) ?_
  all_goals refine Finset.sum_congr rfl fun k _ => congrArg f (Fin.ext ?_)
  all_goals simp [finProdFinEquiv]
  all_goals try omega

end Cert.Proof.Ffn
-- ==== Proof.FfnPay.lean ====
module

public import proofs.«01_k».proof.Proof.FfnSpec
public import proofs.«01_k».proof.Proof.Gen.Kernel2Ideal.Frame

@[expose] public section

/-! The stages of the feed-forward call's body, at an index. -/

set_option maxRecDepth 16384
set_option maxHeartbeats 2000000

noncomputable section

namespace Cert.Proof.Ffn

open Cert.Kernel2Ideal Cert.Kernel2Ideal.Gen
open Idealize.ShloMosaic Idealize.ShloMosaic.TcCoe Idealize.ShloMosaic.Tactic

/-- What one block of 256 hidden entries adds. -/
def tile (H : FVec Ideal S512x1024 .bf16) (A B : FVec Ideal S1024x256 .bf16) (C : FVec Ideal S256x1024 .bf16) (r : Fin 512) (j : Fin 1024) : EReal :=
  ∑ k : Fin 256, act (fun i => H (ix2 r i)) (fun i => A (ix2 i k)) (fun i => B (ix2 i k)) * C (ix2 k j)

variable (X : FVec Ideal S512x1024 .f32) (G : FVec Ideal S1x1024 .f32) (H : FVec Ideal S512x1024 .bf16) (Z : FVec Ideal S512x1024 .f32)
variable (A B A' B' A'' B'' : FVec Ideal S1024x256 .bf16) (C C' C'' : FVec Ideal S256x1024 .bf16) (r : Fin 512) (j : Fin 1024)

theorem pay1_at : k0_pay1 (F := Ideal) X (ix2 r j) = X (ix2 r j) := by
  pointwise [k0_pay1]

theorem pay2_at : k0_pay2 (F := Ideal) X G (ix2 r j) = rms (fun i => X (ix2 r i)) (fun i => G (ix2 0 i)) j := by
  unfold rms
  pointwise [k0_pay2, k0_pay1]

theorem pay3_at : k0_pay3 (F := Ideal) X G A B C (ix2 r j) = tile (k0_pay2 (F := Ideal) X G) A B C r j := by
  unfold tile act col
  pointwise [k0_pay3]

theorem pay6_at : k0_pay6 (F := Ideal) H Z (k0_pay10 (F := Ideal) H A) (k0_pay5 (F := Ideal) B) C A' B' C' A'' B'' C'' (ix2 r j)
    = Z (ix2 r j) + tile H A B C r j + tile H A' B' C' r j + tile H A'' B'' C'' r j := by
  unfold tile act col
  pointwise [k0_pay6, k0_pay10, k0_pay5]

theorem pay7_at : k0_pay7 (F := Ideal) H Z A B C A' B' C' (ix2 r j) = Z (ix2 r j) + tile H A B C r j + tile H A' B' C' r j := by
  unfold tile act col
  pointwise [k0_pay7]

theorem pay9_at : k0_pay9 (F := Ideal) H Z (k0_pay8 (F := Ideal) H A B) C A' B' C' A'' B'' C'' (ix2 r j)
    = Z (ix2 r j) + tile H A B C r j + tile H A' B' C' r j + tile H A'' B'' C'' r j := by
  unfold tile act col
  pointwise [k0_pay9, k0_pay8]

theorem pay11_at : k0_pay11 (F := Ideal) X H Z (k0_pay10 (F := Ideal) H A) B C A' B' C' G (ix2 r j)
    = X (ix2 r j) + rms (fun j => Z (ix2 r j) + tile H A B C r j + tile H A' B' C' r j) (fun i => G (ix2 0 i)) j := by
  unfold rms tile act col
  pointwise [k0_pay11, k0_pay10]

end Cert.Proof.Ffn
-- ==== Proof.FfnArr.lean ====
module

public import proofs.«01_k».proof.Proof.FfnPay
public import Idealize.ShloMosaic.Lib.Pipeline.ValueKit
public import Idealize.ShloMosaic.Lib.Tactic.CleanTypes

@[expose] public section

/-! The feed-forward call's result, row by row. -/

set_option maxRecDepth 16384
set_option maxHeartbeats 4000000

noncomputable section

namespace Cert.Proof.Ffn

open Cert.Kernel2Ideal Cert.Kernel2Ideal.Gen
open Idealize.ShloMosaic Idealize.ShloMosaic.TcCoe Idealize.ShloMosaic.Tactic

section
variable (X : Vec Ideal S512x1024 .f32) (G : Vec Ideal S1x1024 .f32) (W : Vec Ideal S1024x5632 .bf16) (U : Vec Ideal S2816x1024 .bf16) (Q : Vec Ideal S1x1024 .f32)

theorem hidden_at (r : Fin 512) (i : Fin 1024) : k0_pay12 X G W U Q (ix2 r i) = rms (fun i => X (ix2 r i)) (fun i => G (ix2 0 i)) i := by
  unfold k0_pay12
  rw [pay2_at]
  unfold rms
  pointwise

/-- One block of hidden entries, read at its place in the two matrices. -/
theorem tile_at (a b d : ℕ) (ha : ∀ x, (![0, a] : Fin 2 → ℕ) x + S1024x256.size x ≤ S1024x5632.size x) (hb : ∀ x, (![0, b] : Fin 2 → ℕ) x + S1024x256.size x ≤ S1024x5632.size x) (hd : ∀ x, (![d, 0] : Fin 2 → ℕ) x + S256x1024.size x ≤ S2816x1024.size x)
    (hb' : b = 2816 + a) (hd' : d = a) (ha' : a + 256 ≤ 2816) (H : FVec Ideal S512x1024 .bf16) (r : Fin 512) (j : Fin 1024) :
    tile H (View.ld W (Rect.unit (s := S1024x5632) ![0, a] S1024x256.size ha)) (View.ld W (Rect.unit (s := S1024x5632) ![0, b] S1024x256.size hb)) (View.ld U (Rect.unit (s := S2816x1024) ![d, 0] S256x1024.size hd)) r j
      = ∑ k : Fin 256, (fun k : Fin 2816 => act (fun i => H (ix2 r i)) (fun i => W (ix2 i ⟨k, by omega⟩)) (fun i => W (ix2 i ⟨2816 + k, by omega⟩)) * U (ix2 k j)) ⟨a + k, by omega⟩ := by
  subst hb' hd'
  unfold tile
  refine Finset.sum_congr rfl fun k _ => ?_
  refine congrArg₂ _ (congrArg₂ (act _) ?_ ?_) ?_
  · funext i
    refine congrArg W (funext fun x => Fin.ext ?_)
    fin_cases x <;> simp [Rect.emb_apply] <;> omega
  · funext i
    refine congrArg W (funext fun x => Fin.ext ?_)
    fin_cases x <;> simp [Rect.emb_apply] <;> omega
  · refine congrArg U (funext fun x => Fin.ext ?_)
    fin_cases x <;> simp [Rect.emb_apply] <;> omega

theorem out_at (r : Fin 512) (j : Fin 1024) : out0_5 X G W U Q (ix2 r j)
    = ffn (fun i => X (ix2 r i)) (fun i => G (ix2 0 i)) (fun i k => W (ix2 i k)) (fun k j => U (ix2 k j)) (fun i => Q (ix2 0 i)) j := by
  have hh : (fun i => k0_pay12 X G W U Q (ix2 r i)) = rms (fun i => X (ix2 r i)) (fun i => G (ix2 0 i)) := funext fun i => hidden_at X G W U Q r i
  have h4 : k0_pay4 (View.ld X r0_0) (View.ld G r0_1) (View.ld W r0_5) = k0_pay10 (k0_pay12 X G W U Q) (View.ld W r0_5) := rfl
  have h3 : ∀ r j, k0_pay3 (View.ld X r0_0) (View.ld G r0_1) (View.ld W r0_2) (View.ld W r0_3) (View.ld U r0_4) (ix2 r j) = tile (k0_pay12 X G W U Q) (View.ld W r0_2) (View.ld W r0_3) (View.ld U r0_4) r j := fun r j => pay3_at _ _ _ _ _ r j
  have h1 : View.ld X r0_0 = X := by
    funext y
    exact congrArg X (funext fun x => Fin.ext (by simp [Rect.emb_apply]; fin_cases x <;> rfl))
  have h2 : View.ld Q r0_1 = Q := by
    funext y
    exact congrArg Q (funext fun x => Fin.ext (by simp [Rect.emb_apply]; fin_cases x <;> rfl))
  unfold out0_5
  refine View.canon_eq_of_allAt _ _ _ (cover0_5 _ _) ?_
  refine View.allAt_cons _ _ _ ?_ (View.allAt_nil _ _)
  intro x hx
  have e : x = ix2 r j := by
    funext a
    have := congrArg (fun y : S512x1024.Idx => (y a).val) hx
    apply Fin.ext
    rw [← this]
    simp [Rect.emb_apply]; fin_cases a <;> simp
  subst e
  rw [h4, pay11_at]
  simp only [pay9_at, pay7_at, pay6_at, h3]
  rw [h1, h2]
  simp only [tile_at W U 0 2816 0 _ _ _ rfl rfl (by omega), tile_at W U 256 3072 256 _ _ _ rfl rfl (by omega), tile_at W U 512 3328 512 _ _ _ rfl rfl (by omega),
    tile_at W U 768 3584 768 _ _ _ rfl rfl (by omega), tile_at W U 1024 3840 1024 _ _ _ rfl rfl (by omega), tile_at W U 1280 4096 1280 _ _ _ rfl rfl (by omega),
    tile_at W U 1536 4352 1536 _ _ _ rfl rfl (by omega), tile_at W U 1792 4608 1792 _ _ _ rfl rfl (by omega), tile_at W U 2048 4864 2048 _ _ _ rfl rfl (by omega),
    tile_at W U 2304 5120 2304 _ _ _ rfl rfl (by omega), tile_at W U 2560 5376 2560 _ _ _ rfl rfl (by omega), hh]
  rw [pay1_at]
  unfold ffn
  congr 2
  funext j
  unfold down
  rw [sum_blocks]
  simp only [zero_add]
end

section
variable (m : (ℓ : Loc nD τ sig) → Buf (Elt Ideal) ℓ) (c : Dev nD)

/-! The arguments at their plain types, and what the host lines hand to the call. -/

def B0 : FVec Ideal S2x8192x1024 .f32 := m ((c : Thread nD τ).loc main_arg0)
def B1 : FVec Ideal S1024 .f32 := m ((c : Thread nD τ).loc main_arg1)
def B2 : FVec Ideal S1024x5632 .f32 := m ((c : Thread nD τ).loc main_arg2)
def B3 : FVec Ideal S2816x1024 .f32 := m ((c : Thread nD τ).loc main_arg3)
def B4 : FVec Ideal S1024 .f32 := m ((c : Thread nD τ).loc main_arg4)

theorem V_v2 : (V m c main_v2 : Vec Ideal S16384x1024 .f32) = shapeCast S16384x1024 (B0 m c) shapeCasts_S2x8192x1024_S16384x1024 := by
  unfold V
  after_results_simp
  try rfl

theorem V_v3 : (V m c main_v3 : Vec Ideal S1x1024 .f32) = shapeCast S1x1024 (B1 m c) shapeCasts_S1024_S1x1024 := by
  unfold V
  after_results_simp
  try rfl

theorem V_v4 : (V m c main_v4 : Vec Ideal S1x1024 .f32) = shapeCast S1x1024 (B4 m c) shapeCasts_S1024_S1x1024 := by
  unfold V
  after_results_simp
  try rfl

theorem V_v0 : (V m c main_v0 : Vec Ideal S1024x5632 .bf16) = (truncf .bf16 (B2 m c) bitsLt_bf16_f32 : FVec Ideal S1024x5632 .bf16) := by
  unfold V
  after_results_simp
  try rfl

theorem V_v1 : (V m c main_v1 : Vec Ideal S2816x1024 .bf16) = (truncf .bf16 (B3 m c) bitsLt_bf16_f32 : FVec Ideal S2816x1024 .bf16) := by
  unfold V
  after_results_simp
  try rfl

theorem rows_at (Y : FVec Ideal S2x8192x1024 .f32) (R : Fin 16384) (j : Fin 1024) : (shapeCast S16384x1024 Y shapeCasts_S2x8192x1024_S16384x1024 : FVec Ideal S16384x1024 .f32) (ix2 R j)
    = Y (ix3 ⟨R.val / 8192, by omega⟩ ⟨R.val % 8192, by omega⟩ j) := by
  pointwise

theorem row_at (Y : FVec Ideal S1024 .f32) (i : Fin 1024) : (shapeCast S1x1024 Y shapeCasts_S1024_S1x1024 : FVec Ideal S1x1024 .f32) (ix2 0 i) = Y (ix1 i) := by
  pointwise

/-- Row `R` of the result, from the arguments. -/
def row (R : Fin 16384) (j : Fin 1024) : EReal :=
  ffn (fun i => B0 m c (ix3 ⟨R.val / 8192, by omega⟩ ⟨R.val % 8192, by omega⟩ i)) (fun i => B1 m c (ix1 i)) (fun i k => B2 m c (ix2 i k)) (fun k j => B3 m c (ix2 k j)) (fun i => B4 m c (ix1 i)) j

theorem idx : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![t.val, 0] := (by decide +kernel : ∀ t : Fin grid0.N, _)

theorem block_at (t : Fin cfg0.N) (ht : t.val < 32) (r : Fin 512) (j : Fin 1024) :
    out0_5 (iblk m c 0 t) (iblk m c 1 t) (iblk m c 2 t) (iblk m c 3 t) (iblk m c 4 t) (ix2 r j) = row m c ⟨512 * t.val + r.val, by omega⟩ j := by
  obtain ⟨i0, i1, i2, i3, i4, -⟩ := idx t
  rw [out_at]
  unfold row
  congr 1
  · funext i
    refine Eq.trans ?_ ((congrFun (V_v2 m c) (ix2 ⟨512 * t.val + r.val, by omega⟩ i)).trans (rows_at _ _ _))
    blk_ext [iblk, i0]
  · funext i
    refine Eq.trans ?_ ((congrFun (V_v3 m c) (ix2 0 i)).trans (row_at _ _))
    blk_ext [iblk, i1]
  · funext i k
    refine Eq.trans ?_ (congrFun (V_v0 m c) (ix2 i k))
    blk_ext [iblk, i2]
  · funext k j
    refine Eq.trans ?_ (congrFun (V_v1 m c) (ix2 k j))
    blk_ext [iblk, i3]
  · funext i
    refine Eq.trans ?_ ((congrFun (V_v4 m c) (ix2 0 i)).trans (row_at _ _))
    blk_ext [iblk, i4]

theorem arr : ((dats m 0 c).arrAt 5 cfg0.N : Vec Ideal S16384x1024 .f32) = fun y => row m c (y 0) (y 1) := by
  refine (dats m 0 c).arrAt_eq_of_covers 5 _ (by decide +kernel) fun t hf y => ?_
  have hN : t.val < 32 := t.isLt
  have hi : win0_5.index t = ![t.val, 0] := by have := idx t; simp only [this]
  rw [after0_5]
  change out0_5 (iblk m c 0 t) (iblk m c 1 t) (iblk m c 2 t) (iblk m c 3 t) (iblk m c 4 t) (y : S512x1024.Idx) = _
  change S512x1024.Idx at y
  idx_vars y
  rw [block_at m c t hN]
  congr 1 <;> apply Fin.ext <;> blk_simp [hi] <;> (try dsimp only) <;> omega
end

end Cert.Proof.Ffn
-- ==== Proof.FfnRef.lean ====
module

public import proofs.«01_k».proof.Proof.FfnSpec
public import proofs.«01_k».proof.Proof.Gen.Reference2Ideal.Run
public import Idealize.ShloMosaic.Lib.Tactic.CleanTypes

@[expose] public section

/-! The reference's lines of the feed-forward part, row by row. -/

set_option maxRecDepth 16384
set_option maxHeartbeats 4000000

noncomputable section

namespace Cert.Proof.Ffn.Ref

open Cert.Reference2Ideal Cert.Reference2Ideal.Gen Cert.Reference2Ideal.Value
open Idealize.ShloMosaic Idealize.ShloMosaic.TcCoe Idealize.ShloMosaic.Tactic

variable (X : FVec Ideal S2x8192x1024 .f32) (G Q : FVec Ideal S1024 .f32) (W : FVec Ideal S1024x5632 .f32) (U : FVec Ideal S2816x1024 .f32)

/-- The normalised rows. -/
def norm (X : FVec Ideal S2x8192x1024 .f32) (G : FVec Ideal S1024 .f32) : FVec Ideal S2x8192x1024 .f32 :=
  mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 G))

/-- The two halves of the hidden entries, before the gate. -/
def both (H : FVec Ideal S2x8192x1024 .f32) (W : FVec Ideal S1024x5632 .f32) : FVec Ideal S2x8192x5632 .f32 :=
  Host.dotGeneral dot_S2x8192x1024_S1024x5632_S2x8192x5632_2_0_01_1_n_n none H W

/-- The hidden entries times the second matrix. -/
def out (P : FVec Ideal S2x8192x5632 .f32) (U : FVec Ideal S2816x1024 .f32) : FVec Ideal S2x8192x1024 .f32 :=
  Host.dotGeneral dot_S2x8192x2816_S2816x1024_S2x8192x1024_2_0_01_1_n_n none (mulf (mulf (extractStridedSlice S2x8192x2816 ![0, 0, 0] P slices_S2x8192x5632_S2x8192x2816_0_0_0) (Host.divf (broadcastInDim S2x8192x2816 ![] bcast_S_S2x8192x2816 (constant S_ .f32 0x3F800000#32)) (addf (broadcastInDim S2x8192x2816 ![] bcast_S_S2x8192x2816 (constant S_ .f32 0x3F800000#32)) (Host.exp (Host.negf (extractStridedSlice S2x8192x2816 ![0, 0, 0] P slices_S2x8192x5632_S2x8192x2816_0_0_0)))))) (extractStridedSlice S2x8192x2816 ![0, 0, 2816] P slices_S2x8192x5632_S2x8192x2816_0_0_2816)) U

theorem norm_at (b : Fin 2) (s : Fin 8192) (i : Fin 1024) : norm X G (ix3 b s i) = rms (fun i => X (ix3 b s i)) (fun i => G (ix1 i)) i := by
  unfold norm rms
  pointwise

theorem both_at (b : Fin 2) (s : Fin 8192) (k : Fin 5632) : both X W (ix3 b s k) = col (fun i => X (ix3 b s i)) (fun i => W (ix2 i k)) := by
  unfold both col
  pointwise

theorem out_at (P : FVec Ideal S2x8192x5632 .f32) (b : Fin 2) (s : Fin 8192) (j : Fin 1024) : out P U (ix3 b s j)
    = ∑ k : Fin 2816, P (ix3 b s ⟨k, by omega⟩) * Ideal.logistic (P (ix3 b s ⟨k, by omega⟩)) * P (ix3 b s ⟨2816 + k, by omega⟩) * U (ix2 k j) := by
  unfold out Ideal.logistic
  pointwise

theorem res_eq (m : (ℓ : Loc nD τ sig) → Buf (Elt Ideal) ℓ) (c : Dev nD) : (res_main_v33 m c : FVec Ideal S16384x1024 .f32)
    = shapeCast _ (addf (m ((c.tc : Thread nD τ).loc main_arg0)) (norm (out (both (norm (m ((c.tc : Thread nD τ).loc main_arg0)) (m ((c.tc : Thread nD τ).loc main_arg1))) (m ((c.tc : Thread nD τ).loc main_arg2))) (m ((c.tc : Thread nD τ).loc main_arg3))) (m ((c.tc : Thread nD τ).loc main_arg4))) : FVec Ideal S2x8192x1024 .f32) shapeCasts_S2x8192x1024_S16384x1024 := rfl

theorem rows_at (Y : FVec Ideal S2x8192x1024 .f32) (R : Fin 16384) (j : Fin 1024) : (shapeCast S16384x1024 Y shapeCasts_S2x8192x1024_S16384x1024 : FVec Ideal S16384x1024 .f32) (ix2 R j)
    = Y (ix3 ⟨R.val / 8192, by omega⟩ ⟨R.val % 8192, by omega⟩ j) := by
  pointwise

theorem whole_at (R : Fin 16384) (j : Fin 1024) : (shapeCast S16384x1024 (addf X (norm (out (both (norm X G) W) U) Q) : FVec Ideal S2x8192x1024 .f32) shapeCasts_S2x8192x1024_S16384x1024 : FVec Ideal S16384x1024 .f32) (ix2 R j)
    = ffn (fun i => X (ix3 ⟨R.val / 8192, by omega⟩ ⟨R.val % 8192, by omega⟩ i)) (fun i => G (ix1 i)) (fun i k => W (ix2 i k)) (fun k j => U (ix2 k j)) (fun i => Q (ix1 i)) j := by
  rw [rows_at]
  show X _ + norm _ Q _ = _
  rw [norm_at]
  unfold ffn down act
  simp only [out_at, both_at, norm_at]

end Cert.Proof.Ffn.Ref
-- ==== Proof.FfnEqual.lean ====
module

public import proofs.«01_k».proof.Proof.FfnArr
public import proofs.«01_k».proof.Proof.FfnRef
public import proofs.«01_k».proof.Proof.Gen.Kernel2Ideal.Value

@[expose] public section

/-! The feed-forward call and the reference's lines end with the same array. -/

set_option maxRecDepth 16384

noncomputable section

namespace Cert.Proof.Ffn

open Idealize.ShloMosaic Idealize.ShloMosaic.TcCoe Idealize.ShloMosaic.Tactic

variable (m : (ℓ : Loc Cert.Kernel2Ideal.nD Cert.Kernel2Ideal.τ Cert.Kernel2Ideal.sig) → Buf (Elt Ideal) ℓ)
variable (m' : (ℓ : Loc Cert.Reference2Ideal.nD Cert.Reference2Ideal.τ Cert.Reference2Ideal.sig) → Buf (Elt Ideal) ℓ) (c : Dev Cert.Kernel2Ideal.nD)

theorem equal
    (h0 : (m' ((c.tc : Thread Cert.Reference2Ideal.nD Cert.Reference2Ideal.τ).loc Cert.Reference2Ideal.main_arg0) : FVec Ideal Cert.Kernel2Ideal.S2x8192x1024 .f32) = B0 m c)
    (h1 : (m' ((c.tc : Thread Cert.Reference2Ideal.nD Cert.Reference2Ideal.τ).loc Cert.Reference2Ideal.main_arg1) : FVec Ideal Cert.Kernel2Ideal.S1024 .f32) = B1 m c)
    (h2 : (m' ((c.tc : Thread Cert.Reference2Ideal.nD Cert.Reference2Ideal.τ).loc Cert.Reference2Ideal.main_arg2) : FVec Ideal Cert.Kernel2Ideal.S1024x5632 .f32) = B2 m c)
    (h3 : (m' ((c.tc : Thread Cert.Reference2Ideal.nD Cert.Reference2Ideal.τ).loc Cert.Reference2Ideal.main_arg3) : FVec Ideal Cert.Kernel2Ideal.S2816x1024 .f32) = B3 m c)
    (h4 : (m' ((c.tc : Thread Cert.Reference2Ideal.nD Cert.Reference2Ideal.τ).loc Cert.Reference2Ideal.main_arg4) : FVec Ideal Cert.Kernel2Ideal.S1024 .f32) = B4 m c) :
    (Cert.Reference2Ideal.Value.res_main_v33 m' c : FVec Ideal Cert.Kernel2Ideal.S16384x1024 .f32)
      = (Cert.Kernel2Ideal.Gen.dats m 0 c).arrAt 5 Cert.Kernel2Ideal.cfg0.N := by
  rw [arr]
  refine (Ref.res_eq m' c).trans ?_
  funext y
  change Cert.Kernel2Ideal.S16384x1024.Idx at y
  idx_vars y
  refine (Ref.whole_at _ _ _ _ _ y0 y1).trans ?_
  show _ = row m c y0 y1
  unfold row
  rw [← h0, ← h1, ← h2, ← h3, ← h4]

end Cert.Proof.Ffn
-- ==== Proof.MixSpec.lean ====
module

public import Idealize.ShloMosaic.Lib.Pointwise

@[expose] public section

/-! One row of the merge of the branches: the spatially gated entries, the two branches weighted by the logistics of
    their gates, the product with the output matrix, normalised and added to the row. -/

noncomputable section

namespace Cert.Proof.Mix

open Idealize.ShloMosaic

/-- One entry of a row after root-mean-square normalisation. -/
def rms (x g : Fin 1024 → EReal) (i : Fin 1024) : EReal :=
  x i * Ideal.rsqrt (Ideal.div (∑ j, x j * x j) (Ideal.ofBits .f32 0x44800000#32) + Ideal.ofBits .f32 0x358637BD#32) * g i

/-- One spatially gated entry: the positions of the chunk up to `t`, weighted, and the bias. -/
def gated (u : EReal) (w v : Fin 128 → EReal) (b : EReal) (t : Fin 128) : EReal :=
  u * ((∑ s : Fin 128, (if s.val ≤ t.val then w s else 0) * v s) + b)

/-- The merged row, at one entry: each branch's product with its matrix, weighted by the logistic of its gate. -/
def merged (a b : Fin 512 → EReal) (ga gb : Fin 1024 → EReal) (wa wb : Fin 512 → Fin 1024 → EReal) (j : Fin 1024) : EReal :=
  Ideal.logistic (ga j) * (∑ k, a k * wa k j) + Ideal.logistic (gb j) * (∑ k, b k * wb k j)

/-- The row after the merge. -/
def mix (x m : Fin 1024 → EReal) (wo : Fin 1024 → Fin 1024 → EReal) (g : Fin 1024 → EReal) (j : Fin 1024) : EReal :=
  x j + rms (fun j => ∑ k, m k * wo k j) g j

/-- The comparison of two positions of a chunk, in 32-bit words. -/
theorem at_least : ∀ p q : Fin 128, IntOp.cmpi CmpIPredicate.sge (BitVec.ofNat 32 p.val) (BitVec.ofNat 32 q.val) = if q.val ≤ p.val then 1#1 else 0#1 := by
  decide +kernel

end Cert.Proof.Mix
-- ==== Proof.MixPay.lean ====
module

public import proofs.«01_k».proof.Proof.MixSpec
public import proofs.«01_k».proof.Proof.Gen.Kernel3Ideal.Frame

@[expose] public section

/-! The stages of the merge's body, at an index. -/

set_option maxRecDepth 16384
set_option maxHeartbeats 2000000

noncomputable section

namespace Cert.Proof.Mix

open Cert.Kernel3Ideal Cert.Kernel3Ideal.Gen
open Idealize.ShloMosaic Idealize.ShloMosaic.TcCoe Idealize.ShloMosaic.Tactic

section
variable (W : FVec Ideal S1x128x128 .bf16) (X B U : FVec Ideal S128x128 .f32) (p q : Fin 128)

theorem pay2_at : k0_pay2 (ix2 p q) = if q.val ≤ p.val then 1#1 else 0#1 := by
  pointwise [k0_pay2]
  exact at_least p q

/-- One gated tile: a chunk of rows, one group of columns. -/
theorem pay4_at : k0_pay4 (F := Ideal) W X B U (ix2 p q) = gated (U (ix2 p q)) (fun s => W (ix3 0 p s)) (fun s => X (ix2 s q)) (B (ix2 p q)) p := by
  unfold gated
  pointwise [k0_pay4, k0_pay3]
  congr 2
  refine Finset.sum_congr rfl fun s _ => ?_
  rw [pay2_at]
  by_cases h : s.val ≤ p.val <;> simp [h, Scalar.select]
end

section
variable (A S : FVec Ideal S512x512 .bf16) (WA WB : FVec Ideal S512x1024 .bf16) (GA GB : FVec Ideal S512x1024 .f32) (r : Fin 512) (j : Fin 1024)

theorem pay28_at : k0_pay28 (F := Ideal) A WA S WB GA GB (ix2 r j)
    = merged (fun k => A (ix2 r k)) (fun k => S (ix2 r k)) (fun j => GA (ix2 r j)) (fun j => GB (ix2 r j)) (fun k j => WA (ix2 k j)) (fun k j => WB (ix2 k j)) j := by
  unfold merged
  pointwise [k0_pay28]
end

section
variable (M : FVec Ideal S512x1024 .bf16) (WO : FVec Ideal S1024x1024 .bf16) (X : FVec Ideal S512x1024 .f32) (G : FVec Ideal S1x1024 .f32) (r : Fin 512) (j : Fin 1024)

theorem pay1_at : k0_pay1 (F := Ideal) M WO X G (ix2 r j)
    = mix (fun j => X (ix2 r j)) (fun k => M (ix2 r k)) (fun k j => WO (ix2 k j)) (fun j => G (ix2 0 j)) j := by
  unfold mix rms
  pointwise [k0_pay1]
end

end Cert.Proof.Mix
-- ==== Proof.MixTile.lean ====
module

public import proofs.«01_k».proof.Proof.MixPay
public import Idealize.ShloMosaic.Lib.Pipeline.ValueKit
public import Idealize.ShloMosaic.Lib.VecWindow

@[expose] public section

/-! The spatially gated block of 512 rows, which the body stores tile by tile and reads back whole. -/

set_option maxRecDepth 16384
set_option maxHeartbeats 4000000

noncomputable section

namespace Cert.Proof.Mix

open Cert.Kernel3Ideal Cert.Kernel3Ideal.Gen
open Idealize.ShloMosaic Idealize.ShloMosaic.TcCoe Idealize.ShloMosaic.Tactic

/-- An entry of the gated block: row `r` is place `r % 128` of its chunk, column `k` is of group `k / 128`. -/
def block (U V : Vec Ideal S512x512 .f32) (W : Vec Ideal S4x128x128 .bf16) (B : Vec Ideal S128x512 .f32) (r k : Fin 512) : EReal :=
  gated (U (ix2 r k)) (fun s => W (ix3 ⟨k.val / 128, by omega⟩ ⟨r.val % 128, by omega⟩ s)) (fun s => V (ix2 ⟨128 * (r.val / 128) + s.val, by omega⟩ k))
    (B (ix2 ⟨r.val % 128, by omega⟩ k)) ⟨r.val % 128, by omega⟩

variable (arg2 : Memref sig .tc .vmem S512x512 .f32) (harg2 : arg2.IsWhole) (arg3 : Memref sig .tc .vmem S512x512 .f32) (harg3 : arg3.IsWhole)
variable (arg7 : Memref sig .tc .vmem S4x128x128 .bf16) (harg7 : arg7.IsWhole) (arg8 : Memref sig .tc .vmem S128x512 .f32) (harg8 : arg8.IsWhole)
variable (U V : Vec Ideal S512x512 .f32) (W : Vec Ideal S4x128x128 .bf16) (B : Vec Ideal S128x512 .f32)

/-- One tile of it, from the loads at the tile's place. -/
theorem tile_at (o e g : ℕ) (ho : o % 128 = 0) (he : e = 128 * g) (h2 : ∀ a, (![o, e] : Fin 2 → ℕ) a + S128x128.size a ≤ S512x512.size a)
    (h7 : ∀ a, (![g, 0, 0] : Fin 3 → ℕ) a + S1x128x128.size a ≤ S4x128x128.size a) (h8 : ∀ a, (![0, e] : Fin 2 → ℕ) a + S128x128.size a ≤ S128x512.size a)
    (r k : Fin 512) (x : S128x128.Idx) (hx : (Rect.unit (s := S512x512) ![o, e] S128x128.size h2).emb x = ix2 r k) :
    k0_pay4 (F := Ideal) (View.readAt (Elt Ideal) arg7.view (Rect.unit (s := S4x128x128) ![g, 0, 0] S1x128x128.size h7).toLoadRect (harg7.unread W))
      (View.readAt (Elt Ideal) arg3.view (Rect.unit (s := S512x512) ![o, e] S128x128.size h2).toLoadRect (harg3.unread V))
      (View.readAt (Elt Ideal) arg8.view (Rect.unit (s := S128x512) ![0, e] S128x128.size h8).toLoadRect (harg8.unread B))
      (View.readAt (Elt Ideal) arg2.view (Rect.unit (s := S512x512) ![o, e] S128x128.size h2).toLoadRect (harg2.unread U)) x
      = block U V W B r k := by
  subst he
  simp only [View.readAt_eq_ld, Memref.IsWhole.read_unread]
  idx_vars x
  have e0 : o + x0.val = r.val := by
    have := congrArg (fun y : S512x512.Idx => (y 0).val) hx
    simpa [Rect.emb_apply] using this
  have e1 : 128 * g + x1.val = k.val := by
    have := congrArg (fun y : S512x512.Idx => (y 1).val) hx
    simpa [Rect.emb_apply] using this
  have l0 : x0.val < 128 := x0.isLt
  have l1 : x1.val < 128 := x1.isLt
  have t : x0 = (⟨r.val % 128, by omega⟩ : Fin 128) := Fin.ext (by show x0.val = r.val % 128; omega)
  rw [pay4_at]
  unfold block
  rw [← t]
  congr 1
  · exact congrArg U hx
  · funext s
    refine congrArg W (funext fun a => Fin.ext ?_)
    fin_cases a <;> simp [Rect.emb_apply] <;> omega
  · funext s
    refine congrArg V (funext fun a => Fin.ext ?_)
    fin_cases a <;> simp [Rect.emb_apply] <;> omega
  · refine congrArg B (funext fun a => Fin.ext ?_)
    fin_cases a <;> simp [Rect.emb_apply] <;> omega

theorem block_cov (c : Dev nD) (y : S512x512.Idx) : ∃ p ∈ kernelRun0_A.sl.HS0_16 c arg2 harg2 arg3 harg3 arg7 harg7 arg8 harg8 U V W B, y ∈ p.1.set :=
  View.cover_of_tiledL (kernelRun0_A.sl.HS0_16 c arg2 harg2 arg3 harg3 arg7 harg7 arg8 harg8 U V W B) S128x128.size (by sl_kernel_rfl) y

theorem whole_at (c : Dev nD) (arg14 : Memref sig .tc .vmem S512x512 .bf16) (r k : Fin 512) :
    kernelRun0_A.sl.v215 c arg2 harg2 arg3 harg3 arg7 harg7 arg8 harg8 arg14 U V W B (ix2 r k) = block U V W B r k := by
  have h : kernelRun0_A.sl.v215 c arg2 harg2 arg3 harg3 arg7 harg7 arg8 harg8 arg14 U V W B (ix2 r k)
      = View.canon (kernelRun0_A.sl.HS0_16 c arg2 harg2 arg3 harg3 arg7 harg7 arg8 harg8 U V W B) (ix2 r k) := by
    unfold kernelRun0_A.sl.v215
    refine (congrArg (arg14.view.read (Elt Ideal) _) (Rect.emb_unit_full _ _)).trans ?_
    exact View.read_writes_apply_eq_canon _ _ _ _ (block_cov _ _ _ _ _ _ _ _ _ _ _ _ c _)
  rw [h]
  refine View.canon_eq_of_allAt _ _ _ (block_cov _ _ _ _ _ _ _ _ _ _ _ _ c _) ?_
  refine View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_cons _ _ _ ?_ (View.allAt_nil _ _)))))))))))))))) <;> intro x hx
  · exact tile_at arg2 harg2 arg3 harg3 arg7 harg7 arg8 harg8 U V W B 384 384 3 rfl rfl _ _ _ r k x hx
  · exact tile_at arg2 harg2 arg3 harg3 arg7 harg7 arg8 harg8 U V W B 256 384 3 rfl rfl _ _ _ r k x hx
  · exact tile_at arg2 harg2 arg3 harg3 arg7 harg7 arg8 harg8 U V W B 128 384 3 rfl rfl _ _ _ r k x hx
  · exact tile_at arg2 harg2 arg3 harg3 arg7 harg7 arg8 harg8 U V W B 0 384 3 rfl rfl _ _ _ r k x hx
  · exact tile_at arg2 harg2 arg3 harg3 arg7 harg7 arg8 harg8 U V W B 384 256 2 rfl rfl _ _ _ r k x hx
  · exact tile_at arg2 harg2 arg3 harg3 arg7 harg7 arg8 harg8 U V W B 256 256 2 rfl rfl _ _ _ r k x hx
  · exact tile_at arg2 harg2 arg3 harg3 arg7 harg7 arg8 harg8 U V W B 128 256 2 rfl rfl _ _ _ r k x hx
  · exact tile_at arg2 harg2 arg3 harg3 arg7 harg7 arg8 harg8 U V W B 0 256 2 rfl rfl _ _ _ r k x hx
  · exact tile_at arg2 harg2 arg3 harg3 arg7 harg7 arg8 harg8 U V W B 384 128 1 rfl rfl _ _ _ r k x hx
  · exact tile_at arg2 harg2 arg3 harg3 arg7 harg7 arg8 harg8 U V W B 256 128 1 rfl rfl _ _ _ r k x hx
  · exact tile_at arg2 harg2 arg3 harg3 arg7 harg7 arg8 harg8 U V W B 128 128 1 rfl rfl _ _ _ r k x hx
  · exact tile_at arg2 harg2 arg3 harg3 arg7 harg7 arg8 harg8 U V W B 0 128 1 rfl rfl _ _ _ r k x hx
  · exact tile_at arg2 harg2 arg3 harg3 arg7 harg7 arg8 harg8 U V W B 384 0 0 rfl rfl _ _ _ r k x hx
  · exact tile_at arg2 harg2 arg3 harg3 arg7 harg7 arg8 harg8 U V W B 256 0 0 rfl rfl _ _ _ r k x hx
  · exact tile_at arg2 harg2 arg3 harg3 arg7 harg7 arg8 harg8 U V W B 128 0 0 rfl rfl _ _ _ r k x hx
  · exact tile_at arg2 harg2 arg3 harg3 arg7 harg7 arg8 harg8 U V W B 0 0 0 rfl rfl _ _ _ r k x hx

end Cert.Proof.Mix
-- ==== Proof.MixArr.lean ====
module

public import proofs.«01_k».proof.Proof.MixTile
public import Idealize.ShloMosaic.Lib.Tactic.CleanTypes

@[expose] public section

/-! The merge call's result, row by row. -/

set_option maxRecDepth 16384
set_option maxHeartbeats 4000000

noncomputable section

namespace Cert.Proof.Mix

open Cert.Kernel3Ideal Cert.Kernel3Ideal.Gen
open Idealize.ShloMosaic Idealize.ShloMosaic.TcCoe Idealize.ShloMosaic.Tactic

section
variable (x0 : Vec Ideal S512x512 .bf16) (x1 x2 : Vec Ideal S512x512 .f32) (x3 x4 x5 : Vec Ideal S512x1024 .f32) (x6 : Vec Ideal S4x128x128 .bf16)
variable (x7 : Vec Ideal S128x512 .f32) (x8 x9 : Vec Ideal S512x1024 .bf16) (x10 : Vec Ideal S1024x1024 .bf16) (x11 : Vec Ideal S1x1024 .f32)

/-- What the body leaves at a point, from the point's blocks. -/
theorem out_at (c : Dev nD) (t : Fin cfg0.N) (r : Fin 512) (j : Fin 1024) :
    out0_A_12 (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) x0 x1 x2 x3 x4 x5 x6 x7 x8 x9 x10 x11 (ix2 r j)
      = mix (fun j => x5 (ix2 r j)) (merged (fun k => x0 (ix2 r k)) (block x1 x2 x6 x7 r) (fun j => x3 (ix2 r j)) (fun j => x4 (ix2 r j)) (fun k j => x8 (ix2 k j)) (fun k j => x9 (ix2 k j)))
          (fun k j => x10 (ix2 k j)) (fun j => x11 (ix2 0 j)) j := by
  unfold out0_A_12 kernelRun0_A
  dsimp only
  refine (congrFun (View.read_writes_full _ _ _ _ _) (ix2 r j)).trans ?_
  unfold kernelRun0_A.sl.r_10
  refine (pay1_at _ _ _ _ r j).trans ?_
  simp only [pay28_at]
  have e0 := fun y => congrFun (View.readAt_full (Val := Elt Ideal) (ms0_0 t).view ((hs0_0 t).unread x0) inb_S512x512_S512x512_0_0) y
  have e3 := fun y => congrFun (View.readAt_full (Val := Elt Ideal) (ms0_3 t).view ((hs0_3 t).unread x3) inb_S512x1024_S512x1024_0_0) y
  have e4 := fun y => congrFun (View.readAt_full (Val := Elt Ideal) (ms0_4 t).view ((hs0_4 t).unread x4) inb_S512x1024_S512x1024_0_0) y
  have e5 := fun y => congrFun (View.readAt_full (Val := Elt Ideal) (ms0_5 t).view ((hs0_5 t).unread x5) inb_S512x1024_S512x1024_0_0) y
  have e8 := fun y => congrFun (View.readAt_full (Val := Elt Ideal) (ms0_8 t).view ((hs0_8 t).unread x8) inb_S512x1024_S512x1024_0_0) y
  have e9 := fun y => congrFun (View.readAt_full (Val := Elt Ideal) (ms0_9 t).view ((hs0_9 t).unread x9) inb_S512x1024_S512x1024_0_0) y
  have e10 := fun y => congrFun (View.readAt_full (Val := Elt Ideal) (ms0_10 t).view ((hs0_10 t).unread x10) inb_S1024x1024_S1024x1024_0_0) y
  have e11 := fun y => congrFun (View.readAt_full (Val := Elt Ideal) (ms0_11 t).view ((hs0_11 t).unread x11) inb_S1x1024_S1x1024_0_0) y
  simp only [Memref.IsWhole.read_unread] at e0 e3 e4 e5 e8 e9 e10 e11
  congr 1
  · exact funext fun j => e5 (ix2 r j)
  · funext k
    show merged _ _ _ _ _ _ k = merged _ _ _ _ _ _ k
    congr 1
    · exact funext fun k => e0 (ix2 r k)
    · exact funext fun k => whole_at _ _ _ _ _ _ _ _ _ _ _ _ c _ r k
    · exact funext fun j => e3 (ix2 r j)
    · exact funext fun j => e4 (ix2 r j)
    · exact funext fun k => funext fun j => e8 (ix2 k j)
    · exact funext fun k => funext fun j => e9 (ix2 k j)
  · exact funext fun k => funext fun j => e10 (ix2 k j)
  · exact funext fun j => e11 (ix2 0 j)
end

section
variable (m : (ℓ : Loc nD τ sig) → Buf (Elt Ideal) ℓ) (c : Dev nD)

/-! The arguments at their plain types, and what the host lines hand to the call. -/

def B0 : FVec Ideal S16384x512 .bf16 := m ((c : Thread nD τ).loc main_arg0)
def B1 : FVec Ideal S16384x512 .f32 := m ((c : Thread nD τ).loc main_arg1)
def B2 : FVec Ideal S16384x512 .f32 := m ((c : Thread nD τ).loc main_arg2)
def B3 : FVec Ideal S16384x1024 .f32 := m ((c : Thread nD τ).loc main_arg3)
def B4 : FVec Ideal S16384x1024 .f32 := m ((c : Thread nD τ).loc main_arg4)
def B5 : FVec Ideal S2x8192x1024 .f32 := m ((c : Thread nD τ).loc main_arg5)
def B6 : FVec Ideal S4x128x128 .f32 := m ((c : Thread nD τ).loc main_arg6)
def B7 : FVec Ideal S4x128 .f32 := m ((c : Thread nD τ).loc main_arg7)
def B8 : FVec Ideal S512x1024 .f32 := m ((c : Thread nD τ).loc main_arg8)
def B9 : FVec Ideal S512x1024 .f32 := m ((c : Thread nD τ).loc main_arg9)
def B10 : FVec Ideal S1024x1024 .f32 := m ((c : Thread nD τ).loc main_arg10)
def B11 : FVec Ideal S1024 .f32 := m ((c : Thread nD τ).loc main_arg11)

theorem V_v0 : (V m c main_v0 : Vec Ideal S512x1024 .bf16) = (truncf .bf16 (B8 m c) bitsLt_bf16_f32 : FVec Ideal S512x1024 .bf16) := by
  unfold V
  after_results_simp
  try rfl

theorem V_v1 : (V m c main_v1 : Vec Ideal S512x1024 .bf16) = (truncf .bf16 (B9 m c) bitsLt_bf16_f32 : FVec Ideal S512x1024 .bf16) := by
  unfold V
  after_results_simp
  try rfl

theorem V_v2 : (V m c main_v2 : Vec Ideal S1024x1024 .bf16) = (truncf .bf16 (B10 m c) bitsLt_bf16_f32 : FVec Ideal S1024x1024 .bf16) := by
  unfold V
  after_results_simp
  try rfl

theorem V_v3 : (V m c main_v3 : Vec Ideal S4x128x128 .bf16) = (truncf .bf16 (B6 m c) bitsLt_bf16_f32 : FVec Ideal S4x128x128 .bf16) := by
  unfold V
  after_results_simp
  try rfl

/-- The bias, one column per position of a group, as the call takes it. -/
def wide (Y : FVec Ideal S4x128 .f32) : FVec Ideal S128x512 .f32 :=
  shapeCast S128x512 (broadcastInDim S128x4x128 ![0, 1] bcast_S128x4_S128x4x128_0_1 (transpose S128x4 [1, 0] Y transposes_S4x128_S128x4_1_0)) shapeCasts_S128x4x128_S128x512

theorem V_v6 : (V m c main_v6 : Vec Ideal S128x512 .f32) = wide (B7 m c) := by
  unfold V
  after_results_simp
  try rfl

theorem V_v7 : (V m c main_v7 : Vec Ideal S16384x1024 .f32) = shapeCast S16384x1024 (B5 m c) shapeCasts_S2x8192x1024_S16384x1024 := by
  unfold V
  after_results_simp
  try rfl

theorem V_v8 : (V m c main_v8 : Vec Ideal S1x1024 .f32) = shapeCast S1x1024 (B11 m c) shapeCasts_S1024_S1x1024 := by
  unfold V
  after_results_simp
  try rfl

theorem wide_at (Y : FVec Ideal S4x128 .f32) (t : Fin 128) (k : Fin 512) : wide Y (ix2 t k) = Y (ix2 ⟨k.val / 128, by omega⟩ t) := by
  unfold wide
  pointwise

theorem rows_at (Y : FVec Ideal S2x8192x1024 .f32) (R : Fin 16384) (j : Fin 1024) : (shapeCast S16384x1024 Y shapeCasts_S2x8192x1024_S16384x1024 : FVec Ideal S16384x1024 .f32) (ix2 R j)
    = Y (ix3 ⟨R.val / 8192, by omega⟩ ⟨R.val % 8192, by omega⟩ j) := by
  pointwise

theorem row_at (Y : FVec Ideal S1024 .f32) (i : Fin 1024) : (shapeCast S1x1024 Y shapeCasts_S1024_S1x1024 : FVec Ideal S1x1024 .f32) (ix2 0 i) = Y (ix1 i) := by
  pointwise

/-- Row `R` of the result, from the arguments. -/
def row (R : Fin 16384) (j : Fin 1024) : EReal :=
  mix (fun i => B5 m c (ix3 ⟨R.val / 8192, by omega⟩ ⟨R.val % 8192, by omega⟩ i))
    (merged (fun k => B0 m c (ix2 R k))
      (fun k => gated (B1 m c (ix2 R k)) (fun s => B6 m c (ix3 ⟨k.val / 128, by omega⟩ ⟨R.val % 128, by omega⟩ s)) (fun s => B2 m c (ix2 ⟨128 * (R.val / 128) + s.val, by omega⟩ k)) (B7 m c (ix2 ⟨k.val / 128, by omega⟩ ⟨R.val % 128, by omega⟩)) ⟨R.val % 128, by omega⟩)
      (fun j => B3 m c (ix2 R j)) (fun j => B4 m c (ix2 R j)) (fun k j => B8 m c (ix2 k j)) (fun k j => B9 m c (ix2 k j)))
    (fun k j => B10 m c (ix2 k j)) (fun i => B11 m c (ix1 i)) j

theorem idx : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0, 0] ∧ win0_7.index t = ![0, 0] ∧ win0_8.index t = ![0, 0] ∧ win0_9.index t = ![0, 0]
    ∧ win0_10.index t = ![0, 0] ∧ win0_11.index t = ![0, 0] ∧ win0_12.index t = ![t.val, 0] := (by decide +kernel : ∀ t : Fin grid0.N, _)

theorem gated_congr {u u' : EReal} {w w' v v' : Fin 128 → EReal} {b b' : EReal} {t t' : Fin 128} (hu : u = u') (hw : w = w') (hv : v = v') (hb : b = b') (ht : t = t') :
    gated u w v b t = gated u' w' v' b' t' := by
  rw [hu, hw, hv, hb, ht]

theorem spatial_at (t : Fin cfg0.N) (ht : t.val < 32) (r k : Fin 512) : block (iblk m c 1 t) (iblk m c 2 t) (iblk m c 6 t) (iblk m c 7 t) r k
    = gated (B1 m c (ix2 ⟨512 * t.val + r.val, by omega⟩ k)) (fun s => B6 m c (ix3 ⟨k.val / 128, by omega⟩ ⟨(512 * t.val + r.val) % 128, by omega⟩ s)) (fun s => B2 m c (ix2 ⟨128 * ((512 * t.val + r.val) / 128) + s.val, by omega⟩ k)) (B7 m c (ix2 ⟨k.val / 128, by omega⟩ ⟨(512 * t.val + r.val) % 128, by omega⟩)) ⟨(512 * t.val + r.val) % 128, by omega⟩ := by
  obtain ⟨-, i1, i2, -, -, -, i6, i7, -⟩ := idx t
  have hm : (512 * t.val + r.val) % 128 = r.val % 128 := by omega
  have hd : 128 * ((512 * t.val + r.val) / 128) = 512 * t.val + 128 * (r.val / 128) := by omega
  simp only [hm, hd]
  unfold block
  refine gated_congr ?_ ?_ ?_ ?_ rfl
  · refine Eq.trans ?_ (congrFun (V_main_arg1 m c) (ix2 ⟨512 * t.val + r.val, by omega⟩ k))
    blk_ext [iblk, i1]
  · funext s
    refine Eq.trans ?_ (congrFun (V_v3 m c) (ix3 ⟨k.val / 128, by omega⟩ ⟨r.val % 128, by omega⟩ s))
    blk_ext [iblk, i6]
  · funext s
    refine Eq.trans ?_ (congrFun (V_main_arg2 m c) (ix2 ⟨512 * t.val + 128 * (r.val / 128) + s.val, by omega⟩ k))
    blk_ext [iblk, i2]
  · refine Eq.trans ?_ ((congrFun (V_v6 m c) (ix2 ⟨r.val % 128, by omega⟩ k)).trans (wide_at _ _ _))
    blk_ext [iblk, i7]

theorem block_at (t : Fin cfg0.N) (ht : t.val < 32) (r : Fin 512) (j : Fin 1024) : outsAt0 m c t (ix2 r j) = row m c ⟨512 * t.val + r.val, by omega⟩ j := by
  obtain ⟨i0, -, -, i3, i4, i5, -, -, i8, i9, i10, i11, -⟩ := idx t
  unfold outsAt0
  rw [out_at]
  unfold row
  congr 1
  · funext i
    refine Eq.trans ?_ ((congrFun (V_v7 m c) (ix2 ⟨512 * t.val + r.val, by omega⟩ i)).trans (rows_at _ _ _))
    blk_ext [iblk, i5]
  · congr 1
    · funext k
      refine Eq.trans ?_ (congrFun (V_main_arg0 m c) (ix2 ⟨512 * t.val + r.val, by omega⟩ k))
      blk_ext [iblk, i0]
    · funext k
      exact spatial_at m c t ht r k
    · funext k
      refine Eq.trans ?_ (congrFun (V_main_arg3 m c) (ix2 ⟨512 * t.val + r.val, by omega⟩ k))
      blk_ext [iblk, i3]
    · funext k
      refine Eq.trans ?_ (congrFun (V_main_arg4 m c) (ix2 ⟨512 * t.val + r.val, by omega⟩ k))
      blk_ext [iblk, i4]
    · funext k j
      refine Eq.trans ?_ (congrFun (V_v0 m c) (ix2 k j))
      blk_ext [iblk, i8]
    · funext k j
      refine Eq.trans ?_ (congrFun (V_v1 m c) (ix2 k j))
      blk_ext [iblk, i9]
  · funext k j
    refine Eq.trans ?_ (congrFun (V_v2 m c) (ix2 k j))
    blk_ext [iblk, i10]
  · funext i
    refine Eq.trans ?_ ((congrFun (V_v8 m c) (ix2 0 i)).trans (row_at _ _))
    blk_ext [iblk, i11]

theorem arr : ((dats m 0 c).arrAt 12 cfg0.N : Vec Ideal S16384x1024 .f32) = fun y => row m c (y 0) (y 1) := by
  refine (dats m 0 c).arrAt_eq_of_covers 12 _ (by decide +kernel) fun t hf y => ?_
  have hN : t.val < 32 := t.isLt
  have hi : win0_12.index t = ![t.val, 0] := by have := idx t; simp only [this]
  rw [after0_12]
  change outsAt0 m c t (y : S512x1024.Idx) = _
  change S512x1024.Idx at y
  idx_vars y
  rw [block_at m c t hN]
  congr 1 <;> apply Fin.ext <;> blk_simp [hi] <;> (try dsimp only) <;> omega
end

end Cert.Proof.Mix
-- ==== Proof.MixRef.lean ====
module

public import proofs.«01_k».proof.Proof.MixSpec
public import proofs.«01_k».proof.Proof.Gen.Reference3Ideal.Run
public import Idealize.ShloMosaic.Lib.Tactic.CleanTypes

@[expose] public section

/-! The reference's lines of the merge of the branches, row by row. -/

set_option maxRecDepth 16384
set_option maxHeartbeats 4000000

noncomputable section

namespace Cert.Proof.Mix.Ref

open Cert.Reference3Ideal Cert.Reference3Ideal.Gen Cert.Reference3Ideal.Value
open Idealize.ShloMosaic Idealize.ShloMosaic.TcCoe Idealize.ShloMosaic.Tactic

/-- The spatial weights under the lower triangle. -/
def tril (W : FVec Ideal S4x128x128 .f32) : FVec Ideal S4x128x128 .f32 :=
  mulf W (broadcastInDim S4x128x128 ![0, 1, 2] bcast_S1x128x128_S4x128x128_0_1_2 (broadcastInDim S1x128x128 ![1, 2] bcast_S128x128_S1x128x128_1_2 (select (cmpi .sge (addi (iotaInDim S128x128 32 0) (broadcastInDim S128x128 ![] bcast_S_S128x128 (constantI S_ 32 0#32))) (iotaInDim S128x128 32 1)) (broadcastInDim S128x128 ![] bcast_S_S128x128 (constant S_ .f32 0x3F800000#32)) (broadcastInDim S128x128 ![] bcast_S_S128x128 (constant S_ .f32 0x00000000#32)))))

/-- The spatially mixed values, chunk by chunk, with the bias. -/
def spat (W : FVec Ideal S4x128x128 .f32) (V : FVec Ideal S2x64x128x4x128 .f32) (B : FVec Ideal S4x128 .f32) : FVec Ideal S2x64x128x4x128 .f32 :=
  addf (transpose S2x64x128x4x128 [1, 2, 4, 0, 3] (Host.dotGeneral dot_S2x64x128x4x128_S4x128x128_S4x2x64x128x128_2_2_014_1_3_0 none V W) transposes_S4x2x64x128x128_S2x64x128x4x128_1_2_4_0_3) (broadcastInDim S2x64x128x4x128 ![0, 1, 2, 3, 4] bcast_S1x1x128x4x1_S2x64x128x4x128_0_1_2_3_4 (broadcastInDim S1x1x128x4x1 ![2, 3, 4] bcast_S128x4x1_S1x1x128x4x1_2_3_4 (broadcastInDim S128x4x1 ![0, 1] bcast_S128x4_S128x4x1_0_1 (transpose S128x4 [1, 0] B transposes_S4x128_S128x4_1_0))))

/-- The branches, weighted by the logistics of their gates. -/
def merge (A U S : FVec Ideal S2x8192x512 .f32) (GA GB : FVec Ideal S2x8192x1024 .f32) (WA WB : FVec Ideal S512x1024 .f32) : FVec Ideal S2x8192x1024 .f32 :=
  addf (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf GA)))) (Host.dotGeneral dot_S2x8192x512_S512x1024_S2x8192x1024_2_0_01_1_n_n none A WA))
    (mulf (Host.divf (broadcastInDim S2x8192x1024 ![] bcast_S_S2x8192x1024 (constant S_ .f32 0x3F800000#32)) (addf (broadcastInDim S2x8192x1024 ![] bcast_S_S2x8192x1024 (constant S_ .f32 0x3F800000#32)) (Host.exp (Host.negf GB)))) (Host.dotGeneral dot_S2x8192x512_S512x1024_S2x8192x1024_2_0_01_1_n_n none (mulf U S) WB))

/-- The product with the output matrix. -/
def prod (M : FVec Ideal S2x8192x1024 .f32) (WO : FVec Ideal S1024x1024 .f32) : FVec Ideal S2x8192x1024 .f32 :=
  Host.dotGeneral dot_S2x8192x1024_S1024x1024_S2x8192x1024_2_0_01_1_n_n none M WO

/-- The normalised rows. -/
def norm (X : FVec Ideal S2x8192x1024 .f32) (G : FVec Ideal S1024 .f32) : FVec Ideal S2x8192x1024 .f32 :=
  mulf (mulf X (broadcastInDim S2x8192x1024 ![0, 1, 2] bcast_S2x8192x1_S2x8192x1024_0_1_2 (Host.rsqrt (addf (Host.divf (broadcastInDim S2x8192x1 ![0, 1] bcast_S2x8192_S2x8192x1_0_1 (Host.reduceAdd (mulf X X) (constant S_ .f32 0x00000000#32) reducesTo_S2x8192x1024_S2x8192_d2 h_S_)) (broadcastInDim S2x8192x1 ![] bcast_S_S2x8192x1 (constant S_ .f32 0x44800000#32))) (broadcastInDim S2x8192x1 ![] bcast_S_S2x8192x1 (constant S_ .f32 0x358637BD#32)))))) (broadcastInDim S2x8192x1024 ![0, 1, 2] bcast_S1x1x1024_S2x8192x1024_0_1_2 (broadcastInDim S1x1x1024 ![2] bcast_S1024_S1x1x1024_2 G))

theorem tril_at (W : FVec Ideal S4x128x128 .f32) (g : Fin 4) (t s : Fin 128) : tril W (ix3 g t s) = if s.val ≤ t.val then W (ix3 g t s) else 0 := by
  have h : tril W (ix3 g t s) = W (ix3 g t s) * Scalar.select (IntOp.cmpi CmpIPredicate.sge (BitVec.ofNat 32 t.val) (BitVec.ofNat 32 s.val)) (1 : EReal) 0 := by
    unfold tril
    pointwise
    simp [IntOp.addi]
  rw [h, at_least]
  by_cases h : s.val ≤ t.val <;> simp [h, Scalar.select]

theorem spat_at (W : FVec Ideal S4x128x128 .f32) (V : FVec Ideal S2x64x128x4x128 .f32) (B : FVec Ideal S4x128 .f32) (b : Fin 2) (n : Fin 64) (t : Fin 128) (g : Fin 4) (q : Fin 128) :
    spat W V B (ix5 b n t g q) = (∑ s : Fin 128, W (ix3 g t s) * V (ix5 b n s g q)) + B (ix2 g t) := by
  unfold spat
  pointwise
  simp only [mul_comm]

theorem merge_at (A U S : FVec Ideal S2x8192x512 .f32) (GA GB : FVec Ideal S2x8192x1024 .f32) (WA WB : FVec Ideal S512x1024 .f32) (b : Fin 2) (s : Fin 8192) (j : Fin 1024) :
    merge A U S GA GB WA WB (ix3 b s j) = merged (fun k => A (ix3 b s k)) (fun k => U (ix3 b s k) * S (ix3 b s k)) (fun j => GA (ix3 b s j)) (fun j => GB (ix3 b s j)) (fun k j => WA (ix2 k j)) (fun k j => WB (ix2 k j)) j := by
  unfold merge merged Ideal.logistic
  pointwise

theorem prod_at (M : FVec Ideal S2x8192x1024 .f32) (WO : FVec Ideal S1024x1024 .f32) (b : Fin 2) (s : Fin 8192) (j : Fin 1024) :
    prod M WO (ix3 b s j) = ∑ k, M (ix3 b s k) * WO (ix2 k j) := by
  unfold prod
  pointwise

theorem norm_at (X : FVec Ideal S2x8192x1024 .f32) (G : FVec Ideal S1024 .f32) (b : Fin 2) (s : Fin 8192) (i : Fin 1024) : norm X G (ix3 b s i) = rms (fun i => X (ix3 b s i)) (fun i => G (ix1 i)) i := by
  unfold norm rms
  pointwise

theorem narrow_at {e : FTy} (Y : FVec Ideal S16384x512 e) (R : Fin 16384) (k : Fin 512) : (shapeCast S2x8192x512 Y shapeCasts_S16384x512_S2x8192x512 : FVec Ideal S2x8192x512 e) (ix3 ⟨R.val / 8192, by omega⟩ ⟨R.val % 8192, by omega⟩ k) = Y (ix2 R k) := by
  have h : ∀ (b : Fin 2) (s : Fin 8192), (shapeCast S2x8192x512 Y shapeCasts_S16384x512_S2x8192x512 : FVec Ideal S2x8192x512 e) (ix3 b s k) = Y (ix2 ⟨b.val * 8192 + s.val, by omega⟩ k) := fun b s => by pointwise
  rw [h]
  exact congrArg Y (congrArg (ix2 · k) (Fin.ext (by show R.val / 8192 * 8192 + R.val % 8192 = R.val; omega)))

theorem broad_at (Y : FVec Ideal S16384x1024 .f32) (R : Fin 16384) (k : Fin 1024) : (shapeCast S2x8192x1024 Y shapeCasts_S16384x1024_S2x8192x1024 : FVec Ideal S2x8192x1024 .f32) (ix3 ⟨R.val / 8192, by omega⟩ ⟨R.val % 8192, by omega⟩ k) = Y (ix2 R k) := by
  have h : ∀ (b : Fin 2) (s : Fin 8192), (shapeCast S2x8192x1024 Y shapeCasts_S16384x1024_S2x8192x1024 : FVec Ideal S2x8192x1024 .f32) (ix3 b s k) = Y (ix2 ⟨b.val * 8192 + s.val, by omega⟩ k) := fun b s => by pointwise
  rw [h]
  exact congrArg Y (congrArg (ix2 · k) (Fin.ext (by show R.val / 8192 * 8192 + R.val % 8192 = R.val; omega)))

/-- Chunks back to rows: position `R % 8192` is place `R % 128` of chunk `R % 8192 / 128`. -/
theorem unchunk_at (Y : FVec Ideal S2x64x128x4x128 .f32) (R : Fin 16384) (k : Fin 512) : (shapeCast S2x8192x512 Y shapeCasts_S2x64x128x4x128_S2x8192x512 : FVec Ideal S2x8192x512 .f32) (ix3 ⟨R.val / 8192, by omega⟩ ⟨R.val % 8192, by omega⟩ k)
    = Y (ix5 ⟨R.val / 8192, by omega⟩ ⟨R.val % 8192 / 128, by omega⟩ ⟨R.val % 128, by omega⟩ ⟨k.val / 128, by omega⟩ ⟨k.val % 128, by omega⟩) := by
  have h : ∀ (b : Fin 2) (s : Fin 8192), (shapeCast S2x8192x512 Y shapeCasts_S2x64x128x4x128_S2x8192x512 : FVec Ideal S2x8192x512 .f32) (ix3 b s k)
      = Y (ix5 b ⟨s.val / 128, by omega⟩ ⟨s.val % 128, by omega⟩ ⟨k.val / 128, by omega⟩ ⟨k.val % 128, by omega⟩) := fun b s => by pointwise
  rw [h]
  exact congrArg Y (congrArg (ix5 _ _ · _ _) (Fin.ext (by show R.val % 8192 % 128 = R.val % 128; omega)))

theorem chunk_at (V : FVec Ideal S16384x512 .f32) (R : Fin 16384) (k : Fin 512) (s : Fin 128) : (shapeCast S2x64x128x4x128 (shapeCast S2x8192x512 V shapeCasts_S16384x512_S2x8192x512 : FVec Ideal S2x8192x512 .f32) shapeCasts_S2x8192x512_S2x64x128x4x128 : FVec Ideal S2x64x128x4x128 .f32)
      (ix5 ⟨R.val / 8192, by omega⟩ ⟨R.val % 8192 / 128, by omega⟩ s ⟨k.val / 128, by omega⟩ ⟨k.val % 128, by omega⟩) = V (ix2 ⟨128 * (R.val / 128) + s.val, by omega⟩ k) := by
  have h : ∀ (Y : FVec Ideal S2x8192x512 .f32) (b : Fin 2) (n : Fin 64) (s : Fin 128) (g : Fin 4) (q : Fin 128), (shapeCast S2x64x128x4x128 Y shapeCasts_S2x8192x512_S2x64x128x4x128 : FVec Ideal S2x64x128x4x128 .f32) (ix5 b n s g q)
      = Y (ix3 b ⟨n.val * 128 + s.val, by omega⟩ ⟨g.val * 128 + q.val, by omega⟩) := fun Y b n s g q => by pointwise
  have h' : ∀ (b : Fin 2) (s : Fin 8192) (k : Fin 512), (shapeCast S2x8192x512 V shapeCasts_S16384x512_S2x8192x512 : FVec Ideal S2x8192x512 .f32) (ix3 b s k) = V (ix2 ⟨b.val * 8192 + s.val, by omega⟩ k) := fun b s k => by pointwise
  rw [h, h']
  refine congrArg V (congrArg₂ ix2 (Fin.ext ?_) (Fin.ext ?_))
  · show R.val / 8192 * 8192 + (R.val % 8192 / 128 * 128 + s.val) = 128 * (R.val / 128) + s.val
    omega
  · show k.val / 128 * 128 + k.val % 128 = k.val
    omega

/-- The reference's result, from the arguments. -/
def whole (A : FVec Ideal S16384x512 .bf16) (U V : FVec Ideal S16384x512 .f32) (GA GB : FVec Ideal S16384x1024 .f32) (X : FVec Ideal S2x8192x1024 .f32) (W : FVec Ideal S4x128x128 .f32) (B : FVec Ideal S4x128 .f32) (WA WB : FVec Ideal S512x1024 .f32) (WO : FVec Ideal S1024x1024 .f32) (G : FVec Ideal S1024 .f32) : FVec Ideal S16384x1024 .f32 :=
  shapeCast _ (addf X (norm (prod (merge (shapeCast _ A shapeCasts_S16384x512_S2x8192x512) (shapeCast _ U shapeCasts_S16384x512_S2x8192x512)
    (shapeCast _ (spat (tril W) (shapeCast _ (shapeCast _ V shapeCasts_S16384x512_S2x8192x512 : FVec Ideal S2x8192x512 .f32) shapeCasts_S2x8192x512_S2x64x128x4x128) B) shapeCasts_S2x64x128x4x128_S2x8192x512)
    (shapeCast _ GA shapeCasts_S16384x1024_S2x8192x1024) (shapeCast _ GB shapeCasts_S16384x1024_S2x8192x1024) WA WB) WO) G) : FVec Ideal S2x8192x1024 .f32) shapeCasts_S2x8192x1024_S16384x1024

theorem res_eq (m : (ℓ : Loc nD τ sig) → Buf (Elt Ideal) ℓ) (c : Dev nD) : (res_main_v52 m c : FVec Ideal S16384x1024 .f32)
    = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := rfl

theorem rows_at (Y : FVec Ideal S2x8192x1024 .f32) (R : Fin 16384) (j : Fin 1024) : (shapeCast S16384x1024 Y shapeCasts_S2x8192x1024_S16384x1024 : FVec Ideal S16384x1024 .f32) (ix2 R j)
    = Y (ix3 ⟨R.val / 8192, by omega⟩ ⟨R.val % 8192, by omega⟩ j) := by
  pointwise

theorem whole_at (A : FVec Ideal S16384x512 .bf16) (U V : FVec Ideal S16384x512 .f32) (GA GB : FVec Ideal S16384x1024 .f32) (X : FVec Ideal S2x8192x1024 .f32) (W : FVec Ideal S4x128x128 .f32) (B : FVec Ideal S4x128 .f32) (WA WB : FVec Ideal S512x1024 .f32) (WO : FVec Ideal S1024x1024 .f32) (G : FVec Ideal S1024 .f32) (R : Fin 16384) (j : Fin 1024) :
    whole A U V GA GB X W B WA WB WO G (ix2 R j) = mix (fun i => X (ix3 ⟨R.val / 8192, by omega⟩ ⟨R.val % 8192, by omega⟩ i))
    (merged (fun k => A (ix2 R k))
      (fun k => gated (U (ix2 R k)) (fun s => W (ix3 ⟨k.val / 128, by omega⟩ ⟨R.val % 128, by omega⟩ s)) (fun s => V (ix2 ⟨128 * (R.val / 128) + s.val, by omega⟩ k)) (B (ix2 ⟨k.val / 128, by omega⟩ ⟨R.val % 128, by omega⟩)) ⟨R.val % 128, by omega⟩)
      (fun j => GA (ix2 R j)) (fun j => GB (ix2 R j)) (fun k j => WA (ix2 k j)) (fun k j => WB (ix2 k j)))
    (fun k j => WO (ix2 k j)) (fun i => G (ix1 i)) j := by
  unfold whole
  rw [rows_at]
  show X _ + norm _ G _ = _
  rw [norm_at]
  unfold mix
  congr 2
  funext j
  rw [prod_at]
  refine Finset.sum_congr rfl fun k _ => congrArg (· * _) ?_
  rw [merge_at]
  congr 1
  · funext k
    exact narrow_at A R k
  · funext k
    unfold gated
    refine congrArg₂ _ (narrow_at U R k) ((unchunk_at _ R k).trans ((spat_at _ _ _ _ _ _ _ _).trans ?_))
    congr 1
    refine Finset.sum_congr rfl fun s _ => congrArg₂ _ (tril_at _ _ _ _) ?_
    exact chunk_at V R k s
  · funext k
    exact broad_at GA R k
  · funext k
    exact broad_at GB R k

end Cert.Proof.Mix.Ref
-- ==== Proof.MixEqual.lean ====
module

public import proofs.«01_k».proof.Proof.MixArr
public import proofs.«01_k».proof.Proof.MixRef
public import proofs.«01_k».proof.Proof.Gen.Kernel3Ideal.Value

@[expose] public section

/-! The merge call and the reference's lines end with the same array. -/

set_option maxRecDepth 16384

noncomputable section

namespace Cert.Proof.Mix

open Idealize.ShloMosaic Idealize.ShloMosaic.TcCoe Idealize.ShloMosaic.Tactic

variable (m : (ℓ : Loc Cert.Kernel3Ideal.nD Cert.Kernel3Ideal.τ Cert.Kernel3Ideal.sig) → Buf (Elt Ideal) ℓ)
variable (m' : (ℓ : Loc Cert.Reference3Ideal.nD Cert.Reference3Ideal.τ Cert.Reference3Ideal.sig) → Buf (Elt Ideal) ℓ) (c : Dev Cert.Kernel3Ideal.nD)

theorem equal
    (h0 : (m' ((c.tc : Thread Cert.Reference3Ideal.nD Cert.Reference3Ideal.τ).loc Cert.Reference3Ideal.main_arg0) : FVec Ideal Cert.Kernel3Ideal.S16384x512 .bf16) = B0 m c)
    (h1 : (m' ((c.tc : Thread Cert.Reference3Ideal.nD Cert.Reference3Ideal.τ).loc Cert.Reference3Ideal.main_arg1) : FVec Ideal Cert.Kernel3Ideal.S16384x512 .f32) = B1 m c)
    (h2 : (m' ((c.tc : Thread Cert.Reference3Ideal.nD Cert.Reference3Ideal.τ).loc Cert.Reference3Ideal.main_arg2) : FVec Ideal Cert.Kernel3Ideal.S16384x512 .f32) = B2 m c)
    (h3 : (m' ((c.tc : Thread Cert.Reference3Ideal.nD Cert.Reference3Ideal.τ).loc Cert.Reference3Ideal.main_arg3) : FVec Ideal Cert.Kernel3Ideal.S16384x1024 .f32) = B3 m c)
    (h4 : (m' ((c.tc : Thread Cert.Reference3Ideal.nD Cert.Reference3Ideal.τ).loc Cert.Reference3Ideal.main_arg4) : FVec Ideal Cert.Kernel3Ideal.S16384x1024 .f32) = B4 m c)
    (h5 : (m' ((c.tc : Thread Cert.Reference3Ideal.nD Cert.Reference3Ideal.τ).loc Cert.Reference3Ideal.main_arg5) : FVec Ideal Cert.Kernel3Ideal.S2x8192x1024 .f32) = B5 m c)
    (h6 : (m' ((c.tc : Thread Cert.Reference3Ideal.nD Cert.Reference3Ideal.τ).loc Cert.Reference3Ideal.main_arg6) : FVec Ideal Cert.Kernel3Ideal.S4x128x128 .f32) = B6 m c)
    (h7 : (m' ((c.tc : Thread Cert.Reference3Ideal.nD Cert.Reference3Ideal.τ).loc Cert.Reference3Ideal.main_arg7) : FVec Ideal Cert.Kernel3Ideal.S4x128 .f32) = B7 m c)
    (h8 : (m' ((c.tc : Thread Cert.Reference3Ideal.nD Cert.Reference3Ideal.τ).loc Cert.Reference3Ideal.main_arg8) : FVec Ideal Cert.Kernel3Ideal.S512x1024 .f32) = B8 m c)
    (h9 : (m' ((c.tc : Thread Cert.Reference3Ideal.nD Cert.Reference3Ideal.τ).loc Cert.Reference3Ideal.main_arg9) : FVec Ideal Cert.Kernel3Ideal.S512x1024 .f32) = B9 m c)
    (h10 : (m' ((c.tc : Thread Cert.Reference3Ideal.nD Cert.Reference3Ideal.τ).loc Cert.Reference3Ideal.main_arg10) : FVec Ideal Cert.Kernel3Ideal.S1024x1024 .f32) = B10 m c)
    (h11 : (m' ((c.tc : Thread Cert.Reference3Ideal.nD Cert.Reference3Ideal.τ).loc Cert.Reference3Ideal.main_arg11) : FVec Ideal Cert.Kernel3Ideal.S1024 .f32) = B11 m c) :
    (Cert.Reference3Ideal.Value.res_main_v52 m' c : FVec Ideal Cert.Kernel3Ideal.S16384x1024 .f32)
      = (Cert.Kernel3Ideal.Gen.dats m 0 c).arrAt 12 Cert.Kernel3Ideal.cfg0.N := by
  rw [arr]
  refine (Ref.res_eq m' c).trans ?_
  funext y
  change Cert.Kernel3Ideal.S16384x1024.Idx at y
  idx_vars y
  refine (Ref.whole_at _ _ _ _ _ _ _ _ _ _ _ _ y0 y1).trans ?_
  show _ = row m c y0 y1
  unfold row
  rw [← h0, ← h1, ← h2, ← h3, ← h4, ← h5, ← h6, ← h7, ← h8, ← h9, ← h10, ← h11]

end Cert.Proof.Mix
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Run
public import proofs.«01_k».proof.Proof.K.Run
public import proofs.«01_k».proof.Proof.EqualArr
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.FfnEqual
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.MixEqual
public import Idealize.ShloMosaic.Adequacy
public import Idealize.ShloMosaic.Init

@[expose] public section

/-! The proof of `Cert.Claim`: the kernel's frame, as compiled and over the extended reals, from the run of its
    three calls; the reference's frame from its host lines; the three named constants; and, from finite inputs, the
    equality of the seven results of the kernel and of the reference. The same for the layer's feed-forward part and for
    the merge of its branches, from any inputs. -/

namespace Cert.Proof.Kernel

open Idealize.ShloMosaic Idealize.SL Idealize.SL.Sem
open Cert.Kernel Cert.Kernel.Gen

variable {F : FTy → Type} [FloatOps F]

/-- The kernel runs to the end with all arguments unchanged and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r ⟨h, hz⟩ => ⟨fun c => ⟨
    (h c (Proc.devRef .tc main_arg0) (Finset.mem_filter.mpr ⟨StableHlo.devRef_mem_tcRefs main_arg0, by decide⟩)).trans ((congrFun (Attn.V5_eq m c).symm _).trans (V5_main_arg0 m (Attn.outs m) c)),
    (h c (Proc.devRef .tc main_arg1) (Finset.mem_filter.mpr ⟨StableHlo.devRef_mem_tcRefs main_arg1, by decide⟩)).trans ((congrFun (Attn.V5_eq m c).symm _).trans (V5_main_arg1 m (Attn.outs m) c)),
    (h c (Proc.devRef .tc main_arg2) (Finset.mem_filter.mpr ⟨StableHlo.devRef_mem_tcRefs main_arg2, by decide⟩)).trans ((congrFun (Attn.V5_eq m c).symm _).trans (V5_main_arg2 m (Attn.outs m) c)),
    (h c (Proc.devRef .tc main_arg3) (Finset.mem_filter.mpr ⟨StableHlo.devRef_mem_tcRefs main_arg3, by decide⟩)).trans ((congrFun (Attn.V5_eq m c).symm _).trans (V5_main_arg3 m (Attn.outs m) c)),
    (h c (Proc.devRef .tc main_arg4) (Finset.mem_filter.mpr ⟨StableHlo.devRef_mem_tcRefs main_arg4, by decide⟩)).trans ((congrFun (Attn.V5_eq m c).symm _).trans (V5_main_arg4 m (Attn.outs m) c)),
    (h c (Proc.devRef .tc main_arg5) (Finset.mem_filter.mpr ⟨StableHlo.devRef_mem_tcRefs main_arg5, by decide⟩)).trans ((congrFun (Attn.V5_eq m c).symm _).trans (V5_main_arg5 m (Attn.outs m) c)),
    (h c (Proc.devRef .tc main_arg6) (Finset.mem_filter.mpr ⟨StableHlo.devRef_mem_tcRefs main_arg6, by decide⟩)).trans ((congrFun (Attn.V5_eq m c).symm _).trans (V5_main_arg6 m (Attn.outs m) c)),
    (h c (Proc.devRef .tc main_arg7) (Finset.mem_filter.mpr ⟨StableHlo.devRef_mem_tcRefs main_arg7, by decide⟩)).trans ((congrFun (Attn.V5_eq m c).symm _).trans (V5_main_arg7 m (Attn.outs m) c)),
    (h c (Proc.devRef .tc main_arg8) (Finset.mem_filter.mpr ⟨StableHlo.devRef_mem_tcRefs main_arg8, by decide⟩)).trans ((congrFun (Attn.V5_eq m c).symm _).trans (V5_main_arg8 m (Attn.outs m) c)),
    (h c (Proc.devRef .tc main_arg9) (Finset.mem_filter.mpr ⟨StableHlo.devRef_mem_tcRefs main_arg9, by decide⟩)).trans ((congrFun (Attn.V5_eq m c).symm _).trans (V5_main_arg9 m (Attn.outs m) c))⟩, hz⟩) (Attn.run_main m ρ)

end Cert.Proof.Kernel

namespace Cert.Proof.KernelIdeal

open Idealize.ShloMosaic Idealize.SL Idealize.SL.Sem
open Cert.KernelIdeal Cert.KernelIdeal.Gen

variable {F : FTy → Type} [FloatOps F] [Named F]

/-- The kernel runs to the end with all arguments unchanged and every semaphore counter at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun r ⟨h, hz⟩ => ⟨fun c => ⟨
    (h c (Proc.devRef .tc main_arg0) (Finset.mem_filter.mpr ⟨StableHlo.devRef_mem_tcRefs main_arg0, by decide⟩)).trans ((congrFun (Attn.V5_eq m c).symm _).trans (V5_main_arg0 m (Attn.outs m) c)),
    (h c (Proc.devRef .tc main_arg1) (Finset.mem_filter.mpr ⟨StableHlo.devRef_mem_tcRefs main_arg1, by decide⟩)).trans ((congrFun (Attn.V5_eq m c).symm _).trans (V5_main_arg1 m (Attn.outs m) c)),
    (h c (Proc.devRef .tc main_arg2) (Finset.mem_filter.mpr ⟨StableHlo.devRef_mem_tcRefs main_arg2, by decide⟩)).trans ((congrFun (Attn.V5_eq m c).symm _).trans (V5_main_arg2 m (Attn.outs m) c)),
    (h c (Proc.devRef .tc main_arg3) (Finset.mem_filter.mpr ⟨StableHlo.devRef_mem_tcRefs main_arg3, by decide⟩)).trans ((congrFun (Attn.V5_eq m c).symm _).trans (V5_main_arg3 m (Attn.outs m) c)),
    (h c (Proc.devRef .tc main_arg4) (Finset.mem_filter.mpr ⟨StableHlo.devRef_mem_tcRefs main_arg4, by decide⟩)).trans ((congrFun (Attn.V5_eq m c).symm _).trans (V5_main_arg4 m (Attn.outs m) c)),
    (h c (Proc.devRef .tc main_arg5) (Finset.mem_filter.mpr ⟨StableHlo.devRef_mem_tcRefs main_arg5, by decide⟩)).trans ((congrFun (Attn.V5_eq m c).symm _).trans (V5_main_arg5 m (Attn.outs m) c)),
    (h c (Proc.devRef .tc main_arg6) (Finset.mem_filter.mpr ⟨StableHlo.devRef_mem_tcRefs main_arg6, by decide⟩)).trans ((congrFun (Attn.V5_eq m c).symm _).trans (V5_main_arg6 m (Attn.outs m) c)),
    (h c (Proc.devRef .tc main_arg7) (Finset.mem_filter.mpr ⟨StableHlo.devRef_mem_tcRefs main_arg7, by decide⟩)).trans ((congrFun (Attn.V5_eq m c).symm _).trans (V5_main_arg7 m (Attn.outs m) c)),
    (h c (Proc.devRef .tc main_arg8) (Finset.mem_filter.mpr ⟨StableHlo.devRef_mem_tcRefs main_arg8, by decide⟩)).trans ((congrFun (Attn.V5_eq m c).symm _).trans (V5_main_arg8 m (Attn.outs m) c)),
    (h c (Proc.devRef .tc main_arg9) (Finset.mem_filter.mpr ⟨StableHlo.devRef_mem_tcRefs main_arg9, by decide⟩)).trans ((congrFun (Attn.V5_eq m c).symm _).trans (V5_main_arg9 m (Attn.outs m) c))⟩, hz⟩) (Attn.run_main m ρ)

open Cert.Proof.KernelIdeal.Attn in
/-- The kernel ends with its seven results in the buffers of the last stage and all arguments unchanged. -/
theorem values (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v13) = W5 m c (Proc.devRef .tc main_v13)
      ∧ r.2.mem ((c.tc : Thread nD τ).loc main_v11_2) = W5 m c (Proc.devRef .tc main_v11_2)
      ∧ r.2.mem ((c.tc : Thread nD τ).loc main_v11_3) = W5 m c (Proc.devRef .tc main_v11_3)
      ∧ r.2.mem ((c.tc : Thread nD τ).loc main_v11_4) = W5 m c (Proc.devRef .tc main_v11_4)
      ∧ r.2.mem ((c.tc : Thread nD τ).loc main_v11_5) = W5 m c (Proc.devRef .tc main_v11_5)
      ∧ r.2.mem ((c.tc : Thread nD τ).loc main_v11_6) = W5 m c (Proc.devRef .tc main_v11_6)
      ∧ r.2.mem ((c.tc : Thread nD τ).loc main_v11_7) = W5 m c (Proc.devRef .tc main_v11_7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r ⟨h, _⟩ c => ⟨
    (h c (Proc.devRef .tc main_v13) (Finset.mem_filter.mpr ⟨StableHlo.devRef_mem_tcRefs main_v13, by decide⟩)),
    (h c (Proc.devRef .tc main_v11_2) (Finset.mem_filter.mpr ⟨StableHlo.devRef_mem_tcRefs main_v11_2, by decide⟩)),
    (h c (Proc.devRef .tc main_v11_3) (Finset.mem_filter.mpr ⟨StableHlo.devRef_mem_tcRefs main_v11_3, by decide⟩)),
    (h c (Proc.devRef .tc main_v11_4) (Finset.mem_filter.mpr ⟨StableHlo.devRef_mem_tcRefs main_v11_4, by decide⟩)),
    (h c (Proc.devRef .tc main_v11_5) (Finset.mem_filter.mpr ⟨StableHlo.devRef_mem_tcRefs main_v11_5, by decide⟩)),
    (h c (Proc.devRef .tc main_v11_6) (Finset.mem_filter.mpr ⟨StableHlo.devRef_mem_tcRefs main_v11_6, by decide⟩)),
    (h c (Proc.devRef .tc main_v11_7) (Finset.mem_filter.mpr ⟨StableHlo.devRef_mem_tcRefs main_v11_7, by decide⟩)),
    (h c (Proc.devRef .tc main_arg0) (Finset.mem_filter.mpr ⟨StableHlo.devRef_mem_tcRefs main_arg0, by decide⟩)).trans ((congrFun (Attn.V5_eq m c).symm _).trans (V5_main_arg0 m (Attn.outs m) c)),
    (h c (Proc.devRef .tc main_arg1) (Finset.mem_filter.mpr ⟨StableHlo.devRef_mem_tcRefs main_arg1, by decide⟩)).trans ((congrFun (Attn.V5_eq m c).symm _).trans (V5_main_arg1 m (Attn.outs m) c)),
    (h c (Proc.devRef .tc main_arg2) (Finset.mem_filter.mpr ⟨StableHlo.devRef_mem_tcRefs main_arg2, by decide⟩)).trans ((congrFun (Attn.V5_eq m c).symm _).trans (V5_main_arg2 m (Attn.outs m) c)),
    (h c (Proc.devRef .tc main_arg3) (Finset.mem_filter.mpr ⟨StableHlo.devRef_mem_tcRefs main_arg3, by decide⟩)).trans ((congrFun (Attn.V5_eq m c).symm _).trans (V5_main_arg3 m (Attn.outs m) c)),
    (h c (Proc.devRef .tc main_arg4) (Finset.mem_filter.mpr ⟨StableHlo.devRef_mem_tcRefs main_arg4, by decide⟩)).trans ((congrFun (Attn.V5_eq m c).symm _).trans (V5_main_arg4 m (Attn.outs m) c)),
    (h c (Proc.devRef .tc main_arg5) (Finset.mem_filter.mpr ⟨StableHlo.devRef_mem_tcRefs main_arg5, by decide⟩)).trans ((congrFun (Attn.V5_eq m c).symm _).trans (V5_main_arg5 m (Attn.outs m) c)),
    (h c (Proc.devRef .tc main_arg6) (Finset.mem_filter.mpr ⟨StableHlo.devRef_mem_tcRefs main_arg6, by decide⟩)).trans ((congrFun (Attn.V5_eq m c).symm _).trans (V5_main_arg6 m (Attn.outs m) c)),
    (h c (Proc.devRef .tc main_arg7) (Finset.mem_filter.mpr ⟨StableHlo.devRef_mem_tcRefs main_arg7, by decide⟩)).trans ((congrFun (Attn.V5_eq m c).symm _).trans (V5_main_arg7 m (Attn.outs m) c)),
    (h c (Proc.devRef .tc main_arg8) (Finset.mem_filter.mpr ⟨StableHlo.devRef_mem_tcRefs main_arg8, by decide⟩)).trans ((congrFun (Attn.V5_eq m c).symm _).trans (V5_main_arg8 m (Attn.outs m) c)),
    (h c (Proc.devRef .tc main_arg9) (Finset.mem_filter.mpr ⟨StableHlo.devRef_mem_tcRefs main_arg9, by decide⟩)).trans ((congrFun (Attn.V5_eq m c).symm _).trans (V5_main_arg9 m (Attn.outs m) c))⟩) (Attn.run_main m ρ)

end Cert.Proof.KernelIdeal

namespace Cert.Proof

open Idealize.ShloMosaic Idealize.SL.Sem

/-- The three named constants stand for `1 / log 2`, `-∞` and `1 / (8 log 2)`. -/
theorem preserves : Cert.preserves_Kernel_KernelIdeal :=
  ⟨IdealRules.named_const.statement _ _ _ _ _ (by rfl), IdealRules.named_const.statement _ _ _ _ _ (by rfl),
    IdealRules.named_const.statement _ _ _ _ _ (by rfl)⟩

/-- The reference runs to the end with all arguments unchanged; it declares no semaphore. -/
theorem frame_reference : Cert.quiescent_ReferenceIdeal := by
  intro m ρ _
  exact (θ_run Cert.ReferenceIdeal.defs _ _).mono (fun r h => ⟨fun c => (h c).2.2.2.2.2.2.2,
      Idealize.ShloMosaic.sem_eq_zero_of_no_sems (by decide) r.2⟩)
    (Cert.ReferenceIdeal.Value.run (F := Ideal) m ρ)

open Cert.Proof.KernelIdeal.Attn Cert.Proof.Ref Cert.Proof.Equal in
/-- From finite inputs the kernel and the reference end with the same seven arrays. -/
theorem algebraic (hF : Cert.Pre_finite.Facts) : Cert.algebraic_KernelIdeal_ReferenceIdeal_pre_finite (hPre_finite := hF) := by
  intro m g m' g' hpre hargs
  have S : ∀ c, Same m c (StableHlo.launchContents m' c) := fun c => by
    obtain ⟨h0, h1, h2, h3, h4, h5, h6, h7, h8, h9⟩ := hargs c
    exact ⟨h0, h1, h2, h3, h4, h5, h6, h7, h8, h9⟩
  have R : ∀ c, Reals m c := fun c => by
    obtain ⟨h0, h1, h2, h3, h4, h5, h6, h7⟩ := Finite.of_fn _ _ _ _ _ _ _ _ _ _ (fun a => a.elim0) (congrFun (hpre c) _)
    exact ⟨h0, h1, h2, h3, h4, h5, h6, h7⟩
  refine ⟨fun c => W5 m c (Proc.devRef .tc Cert.KernelIdeal.main_v13), fun c => W5 m c (Proc.devRef .tc Cert.KernelIdeal.main_v11_2), fun c => W5 m c (Proc.devRef .tc Cert.KernelIdeal.main_v11_3), fun c => W5 m c (Proc.devRef .tc Cert.KernelIdeal.main_v11_4), fun c => W5 m c (Proc.devRef .tc Cert.KernelIdeal.main_v11_5), fun c => W5 m c (Proc.devRef .tc Cert.KernelIdeal.main_v11_6), fun c => W5 m c (Proc.devRef .tc Cert.KernelIdeal.main_v11_7),
    KernelIdeal.values m g, ?_⟩
  refine (θ_run Cert.ReferenceIdeal.defs _ _).mono (fun r h c => ?_) (Cert.ReferenceIdeal.Value.run (F := Ideal) m' g')
  obtain ⟨h1, h2, h3, h4, h5, h6, h7, hrest⟩ := h c
  refine ⟨h1.trans ?_, h2.trans ?_, h3.trans ?_, h4.trans ?_, h5.trans ?_, h6.trans ?_, h7.trans ?_, hrest⟩
  · exact Equal.a112 (S c) (R c)
  · exact Equal.a113 (S c)
  · exact Equal.a114 (S c)
  · exact Equal.a115 (S c)
  · exact Equal.a129 (S c)
  · exact Equal.a130 (S c)
  · exact Equal.a131 (S c)

/-- The feed-forward reference runs to the end with all arguments unchanged; it declares no semaphore. -/
theorem frame_reference2 : Cert.quiescent_Reference2Ideal := by
  intro m ρ _
  exact (θ_run Cert.Reference2Ideal.defs _ _).mono (fun r h => ⟨fun c => (h c).2,
      Idealize.ShloMosaic.sem_eq_zero_of_no_sems (by decide) r.2⟩)
    (Cert.Reference2Ideal.Value.run (F := Ideal) m ρ)

/-- The feed-forward call and the reference's lines end with the same array, whatever the arguments. -/
theorem algebraic2 : Cert.algebraic_Kernel2Ideal_Reference2Ideal := by
  intro m g m' g' _ hargs
  refine ⟨fun c => (Cert.Kernel2Ideal.Gen.dats m 0 c).arrAt 5 Cert.Kernel2Ideal.cfg0.N, Cert.Kernel2Ideal.Value.run_blocks m g, ?_⟩
  refine (θ_run Cert.Reference2Ideal.defs _ _).mono (fun r h c => ?_) (Cert.Reference2Ideal.Value.run (F := Ideal) m' g')
  obtain ⟨h1, hrest⟩ := h c
  obtain ⟨a0, a1, a2, a3, a4⟩ := hargs c
  exact ⟨h1.trans (Ffn.equal m m' c a0 a1 a2 a3 a4), hrest⟩

/-- The merge's reference runs to the end with all arguments unchanged; it declares no semaphore. -/
theorem frame_reference3 : Cert.quiescent_Reference3Ideal := by
  intro m ρ _
  exact (θ_run Cert.Reference3Ideal.defs _ _).mono (fun r h => ⟨fun c => (h c).2,
      Idealize.ShloMosaic.sem_eq_zero_of_no_sems (by decide) r.2⟩)
    (Cert.Reference3Ideal.Value.run (F := Ideal) m ρ)

/-- The merge call and the reference's lines end with the same array, whatever the arguments. -/
theorem algebraic3 : Cert.algebraic_Kernel3Ideal_Reference3Ideal := by
  intro m g m' g' _ hargs
  refine ⟨fun c => (Cert.Kernel3Ideal.Gen.dats m 0 c).arrAt 12 Cert.Kernel3Ideal.cfg0.N, Cert.Kernel3Ideal.Value.run_blocks m g, ?_⟩
  refine (θ_run Cert.Reference3Ideal.defs _ _).mono (fun r h c => ?_) (Cert.Reference3Ideal.Value.run (F := Ideal) m' g')
  obtain ⟨h1, hrest⟩ := h c
  obtain ⟨a0, a1, a2, a3, a4, a5, a6, a7, a8, a9, a10, a11⟩ := hargs c
  exact ⟨h1.trans (Mix.equal m m' c a0 a1 a2 a3 a4 a5 a6 a7 a8 a9 a10 a11), hrest⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Finite.facts,
  ⟨fun m g _ => Kernel.frame m g, fun m g _ => KernelIdeal.frame m g, fun m g _ => KernelIdeal.frame m g, frame_reference, fun m g _ => frame_reference m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, frame_reference3,
    preserves, algebraic _, trivial, algebraic2, trivial, algebraic3⟩⟩

end Cert.Proof

end
